-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 8192, 8, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 8192, 8, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn_part1 {F : FTy → Type} [FloatOps F] (main_arg2 : FVec F S2x512x8x64 .f32) (main_v12 : IVec S_ 1) (main_v14 : IVec S2x512x8x64 1) (main_v15 : FVec F S2x512x8x64 .f32) : IVec S_ 1 :=
  let main_v16 : IVec S2x512x8x64 1 := cmpf .olt main_arg2 main_v15
  let main_v17 : IVec S2x512x8x64 1 := andi main_v14 main_v16
  let main_c_6 : IVec S_ 1 := constantI S_ 1 1#1
  let main_v18 : IVec S_ 1 := (fun x v => Host.reduce IntOp.andi x v reducesTo_S2x512x8x64_S_d0_1_2_3 h_S_) main_v17 main_c_6
  let main_v19 : IVec S_ 1 := andi main_v12 main_v18
  main_v19

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S_ 1 :=
  let main_cst : FVec F S_ .f32 := constant S_ .f32 0xFF800000#32
  let main_v0 : FVec F S2x512x768 .f32 := broadcastInDim S2x512x768 ![] bcast_S_S2x512x768 main_cst
  let main_v1 : IVec S2x512x768 1 := cmpf .ogt main_arg0 main_v0
  let main_cst_0 : FVec F S_ .f32 := constant S_ .f32 0x7F800000#32
  let main_v2 : FVec F S2x512x768 .f32 := broadcastInDim S2x512x768 ![] bcast_S_S2x512x768 main_cst_0
  let main_v3 : IVec S2x512x768 1 := cmpf .olt main_arg0 main_v2
  let main_v4 : IVec S2x512x768 1 := andi main_v1 main_v3
  let main_c : IVec S_ 1 := constantI S_ 1 1#1
  let main_v5 : IVec S_ 1 := (fun x v => Host.reduce IntOp.andi x v reducesTo_S2x512x768_S_d0_1_2 h_S_) main_v4 main_c
  let main_cst_1 : FVec F S_ .f32 := constant S_ .f32 0xFF800000#32
  let main_v6 : FVec F S768x512 .f32 := broadcastInDim S768x512 ![] bcast_S_S768x512 main_cst_1
  let main_v7 : IVec S768x512 1 := cmpf .ogt main_arg1 main_v6
  let main_cst_2 : FVec F S_ .f32 := constant S_ .f32 0x7F800000#32
  let main_v8 : FVec F S768x512 .f32 := broadcastInDim S768x512 ![] bcast_S_S768x512 main_cst_2
  let main_v9 : IVec S768x512 1 := cmpf .olt main_arg1 main_v8
  let main_v10 : IVec S768x512 1 := andi main_v7 main_v9
  let main_c_3 : IVec S_ 1 := constantI S_ 1 1#1
  let main_v11 : IVec S_ 1 := (fun x v => Host.reduce IntOp.andi x v reducesTo_S768x512_S_d0_1 h_S_) main_v10 main_c_3
  let main_v12 : IVec S_ 1 := andi main_v5 main_v11
  let main_cst_4 : FVec F S_ .f32 := constant S_ .f32 0xFF800000#32
  let main_v13 : FVec F S2x512x8x64 .f32 := broadcastInDim S2x512x8x64 ![] bcast_S_S2x512x8x64 main_cst_4
  let main_v14 : IVec S2x512x8x64 1 := cmpf .ogt main_arg2 main_v13
  let main_cst_5 : FVec F S_ .f32 := constant S_ .f32 0x7F800000#32
  let main_v15 : FVec F S2x512x8x64 .f32 := broadcastInDim S2x512x8x64 ![] bcast_S_S2x512x8x64 main_cst_5
  fn_part1 (F := F) main_arg2 main_v12 main_v14 main_v15
-- ==== Pre_finite_scores_ReferenceIdeal.lean ====
abbrev S2x512x768 : Shape := ⟨3, ![2, 512, 768]⟩
abbrev S768x512 : Shape := ⟨2, ![768, 512]⟩
abbrev S2x8192x8x64 : Shape := ⟨4, ![2, 8192, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_

variable [Facts]

def fn_part1 {F : FTy → Type} [FloatOps F] (main_arg2 : FVec F S2x8192x8x64 .f32) (main_v12 : IVec S_ 1) (main_v14 : IVec S2x8192x8x64 1) (main_v15 : FVec F S2x8192x8x64 .f32) : IVec S_ 1 :=
  let main_v16 : IVec S2x8192x8x64 1 := cmpf .olt main_arg2 main_v15
  let main_v17 : IVec S2x8192x8x64 1 := andi main_v14 main_v16
  let main_c_6 : IVec S_ 1 := constantI S_ 1 1#1
  let main_v18 : IVec S_ 1 := (fun x v => Host.reduce IntOp.andi x v reducesTo_S2x8192x8x64_S_d0_1_2_3 h_S_) main_v17 main_c_6
  let main_v19 : IVec S_ 1 := andi main_v12 main_v18
  main_v19

def fn {F : FTy → Type} [FloatOps F] (main_arg0 : FVec F S2x512x768 .f32) (main_arg1 : FVec F S768x512 .f32) (main_arg2 : FVec F S2x8192x8x64 .f32) (main_arg3 : FVec F S2x8192x8x64 .f32) (main_arg4 : FVec F S512x768 .f32) : IVec S_ 1 :=
  let main_cst : FVec F S_ .f32 := constant S_ .f32 0xFF800000#32
  let main_v0 : FVec F S2x512x768 .f32 := broadcastInDim S2x512x768 ![] bcast_S_S2x512x768 main_cst
  let main_v1 : IVec S2x512x768 1 := cmpf .ogt main_arg0 main_v0
  let main_cst_0 : FVec F S_ .f32 := constant S_ .f32 0x7F800000#32
  let main_v2 : FVec F S2x512x768 .f32 := broadcastInDim S2x512x768 ![] bcast_S_S2x512x768 main_cst_0
  let main_v3 : IVec S2x512x768 1 := cmpf .olt main_arg0 main_v2
  let main_v4 : IVec S2x512x768 1 := andi main_v1 main_v3
  let main_c : IVec S_ 1 := constantI S_ 1 1#1
  let main_v5 : IVec S_ 1 := (fun x v => Host.reduce IntOp.andi x v reducesTo_S2x512x768_S_d0_1_2 h_S_) main_v4 main_c
  let main_cst_1 : FVec F S_ .f32 := constant S_ .f32 0xFF800000#32
  let main_v6 : FVec F S768x512 .f32 := broadcastInDim S768x512 ![] bcast_S_S768x512 main_cst_1
  let main_v7 : IVec S768x512 1 := cmpf .ogt main_arg1 main_v6
  let main_cst_2 : FVec F S_ .f32 := constant S_ .f32 0x7F800000#32
  let main_v8 : FVec F S768x512 .f32 := broadcastInDim S768x512 ![] bcast_S_S768x512 main_cst_2
  let main_v9 : IVec S768x512 1 := cmpf .olt main_arg1 main_v8
  let main_v10 : IVec S768x512 1 := andi main_v7 main_v9
  let main_c_3 : IVec S_ 1 := constantI S_ 1 1#1
  let main_v11 : IVec S_ 1 := (fun x v => Host.reduce IntOp.andi x v reducesTo_S768x512_S_d0_1 h_S_) main_v10 main_c_3
  let main_v12 : IVec S_ 1 := andi main_v5 main_v11
  let main_cst_4 : FVec F S_ .f32 := constant S_ .f32 0xFF800000#32
  let main_v13 : FVec F S2x8192x8x64 .f32 := broadcastInDim S2x8192x8x64 ![] bcast_S_S2x8192x8x64 main_cst_4
  let main_v14 : IVec S2x8192x8x64 1 := cmpf .ogt main_arg2 main_v13
  let main_cst_5 : FVec F S_ .f32 := constant S_ .f32 0x7F800000#32
  let main_v15 : FVec F S2x8192x8x64 .f32 := broadcastInDim S2x8192x8x64 ![] bcast_S_S2x8192x8x64 main_cst_5
  fn_part1 (F := F) main_arg2 main_v12 main_v14 main_v15
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S1024x640 : Shape := ⟨2, ![1024, 640]⟩
abbrev S512x640 : Shape := ⟨2, ![512, 640]⟩
abbrev S960x640 : Shape := ⟨2, ![960, 640]⟩
abbrev S512x512 : Shape := ⟨2, ![512, 512]⟩
abbrev S960x512 : Shape := ⟨2, ![960, 512]⟩
abbrev S8 : Shape := ⟨1, ![8]⟩
abbrev S_ : Shape := ⟨0, ![]⟩
abbrev S1x512x768 : Shape := ⟨3, ![1, 512, 768]⟩
abbrev S512x64 : Shape := ⟨2, ![512, 64]⟩
abbrev S1x512x1x64 : Shape := ⟨4, ![1, 512, 1, 64]⟩
abbrev S1x512x64 : Shape := ⟨3, ![1, 512, 64]⟩
abbrev S512 : Shape := ⟨1, ![512]⟩
abbrev S512x1 : Shape := ⟨2, ![512, 1]⟩
abbrev S1 : Shape := ⟨1, ![1]⟩
abbrev S256x640 : Shape := ⟨2, ![256, 640]⟩
abbrev S128x640 : Shape := ⟨2, ![128, 640]⟩
abbrev S64x640 : Shape := ⟨2, ![64, 640]⟩
abbrev S64x64 : Shape := ⟨2, ![64, 64]⟩
abbrev S64x1 : Shape := ⟨2, ![64, 1]⟩
abbrev S64x512 : Shape := ⟨2, ![64, 512]⟩
abbrev S128x512 : Shape := ⟨2, ![128, 512]⟩
abbrev S256x512 : Shape := ⟨2, ![256, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S1024x640, .f32⟩
  | .local _ .vmem, ⟨7, _⟩ => ⟨S512x640, .bf16⟩
  | .local _ .vmem, ⟨8, _⟩ => ⟨S960x640, .bf16⟩
  | .local _ .vmem, ⟨9, _⟩ => ⟨S512x512, .bf16⟩
  | .local _ .vmem, ⟨10, _⟩ => ⟨S960x512, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_off1 (d0 : Dev nD) : Fin 3 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let v85 : Index := Scalar.indexCast v84
  let c0_32 : Index := 0#32
  let c0_33 : Index := 0#32
  ![v85.toNat, 0, 0]
def k0_off2 (d0 : Dev nD) : Fin 4 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let v93 : Index := Scalar.indexCast v84
  let c0_37 : Index := 0#32
  let c0_38 : Index := 0#32
  let c0_39 : Index := 0#32
  ![v93.toNat, 0, 0, 0]
def k0_off3 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32 : BitVec 32 := 512#32
  let v110 : BitVec 32 := Scalar.muli v84 c512_i32
  let v111 : Index := Scalar.indexCast v110
  let c0_48 : Index := 0#32
  ![v111.toNat, 0]
def k0_off4 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_49 : BitVec 32 := 512#32
  let v115 : BitVec 32 := Scalar.muli v84 c512_i32_49
  let v116 : Index := Scalar.indexCast v115
  let c512 : Index := 512#32
  ![v116.toNat, 512]
def k0_off5 (d0 : Dev nD) : Fin 4 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let v121 : Index := Scalar.indexCast v84
  let c0_50 : Index := 0#32
  let c1 : Index := 1#32
  let c0_51 : Index := 0#32
  ![v121.toNat, 0, 1, 0]
def k0_off6 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_60 : BitVec 32 := 512#32
  let v138 : BitVec 32 := Scalar.muli v84 c512_i32_60
  let v139 : Index := Scalar.indexCast v138
  let c64 : Index := 64#32
  ![v139.toNat, 64]
def k0_off7 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_61 : BitVec 32 := 512#32
  let v143 : BitVec 32 := Scalar.muli v84 c512_i32_61
  let v144 : Index := Scalar.indexCast v143
  let c513 : Index := 513#32
  ![v144.toNat, 513]
def k0_off8 (d0 : Dev nD) : Fin 4 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let v149 : Index := Scalar.indexCast v84
  let c0_62 : Index := 0#32
  let c2 : Index := 2#32
  let c0_63 : Index := 0#32
  ![v149.toNat, 0, 2, 0]
def k0_off9 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_72 : BitVec 32 := 512#32
  let v166 : BitVec 32 := Scalar.muli v84 c512_i32_72
  let v167 : Index := Scalar.indexCast v166
  let c128 : Index := 128#32
  ![v167.toNat, 128]
def k0_off10 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_73 : BitVec 32 := 512#32
  let v171 : BitVec 32 := Scalar.muli v84 c512_i32_73
  let v172 : Index := Scalar.indexCast v171
  let c514 : Index := 514#32
  ![v172.toNat, 514]
def k0_off11 (d0 : Dev nD) : Fin 4 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let v177 : Index := Scalar.indexCast v84
  let c0_74 : Index := 0#32
  let c3 : Index := 3#32
  let c0_75 : Index := 0#32
  ![v177.toNat, 0, 3, 0]
def k0_off12 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_84 : BitVec 32 := 512#32
  let v194 : BitVec 32 := Scalar.muli v84 c512_i32_84
  let v195 : Index := Scalar.indexCast v194
  let c192 : Index := 192#32
  ![v195.toNat, 192]
def k0_off13 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_85 : BitVec 32 := 512#32
  let v199 : BitVec 32 := Scalar.muli v84 c512_i32_85
  let v200 : Index := Scalar.indexCast v199
  let c515 : Index := 515#32
  ![v200.toNat, 515]
def k0_off14 (d0 : Dev nD) : Fin 4 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let v205 : Index := Scalar.indexCast v84
  let c0_86 : Index := 0#32
  let c4 : Index := 4#32
  let c0_87 : Index := 0#32
  ![v205.toNat, 0, 4, 0]
def k0_off15 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_96 : BitVec 32 := 512#32
  let v222 : BitVec 32 := Scalar.muli v84 c512_i32_96
  let v223 : Index := Scalar.indexCast v222
  let c256 : Index := 256#32
  ![v223.toNat, 256]
def k0_off16 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_97 : BitVec 32 := 512#32
  let v227 : BitVec 32 := Scalar.muli v84 c512_i32_97
  let v228 : Index := Scalar.indexCast v227
  let c516 : Index := 516#32
  ![v228.toNat, 516]
def k0_off17 (d0 : Dev nD) : Fin 4 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let v233 : Index := Scalar.indexCast v84
  let c0_98 : Index := 0#32
  let c5 : Index := 5#32
  let c0_99 : Index := 0#32
  ![v233.toNat, 0, 5, 0]
def k0_off18 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_108 : BitVec 32 := 512#32
  let v250 : BitVec 32 := Scalar.muli v84 c512_i32_108
  let v251 : Index := Scalar.indexCast v250
  let c320 : Index := 320#32
  ![v251.toNat, 320]
def k0_off19 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_109 : BitVec 32 := 512#32
  let v255 : BitVec 32 := Scalar.muli v84 c512_i32_109
  let v256 : Index := Scalar.indexCast v255
  let c517 : Index := 517#32
  ![v256.toNat, 517]
def k0_off20 (d0 : Dev nD) : Fin 4 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let v261 : Index := Scalar.indexCast v84
  let c0_110 : Index := 0#32
  let c6 : Index := 6#32
  let c0_111 : Index := 0#32
  ![v261.toNat, 0, 6, 0]
def k0_off21 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_120 : BitVec 32 := 512#32
  let v278 : BitVec 32 := Scalar.muli v84 c512_i32_120
  let v279 : Index := Scalar.indexCast v278
  let c384 : Index := 384#32
  ![v279.toNat, 384]
def k0_off22 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_121 : BitVec 32 := 512#32
  let v283 : BitVec 32 := Scalar.muli v84 c512_i32_121
  let v284 : Index := Scalar.indexCast v283
  let c518 : Index := 518#32
  ![v284.toNat, 518]
def k0_off23 (d0 : Dev nD) : Fin 4 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let v289 : Index := Scalar.indexCast v84
  let c0_122 : Index := 0#32
  let c7 : Index := 7#32
  let c0_123 : Index := 0#32
  ![v289.toNat, 0, 7, 0]
def k0_off24 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_132 : BitVec 32 := 512#32
  let v306 : BitVec 32 := Scalar.muli v84 c512_i32_132
  let v307 : Index := Scalar.indexCast v306
  let c448 : Index := 448#32
  ![v307.toNat, 448]
def k0_off25 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v84 : BitVec 32 := Scalar.subi c1_i32_31 v83
  let c512_i32_133 : BitVec 32 := 512#32
  let v311 : BitVec 32 := Scalar.muli v84 c512_i32_133
  let v312 : Index := Scalar.indexCast v311
  let c519 : Index := 519#32
  ![v312.toNat, 519]
def k0_off26 (d0 : Dev nD) : Fin 2 → Nat :=
  let c1_i32_134 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v316 : BitVec 32 := Scalar.subi c1_i32_134 v83
  let c512_i32_135 : BitVec 32 := 512#32
  let v317 : BitVec 32 := Scalar.muli v316 c512_i32_135
  let v318 : Index := Scalar.indexCast v317
  let c0_136 : Index := 0#32
  ![v318.toNat, 0]
def k0_dev5 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v324 : BitVec 32 := Scalar.xori v2 c1_i32_139
  let c1_i32_142 : BitVec 32 := 1#32
  let v325 : BitVec 32 := Scalar.muli v324 c1_i32_142
  let v326 : BitVec 32 := Scalar.addi c0_i32_143 v325
  v326.toNat
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v333 : Index := Scalar.indexCast v83
  let c0_148 : Index := 0#32
  let c0_149 : Index := 0#32
  ![v333.toNat, 0, 0]
def k0_off28 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v341 : Index := Scalar.indexCast v83
  let c0_153 : Index := 0#32
  let c0_154 : Index := 0#32
  let c0_155 : Index := 0#32
  ![v341.toNat, 0, 0, 0]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_164 : BitVec 32 := 512#32
  let v358 : BitVec 32 := Scalar.muli v83 c512_i32_164
  let v359 : Index := Scalar.indexCast v358
  let c0_165 : Index := 0#32
  ![v359.toNat, 0]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_166 : BitVec 32 := 512#32
  let v363 : BitVec 32 := Scalar.muli v83 c512_i32_166
  let v364 : Index := Scalar.indexCast v363
  let c512_167 : Index := 512#32
  ![v364.toNat, 512]
def k0_off31 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v369 : Index := Scalar.indexCast v83
  let c0_168 : Index := 0#32
  let c1_169 : Index := 1#32
  let c0_170 : Index := 0#32
  ![v369.toNat, 0, 1, 0]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_179 : BitVec 32 := 512#32
  let v386 : BitVec 32 := Scalar.muli v83 c512_i32_179
  let v387 : Index := Scalar.indexCast v386
  let c64_180 : Index := 64#32
  ![v387.toNat, 64]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_181 : BitVec 32 := 512#32
  let v391 : BitVec 32 := Scalar.muli v83 c512_i32_181
  let v392 : Index := Scalar.indexCast v391
  let c513_182 : Index := 513#32
  ![v392.toNat, 513]
def k0_off34 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v397 : Index := Scalar.indexCast v83
  let c0_183 : Index := 0#32
  let c2_184 : Index := 2#32
  let c0_185 : Index := 0#32
  ![v397.toNat, 0, 2, 0]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_194 : BitVec 32 := 512#32
  let v414 : BitVec 32 := Scalar.muli v83 c512_i32_194
  let v415 : Index := Scalar.indexCast v414
  let c128_195 : Index := 128#32
  ![v415.toNat, 128]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_196 : BitVec 32 := 512#32
  let v419 : BitVec 32 := Scalar.muli v83 c512_i32_196
  let v420 : Index := Scalar.indexCast v419
  let c514_197 : Index := 514#32
  ![v420.toNat, 514]
def k0_off37 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v425 : Index := Scalar.indexCast v83
  let c0_198 : Index := 0#32
  let c3_199 : Index := 3#32
  let c0_200 : Index := 0#32
  ![v425.toNat, 0, 3, 0]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_209 : BitVec 32 := 512#32
  let v442 : BitVec 32 := Scalar.muli v83 c512_i32_209
  let v443 : Index := Scalar.indexCast v442
  let c192_210 : Index := 192#32
  ![v443.toNat, 192]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_211 : BitVec 32 := 512#32
  let v447 : BitVec 32 := Scalar.muli v83 c512_i32_211
  let v448 : Index := Scalar.indexCast v447
  let c515_212 : Index := 515#32
  ![v448.toNat, 515]
def k0_off40 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v453 : Index := Scalar.indexCast v83
  let c0_213 : Index := 0#32
  let c4_214 : Index := 4#32
  let c0_215 : Index := 0#32
  ![v453.toNat, 0, 4, 0]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_224 : BitVec 32 := 512#32
  let v470 : BitVec 32 := Scalar.muli v83 c512_i32_224
  let v471 : Index := Scalar.indexCast v470
  let c256_225 : Index := 256#32
  ![v471.toNat, 256]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_226 : BitVec 32 := 512#32
  let v475 : BitVec 32 := Scalar.muli v83 c512_i32_226
  let v476 : Index := Scalar.indexCast v475
  let c516_227 : Index := 516#32
  ![v476.toNat, 516]
def k0_off43 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v481 : Index := Scalar.indexCast v83
  let c0_228 : Index := 0#32
  let c5_229 : Index := 5#32
  let c0_230 : Index := 0#32
  ![v481.toNat, 0, 5, 0]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_239 : BitVec 32 := 512#32
  let v498 : BitVec 32 := Scalar.muli v83 c512_i32_239
  let v499 : Index := Scalar.indexCast v498
  let c320_240 : Index := 320#32
  ![v499.toNat, 320]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_241 : BitVec 32 := 512#32
  let v503 : BitVec 32 := Scalar.muli v83 c512_i32_241
  let v504 : Index := Scalar.indexCast v503
  let c517_242 : Index := 517#32
  ![v504.toNat, 517]
def k0_off46 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v509 : Index := Scalar.indexCast v83
  let c0_243 : Index := 0#32
  let c6_244 : Index := 6#32
  let c0_245 : Index := 0#32
  ![v509.toNat, 0, 6, 0]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_254 : BitVec 32 := 512#32
  let v526 : BitVec 32 := Scalar.muli v83 c512_i32_254
  let v527 : Index := Scalar.indexCast v526
  let c384_255 : Index := 384#32
  ![v527.toNat, 384]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_256 : BitVec 32 := 512#32
  let v531 : BitVec 32 := Scalar.muli v83 c512_i32_256
  let v532 : Index := Scalar.indexCast v531
  let c518_257 : Index := 518#32
  ![v532.toNat, 518]
def k0_off49 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v537 : Index := Scalar.indexCast v83
  let c0_258 : Index := 0#32
  let c7_259 : Index := 7#32
  let c0_260 : Index := 0#32
  ![v537.toNat, 0, 7, 0]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_269 : BitVec 32 := 512#32
  let v554 : BitVec 32 := Scalar.muli v83 c512_i32_269
  let v555 : Index := Scalar.indexCast v554
  let c448_270 : Index := 448#32
  ![v555.toNat, 448]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_271 : BitVec 32 := 512#32
  let v559 : BitVec 32 := Scalar.muli v83 c512_i32_271
  let v560 : Index := Scalar.indexCast v559
  let c519_272 : Index := 519#32
  ![v560.toNat, 519]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let v575 : Index := Scalar.indexCast v574
  let c0_289 : Index := 0#32
  ![v575.toNat, 0]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_295 : BitVec 32 := 1#32
  let c1_i32_293 : BitVec 32 := 1#32
  let v584 : BitVec 32 := Scalar.shrsi v2 c1_i32_293
  let c1_i32_294 : BitVec 32 := 1#32
  let v585 : BitVec 32 := Scalar.andi v584 c1_i32_294
  let v586 : BitVec 32 := Scalar.subi c1_i32_295 v585
  let c256_i32 : BitVec 32 := 256#32
  let v587 : BitVec 32 := Scalar.muli v586 c256_i32
  let v588 : BitVec 32 := Scalar.addi v574 v587
  let v591 : Index := Scalar.indexCast v588
  let c0_297 : Index := 0#32
  ![v591.toNat, 0]
def k0_dev6 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_300 : BitVec 32 := 2#32
  let v597 : BitVec 32 := Scalar.xori v2 c2_i32_300
  let c1_i32_303 : BitVec 32 := 1#32
  let v598 : BitVec 32 := Scalar.muli v597 c1_i32_303
  let v599 : BitVec 32 := Scalar.addi c0_i32_304 v598
  v599.toNat
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let v616 : Index := Scalar.indexCast v590
  let c0_324 : Index := 0#32
  ![v616.toNat, 0]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c1_i32_330 : BitVec 32 := 1#32
  let c2_i32_328 : BitVec 32 := 2#32
  let v625 : BitVec 32 := Scalar.shrsi v2 c2_i32_328
  let c1_i32_329 : BitVec 32 := 1#32
  let v626 : BitVec 32 := Scalar.andi v625 c1_i32_329
  let v627 : BitVec 32 := Scalar.subi c1_i32_330 v626
  let c128_i32 : BitVec 32 := 128#32
  let v628 : BitVec 32 := Scalar.muli v627 c128_i32
  let v629 : BitVec 32 := Scalar.addi v590 v628
  let v632 : Index := Scalar.indexCast v629
  let c0_332 : Index := 0#32
  ![v632.toNat, 0]
def k0_dev7 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_335 : BitVec 32 := 4#32
  let v638 : BitVec 32 := Scalar.xori v2 c4_i32_335
  let c1_i32_338 : BitVec 32 := 1#32
  let v639 : BitVec 32 := Scalar.muli v638 c1_i32_338
  let v640 : BitVec 32 := Scalar.addi c0_i32_339 v639
  v640.toNat
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let v657 : Index := Scalar.indexCast v631
  let c0_358 : Index := 0#32
  ![v657.toNat, 0]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c1_i32_363 : BitVec 32 := 1#32
  let c3_i32_361 : BitVec 32 := 3#32
  let v666 : BitVec 32 := Scalar.shrsi v2 c3_i32_361
  let c1_i32_362 : BitVec 32 := 1#32
  let v667 : BitVec 32 := Scalar.andi v666 c1_i32_362
  let v668 : BitVec 32 := Scalar.subi c1_i32_363 v667
  let c64_i32_364 : BitVec 32 := 64#32
  let v669 : BitVec 32 := Scalar.muli v668 c64_i32_364
  let v670 : BitVec 32 := Scalar.addi v631 v669
  let v673 : Index := Scalar.indexCast v670
  let c0_366 : Index := 0#32
  ![v673.toNat, 0]
def k0_dev8 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_369 : BitVec 32 := 8#32
  let v679 : BitVec 32 := Scalar.xori v2 c8_i32_369
  let c1_i32_372 : BitVec 32 := 1#32
  let v680 : BitVec 32 := Scalar.muli v679 c1_i32_372
  let v681 : BitVec 32 := Scalar.addi c0_i32_373 v680
  v681.toNat
def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v698 : Index := Scalar.indexCast v672
  let c0_392 : Index := 0#32
  ![v698.toNat, 0]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v707 : Index := Scalar.indexCast v672
  let c0_395 : Index := 0#32
  ![v707.toNat, 0]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v709 : Index := Scalar.indexCast v672
  let c512_396 : Index := 512#32
  ![v709.toNat, 512]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v717 : Index := Scalar.indexCast v672
  let c64_398 : Index := 64#32
  ![v717.toNat, 64]
def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v719 : Index := Scalar.indexCast v672
  let c513_399 : Index := 513#32
  ![v719.toNat, 513]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v727 : Index := Scalar.indexCast v672
  let c128_401 : Index := 128#32
  ![v727.toNat, 128]
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v729 : Index := Scalar.indexCast v672
  let c514_402 : Index := 514#32
  ![v729.toNat, 514]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v737 : Index := Scalar.indexCast v672
  let c192_404 : Index := 192#32
  ![v737.toNat, 192]
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v739 : Index := Scalar.indexCast v672
  let c515_405 : Index := 515#32
  ![v739.toNat, 515]
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v747 : Index := Scalar.indexCast v672
  let c256_407 : Index := 256#32
  ![v747.toNat, 256]
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v749 : Index := Scalar.indexCast v672
  let c516_408 : Index := 516#32
  ![v749.toNat, 516]
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v757 : Index := Scalar.indexCast v672
  let c320_410 : Index := 320#32
  ![v757.toNat, 320]
def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v759 : Index := Scalar.indexCast v672
  let c517_411 : Index := 517#32
  ![v759.toNat, 517]
def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v767 : Index := Scalar.indexCast v672
  let c384_413 : Index := 384#32
  ![v767.toNat, 384]
def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v769 : Index := Scalar.indexCast v672
  let c518_414 : Index := 518#32
  ![v769.toNat, 518]
def k0_off73 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v777 : Index := Scalar.indexCast v672
  let c448_416 : Index := 448#32
  ![v777.toNat, 448]
def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v779 : Index := Scalar.indexCast v672
  let c519_417 : Index := 519#32
  ![v779.toNat, 519]
def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let v789 : Index := Scalar.indexCast v672
  let c0_421 : Index := 0#32
  ![v789.toNat, 0]
def k0_dev9 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_424 : BitVec 32 := 8#32
  let v795 : BitVec 32 := Scalar.xori v2 c8_i32_424
  let c1_i32_427 : BitVec 32 := 1#32
  let v796 : BitVec 32 := Scalar.muli v795 c1_i32_427
  let v797 : BitVec 32 := Scalar.addi c0_i32_428 v796
  v797.toNat
def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let c64_i32_448 : BitVec 32 := 64#32
  let v814 : BitVec 32 := Scalar.addi v672 c64_i32_448
  let c2_i32_449 : BitVec 32 := 2#32
  let c3_i32_419 : BitVec 32 := 3#32
  let v787 : BitVec 32 := Scalar.shrsi v2 c3_i32_419
  let c1_i32_420 : BitVec 32 := 1#32
  let v788 : BitVec 32 := Scalar.andi v787 c1_i32_420
  let v815 : BitVec 32 := Scalar.muli c2_i32_449 v788
  let c64_i32_450 : BitVec 32 := 64#32
  let v816 : BitVec 32 := Scalar.muli v815 c64_i32_450
  let v817 : BitVec 32 := Scalar.subi v814 v816
  let v820 : Index := Scalar.indexCast v817
  let c0_453 : Index := 0#32
  ![v820.toNat, 0]
def k0_off77 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let c3_i32_419 : BitVec 32 := 3#32
  let v787 : BitVec 32 := Scalar.shrsi v2 c3_i32_419
  let c1_i32_420 : BitVec 32 := 1#32
  let v788 : BitVec 32 := Scalar.andi v787 c1_i32_420
  let c64_i32_454 : BitVec 32 := 64#32
  let v824 : BitVec 32 := Scalar.muli v788 c64_i32_454
  let v825 : BitVec 32 := Scalar.subi v672 v824
  let v828 : Index := Scalar.indexCast v825
  let c0_457 : Index := 0#32
  ![v828.toNat, 0]
def k0_dev10 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_460 : BitVec 32 := 4#32
  let v834 : BitVec 32 := Scalar.xori v2 c4_i32_460
  let c1_i32_462 : BitVec 32 := 1#32
  let v835 : BitVec 32 := Scalar.muli v834 c1_i32_462
  let v836 : BitVec 32 := Scalar.addi c0_i32_463 v835
  v836.toNat
def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let c3_i32_419 : BitVec 32 := 3#32
  let v787 : BitVec 32 := Scalar.shrsi v2 c3_i32_419
  let c1_i32_420 : BitVec 32 := 1#32
  let v788 : BitVec 32 := Scalar.andi v787 c1_i32_420
  let c64_i32_454 : BitVec 32 := 64#32
  let v824 : BitVec 32 := Scalar.muli v788 c64_i32_454
  let v825 : BitVec 32 := Scalar.subi v672 v824
  let c128_i32_483 : BitVec 32 := 128#32
  let v853 : BitVec 32 := Scalar.addi v825 c128_i32_483
  let c2_i32_484 : BitVec 32 := 2#32
  let c2_i32_455 : BitVec 32 := 2#32
  let v826 : BitVec 32 := Scalar.shrsi v2 c2_i32_455
  let c1_i32_456 : BitVec 32 := 1#32
  let v827 : BitVec 32 := Scalar.andi v826 c1_i32_456
  let v854 : BitVec 32 := Scalar.muli c2_i32_484 v827
  let c128_i32_485 : BitVec 32 := 128#32
  let v855 : BitVec 32 := Scalar.muli v854 c128_i32_485
  let v856 : BitVec 32 := Scalar.subi v853 v855
  let v859 : Index := Scalar.indexCast v856
  let c0_488 : Index := 0#32
  ![v859.toNat, 0]
def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let c3_i32_419 : BitVec 32 := 3#32
  let v787 : BitVec 32 := Scalar.shrsi v2 c3_i32_419
  let c1_i32_420 : BitVec 32 := 1#32
  let v788 : BitVec 32 := Scalar.andi v787 c1_i32_420
  let c64_i32_454 : BitVec 32 := 64#32
  let v824 : BitVec 32 := Scalar.muli v788 c64_i32_454
  let v825 : BitVec 32 := Scalar.subi v672 v824
  let c2_i32_455 : BitVec 32 := 2#32
  let v826 : BitVec 32 := Scalar.shrsi v2 c2_i32_455
  let c1_i32_456 : BitVec 32 := 1#32
  let v827 : BitVec 32 := Scalar.andi v826 c1_i32_456
  let c128_i32_489 : BitVec 32 := 128#32
  let v863 : BitVec 32 := Scalar.muli v827 c128_i32_489
  let v864 : BitVec 32 := Scalar.subi v825 v863
  let v867 : Index := Scalar.indexCast v864
  let c0_492 : Index := 0#32
  ![v867.toNat, 0]
def k0_dev11 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_495 : BitVec 32 := 2#32
  let v873 : BitVec 32 := Scalar.xori v2 c2_i32_495
  let c1_i32_497 : BitVec 32 := 1#32
  let v874 : BitVec 32 := Scalar.muli v873 c1_i32_497
  let v875 : BitVec 32 := Scalar.addi c0_i32_498 v874
  v875.toNat
def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let c3_i32_419 : BitVec 32 := 3#32
  let v787 : BitVec 32 := Scalar.shrsi v2 c3_i32_419
  let c1_i32_420 : BitVec 32 := 1#32
  let v788 : BitVec 32 := Scalar.andi v787 c1_i32_420
  let c64_i32_454 : BitVec 32 := 64#32
  let v824 : BitVec 32 := Scalar.muli v788 c64_i32_454
  let v825 : BitVec 32 := Scalar.subi v672 v824
  let c2_i32_455 : BitVec 32 := 2#32
  let v826 : BitVec 32 := Scalar.shrsi v2 c2_i32_455
  let c1_i32_456 : BitVec 32 := 1#32
  let v827 : BitVec 32 := Scalar.andi v826 c1_i32_456
  let c128_i32_489 : BitVec 32 := 128#32
  let v863 : BitVec 32 := Scalar.muli v827 c128_i32_489
  let v864 : BitVec 32 := Scalar.subi v825 v863
  let c256_i32_517 : BitVec 32 := 256#32
  let v892 : BitVec 32 := Scalar.addi v864 c256_i32_517
  let c2_i32_518 : BitVec 32 := 2#32
  let c1_i32_490 : BitVec 32 := 1#32
  let v865 : BitVec 32 := Scalar.shrsi v2 c1_i32_490
  let c1_i32_491 : BitVec 32 := 1#32
  let v866 : BitVec 32 := Scalar.andi v865 c1_i32_491
  let v893 : BitVec 32 := Scalar.muli c2_i32_518 v866
  let c256_i32_519 : BitVec 32 := 256#32
  let v894 : BitVec 32 := Scalar.muli v893 c256_i32_519
  let v895 : BitVec 32 := Scalar.subi v892 v894
  let v898 : Index := Scalar.indexCast v895
  let c0_522 : Index := 0#32
  ![v898.toNat, 0]
def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let c3_i32_419 : BitVec 32 := 3#32
  let v787 : BitVec 32 := Scalar.shrsi v2 c3_i32_419
  let c1_i32_420 : BitVec 32 := 1#32
  let v788 : BitVec 32 := Scalar.andi v787 c1_i32_420
  let c64_i32_454 : BitVec 32 := 64#32
  let v824 : BitVec 32 := Scalar.muli v788 c64_i32_454
  let v825 : BitVec 32 := Scalar.subi v672 v824
  let c2_i32_455 : BitVec 32 := 2#32
  let v826 : BitVec 32 := Scalar.shrsi v2 c2_i32_455
  let c1_i32_456 : BitVec 32 := 1#32
  let v827 : BitVec 32 := Scalar.andi v826 c1_i32_456
  let c128_i32_489 : BitVec 32 := 128#32
  let v863 : BitVec 32 := Scalar.muli v827 c128_i32_489
  let v864 : BitVec 32 := Scalar.subi v825 v863
  let c1_i32_490 : BitVec 32 := 1#32
  let v865 : BitVec 32 := Scalar.shrsi v2 c1_i32_490
  let c1_i32_491 : BitVec 32 := 1#32
  let v866 : BitVec 32 := Scalar.andi v865 c1_i32_491
  let c256_i32_523 : BitVec 32 := 256#32
  let v902 : BitVec 32 := Scalar.muli v866 c256_i32_523
  let v903 : BitVec 32 := Scalar.subi v864 v902
  let v906 : Index := Scalar.indexCast v903
  let c0_526 : Index := 0#32
  ![v906.toNat, 0]
def k0_dev12 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_529 : BitVec 32 := 1#32
  let v912 : BitVec 32 := Scalar.xori v2 c1_i32_529
  let c1_i32_531 : BitVec 32 := 1#32
  let v913 : BitVec 32 := Scalar.muli v912 c1_i32_531
  let v914 : BitVec 32 := Scalar.addi c0_i32_532 v913
  v914.toNat
def k0_off82 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_536 : BitVec 32 := 512#32
  let v921 : BitVec 32 := Scalar.muli v83 c512_i32_536
  let v922 : Index := Scalar.indexCast v921
  let c0_537 : Index := 0#32
  ![v922.toNat, 0]
def k0_off83 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let c512_i32_288 : BitVec 32 := 512#32
  let v574 : BitVec 32 := Scalar.muli v83 c512_i32_288
  let c1_i32_293 : BitVec 32 := 1#32
  let v584 : BitVec 32 := Scalar.shrsi v2 c1_i32_293
  let c1_i32_294 : BitVec 32 := 1#32
  let v585 : BitVec 32 := Scalar.andi v584 c1_i32_294
  let c256_i32_296 : BitVec 32 := 256#32
  let v589 : BitVec 32 := Scalar.muli v585 c256_i32_296
  let v590 : BitVec 32 := Scalar.addi v574 v589
  let c2_i32_328 : BitVec 32 := 2#32
  let v625 : BitVec 32 := Scalar.shrsi v2 c2_i32_328
  let c1_i32_329 : BitVec 32 := 1#32
  let v626 : BitVec 32 := Scalar.andi v625 c1_i32_329
  let c128_i32_331 : BitVec 32 := 128#32
  let v630 : BitVec 32 := Scalar.muli v626 c128_i32_331
  let v631 : BitVec 32 := Scalar.addi v590 v630
  let c3_i32_361 : BitVec 32 := 3#32
  let v666 : BitVec 32 := Scalar.shrsi v2 c3_i32_361
  let c1_i32_362 : BitVec 32 := 1#32
  let v667 : BitVec 32 := Scalar.andi v666 c1_i32_362
  let c64_i32_365 : BitVec 32 := 64#32
  let v671 : BitVec 32 := Scalar.muli v667 c64_i32_365
  let v672 : BitVec 32 := Scalar.addi v631 v671
  let c3_i32_419 : BitVec 32 := 3#32
  let v787 : BitVec 32 := Scalar.shrsi v2 c3_i32_419
  let c1_i32_420 : BitVec 32 := 1#32
  let v788 : BitVec 32 := Scalar.andi v787 c1_i32_420
  let c64_i32_454 : BitVec 32 := 64#32
  let v824 : BitVec 32 := Scalar.muli v788 c64_i32_454
  let v825 : BitVec 32 := Scalar.subi v672 v824
  let c2_i32_455 : BitVec 32 := 2#32
  let v826 : BitVec 32 := Scalar.shrsi v2 c2_i32_455
  let c1_i32_456 : BitVec 32 := 1#32
  let v827 : BitVec 32 := Scalar.andi v826 c1_i32_456
  let c128_i32_489 : BitVec 32 := 128#32
  let v863 : BitVec 32 := Scalar.muli v827 c128_i32_489
  let v864 : BitVec 32 := Scalar.subi v825 v863
  let c1_i32_490 : BitVec 32 := 1#32
  let v865 : BitVec 32 := Scalar.shrsi v2 c1_i32_490
  let c1_i32_491 : BitVec 32 := 1#32
  let v866 : BitVec 32 := Scalar.andi v865 c1_i32_491
  let c256_i32_523 : BitVec 32 := 256#32
  let v902 : BitVec 32 := Scalar.muli v866 c256_i32_523
  let v903 : BitVec 32 := Scalar.subi v864 v902
  let c512_i32_558 : BitVec 32 := 512#32
  let v940 : BitVec 32 := Scalar.addi v903 c512_i32_558
  let c2_i32_559 : BitVec 32 := 2#32
  let c0_i32_524 : BitVec 32 := 0#32
  let v904 : BitVec 32 := Scalar.shrsi v2 c0_i32_524
  let c1_i32_525 : BitVec 32 := 1#32
  let v905 : BitVec 32 := Scalar.andi v904 c1_i32_525
  let v941 : BitVec 32 := Scalar.muli c2_i32_559 v905
  let c512_i32_560 : BitVec 32 := 512#32
  let v942 : BitVec 32 := Scalar.muli v941 c512_i32_560
  let v943 : BitVec 32 := Scalar.subi v940 v942
  let v946 : Index := Scalar.indexCast v943
  let c0_563 : Index := 0#32
  ![v946.toNat, 0]
def k0_off84 (d0 : Dev nD) : Fin 2 → Nat :=
  let c1_i32_564 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_30 : BitVec 32 := 1#32
  let v83 : BitVec 32 := Scalar.andi v2 c1_i32_30
  let v950 : BitVec 32 := Scalar.subi c1_i32_564 v83
  let c512_i32_565 : BitVec 32 := 512#32
  let v951 : BitVec 32 := Scalar.muli v950 c512_i32_565
  let v952 : Index := Scalar.indexCast v951
  let c0_566 : Index := 0#32
  ![v952.toNat, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x512 : Shape := ⟨2, ![768, 512]⟩
abbrev S2x8192x8x64 : Shape := ⟨4, ![2, 8192, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S8192 : Shape := ⟨1, ![8192]⟩
abbrev S1x8192 : Shape := ⟨2, ![1, 8192]⟩
abbrev S512x8192 : Shape := ⟨2, ![512, 8192]⟩
abbrev S2x8x512x8192 : Shape := ⟨4, ![2, 8, 512, 8192]⟩
abbrev S1x1x512x8192 : Shape := ⟨4, ![1, 1, 512, 8192]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 123
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x8192x8x64, .f32⟩
  | .hbm, ⟨3, _⟩ => ⟨S2x8192x8x64, .f32⟩
  | .hbm, ⟨4, _⟩ => ⟨S512x768, .f32⟩
  | .hbm, ⟨5, _⟩ => ⟨S2x512x512, .f32⟩
  | .hbm, ⟨6, _⟩ => ⟨S2x512x8x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S1x8192, .i32⟩
  | .hbm, ⟨47, _⟩ => ⟨S512x8192, .i32⟩
  | .hbm, ⟨48, _⟩ => ⟨S512x8192, .i32⟩
  | .hbm, ⟨49, _⟩ => ⟨S512x8192, .i1⟩
  | .hbm, ⟨50, _⟩ => ⟨S_, .i32⟩
  | .hbm, ⟨51, _⟩ => ⟨S1x8192, .i32⟩
  | .hbm, ⟨52, _⟩ => ⟨S1x8192, .i1⟩
  | .hbm, ⟨53, _⟩ => ⟨S512x8192, .i1⟩
  | .hbm, ⟨54, _⟩ => ⟨S512x8192, .i1⟩
  | .hbm, ⟨55, _⟩ => ⟨S512x8192, .i32⟩
  | .hbm, ⟨56, _⟩ => ⟨S512x8192, .i32⟩
  | .hbm, ⟨57, _⟩ => ⟨S512x8192, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S512x8192, .i32⟩
  | .hbm, ⟨65, _⟩ => ⟨S512x8192, .i32⟩
  | .hbm, ⟨66, _⟩ => ⟨S_, .i32⟩
  | .hbm, ⟨67, _⟩ => ⟨S512x8192, .i32⟩
  | .hbm, ⟨68, _⟩ => ⟨S512x8192, .i1⟩
  | .hbm, ⟨69, _⟩ => ⟨S_, .i32⟩
  | .hbm, ⟨70, _⟩ => ⟨S512x8192, .i32⟩
  | .hbm, ⟨71, _⟩ => ⟨S512x8192, .i1⟩
  | .hbm, ⟨72, _⟩ => ⟨S_, .i32⟩
  | .hbm, ⟨73, _⟩ => ⟨S_, .i1⟩
  | .hbm, ⟨74, _⟩ => ⟨S512x8192, .i1⟩
  | .hbm, ⟨75, _⟩ => ⟨S512x8192, .i1⟩
  | .hbm, ⟨76, _⟩ => ⟨S512x8192, .i1⟩
  | .hbm, ⟨77, _⟩ => ⟨S512x8192, .i32⟩
  | .hbm, ⟨78, _⟩ => ⟨S512x8192, .i32⟩
  | .hbm, ⟨79, _⟩ => ⟨S512x8192, .i32⟩
  | .hbm, ⟨80, _⟩ => ⟨S_, .i32⟩
  | .hbm, ⟨81, _⟩ => ⟨S512x8192, .i32⟩
  | .hbm, ⟨82, _⟩ => ⟨S512x8192, .i1⟩
  | .hbm, ⟨83, _⟩ => ⟨S512x8192, .i1⟩
  | .hbm, ⟨84, _⟩ => ⟨S2x8x512x8192, .f32⟩
  | .hbm, ⟨85, _⟩ => ⟨S_, .f32⟩
  | .hbm, ⟨86, _⟩ => ⟨S2x8x512x8192, .f32⟩
  | .hbm, ⟨87, _⟩ => ⟨S2x8x512x8192, .f32⟩
  | .hbm, ⟨88, _⟩ => ⟨S1x1x512x8192, .i1⟩
  | .hbm, ⟨89, _⟩ => ⟨S_, .f32⟩
  | .hbm, ⟨90, _⟩ => ⟨S_, .f32⟩
  | .hbm, ⟨91, _⟩ => ⟨S2x8x512x8192, .i1⟩
  | .hbm, ⟨92, _⟩ => ⟨S2x8x512x8192, .f32⟩
  | .hbm, ⟨93, _⟩ => ⟨S2x8x512x8192, .f32⟩
  | .hbm, ⟨94, _⟩ => ⟨S_, .f32⟩
  | .hbm, ⟨95, _⟩ => ⟨S2x8x512, .f32⟩
  | .hbm, ⟨96, _⟩ => ⟨S2x8x512x1, .f32⟩
  | .hbm, ⟨97, _⟩ => ⟨S2x8x512x8192, .f32⟩
  | .hbm, ⟨98, _⟩ => ⟨S2x8x512x8192, .f32⟩
  | .hbm, ⟨99, _⟩ => ⟨S2x8x512x8192, .f32⟩
  | .hbm, ⟨100, _⟩ => ⟨S_, .i1⟩
  | .hbm, ⟨101, _⟩ => ⟨S512, .i1⟩
  | .hbm, ⟨102, _⟩ => ⟨S1x1x512x1, .i1⟩
  | .hbm, ⟨103, _⟩ => ⟨S_, .f32⟩
  | .hbm, ⟨104, _⟩ => ⟨S2x8x512, .f32⟩
  | .hbm, ⟨105, _⟩ => ⟨S2x8x512x1, .f32⟩
  | .hbm, ⟨106, _⟩ => ⟨S_, .f32⟩
  | .hbm, ⟨107, _⟩ => ⟨S_, .f32⟩
  | .hbm, ⟨108, _⟩ => ⟨S2x8x512x1, .i1⟩
  | .hbm, ⟨109, _⟩ => ⟨S2x8x512x1, .f32⟩
  | .hbm, ⟨110, _⟩ => ⟨S2x8x512x1, .f32⟩
  | .hbm, ⟨111, _⟩ => ⟨S2x8x512x8192, .f32⟩
  | .hbm, ⟨112, _⟩ => ⟨S2x8x512x8192, .f32⟩
  | .hbm, ⟨113, _⟩ => ⟨S1x1x512x1, .i1⟩
  | .hbm, ⟨114, _⟩ => ⟨S_, .f32⟩
  | .hbm, ⟨115, _⟩ => ⟨S_, .f32⟩
  | .hbm, ⟨116, _⟩ => ⟨S2x8x512x8192, .i1⟩
  | .hbm, ⟨117, _⟩ => ⟨S2x8x512x8192, .f32⟩
  | .hbm, ⟨118, _⟩ => ⟨S2x8x512x8192, .f32⟩
  | .hbm, ⟨119, _⟩ => ⟨S2x8x64x512, .f32⟩
  | .hbm, ⟨120, _⟩ => ⟨S2x512x8x64, .f32⟩
  | .hbm, ⟨121, _⟩ => ⟨S2x512x512, .f32⟩
  | .hbm, ⟨122, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.KernelIdealMem.lean ====
/-
# Reading and writing a memref owned at known contents

A core that owns a memref at contents `X` loads the part of `X` its rectangle names and goes on owning `X`; a store
replaces that part of `X` (`Rect.overlay`). Both rules take the operation at the head of a sequence of statements.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a barrier cell, one for each of the four peers; the other cells use the first. -/
abbrev Duty : Type := Fin 4
/-- The launch's copy of the round algebra and the exchange's. -/
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Device `c` owns the memref `m` in full, reading `X` through it. -/
abbrev at' (c : Dev nD) {sp : Space} {s : Shape} {e : EltTy} (m : Memref sig .tc sp s e) (X : s.Idx → Elt F e) : sProp 𝕄 :=
  owns (c : Thread nD τ) m fullShare X

/-- The weakest precondition of a program on device `c`'s core. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section
variable (c : Dev nD) {cs : CoreSpace} {s : Shape} {e : EltTy} {m : Memref sig .tc cs s e} {α : Type}

theorem ld_seq {r : Rect s} {hl : m.view.LoadsAt r.toLoadRect} {k : (r.shape.Idx → Elt F e) → Prog (TpuEff nD τ sig (Elt F) Λ₀ .tc) α} :
    (Prog.lift (.load m r.toLoadRect hl) >>= k) = Prog.op (.load m r.toLoadRect hl) k := rfl

/-- The part of `X` in a rectangle. -/
def cut {s : Shape} {T : Type} (r : Rect s) (X : s.Idx → T) : r.shape.Idx → T := fun i => X (r.emb i)

/-- A load of a rectangle. -/
theorem ld {Q : α → sProp 𝕄} {r : Rect s} {hl : m.view.LoadsAt r.toLoadRect} {k : (r.shape.Idx → Elt F e) → Prog (TpuEff nD τ sig (Elt F) Λ₀ .tc) α}
    {X : s.Idx → Elt F e} :
    at' c m X ⊢ iprop((at' c m X -∗ run c (k (cut r X)) Q) -∗ run c (Prog.lift (.load m r.toLoadRect hl) >>= k) Q) := by
  have h0 : at' (F := F) c m X ⊢ iprop(∃ g, ⌜m.view.read (Elt F) g = X⌝ ∗ m.view.loc (c : Thread nD τ) ↦[m.view.set]{fullShare} g) := .rfl
  iintro H Hk
  ihave H' := h0 $$ H
  icases H' with ⟨%g, %hg, H⟩
  rw [ld_seq]
  iapply (wp_load 𝒱₀ (c : Thread nD τ) none Set.univ (m := m) (r := r.toLoadRect) (by rw [View.set]; exact Finset.map_subset_map.2 (Finset.subset_univ _))) $$ H
  iintro H
  subst hg
  iapply Hk
  iapply (owns_intro (c : Thread nD τ) m fullShare g)
  iexact H

/-- A load of a rectangle of which that rectangle's slice is owned. -/
theorem ldSlice {Q : α → sProp 𝕄} {r : Rect s} {hr : ∀ a, r.stride a = 1} {hl : m.view.LoadsAt r.toLoadRect}
    {k : (r.shape.Idx → Elt F e) → Prog (TpuEff nD τ sig (Elt F) Λ₀ .tc) α} {w : r.shape.Idx → Elt F e} :
    at' c (m.slice r hr) w ⊢ iprop((at' c (m.slice r hr) w -∗ run c (k w) Q) -∗ run c (Prog.lift (.load m r.toLoadRect hl) >>= k) Q) := by
  have h0 : at' (F := F) c (m.slice r hr) w ⊢ iprop(∃ g, ⌜(m.access r).read (Elt F) g = w⌝ ∗ (m.access r).loc (c : Thread nD τ) ↦[(m.access r).set]{fullShare} g) := .rfl
  iintro H Hk
  ihave H' := h0 $$ H
  icases H' with ⟨%g, %hg, H⟩
  rw [ld_seq]
  iapply (wp_load_rect 𝒱₀ (c : Thread nD τ) none Set.univ (m := m) (r := r) (Finset.Subset.refl _)) $$ H
  iintro H
  subst hg
  iapply Hk
  iapply (owns_intro (c : Thread nD τ) (m.slice r hr) fullShare g)
  iexact H

/-- What a memref reads after a store through one of its rectangles. -/
theorem read_store (m : Memref sig .tc cs s e) (r : Rect s) (g : m.view.ty.Contents (Elt F)) (w : r.shape.Idx → Elt F e) :
    m.view.read (Elt F) ((m.access r).write (Elt F) g w Finset.univ) = r.overlay (m.view.read (Elt F) g) w := by
  funext j
  by_cases hj : j ∈ r.set
  · obtain ⟨i, rfl⟩ := r.exists_idx_of_mem hj
    change m.view.read (Elt F) ((m.view.slice r).write (Elt F) g w Finset.univ) (r.emb i) = _
    rw [View.read_slice_write_emb (v := m.view) (Val := Elt F) r g w (Finset.mem_univ i)]
    exact (Rect.overlay_emb r _ _ i).symm
  · change m.view.read (Elt F) ((m.view.slice r).write (Elt F) g w Finset.univ) j = _
    rw [View.read_slice_write_of_not_mem (v := m.view) (Val := Elt F) r g w Finset.univ (by rw [Rect.map_emb_univ]; exact hj)]
    exact (Rect.overlay_of_not_mem r _ _ hj).symm

theorem st_seq {r : Rect s} {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} :
    (Prog.lift (.store m r w Finset.univ hx hm) >>= k) = Prog.op (.store m r w Finset.univ hx hm) k := rfl

/-- A store to a rectangle. -/
theorem st {Q : α → sProp 𝕄} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} {X : s.Idx → Elt F e} :
    at' c m X ⊢ iprop((at' c m (r.overlay X w) -∗ run c (k ⟨⟩) Q) -∗ run c (Prog.lift (.store m r w Finset.univ hx hm) >>= k) Q) := by
  have h0 : at' (F := F) c m X ⊢ iprop(∃ g, ⌜m.view.read (Elt F) g = X⌝ ∗ m.view.loc (c : Thread nD τ) ↦[m.view.set]{fullShare} g) := .rfl
  iintro H Hk
  ihave H' := h0 $$ H
  icases H' with ⟨%g, %hg, H⟩
  rw [st_seq]
  iapply (wp_store 𝒱₀ (c : Thread nD τ) none Set.univ (m := m) (r := r) (m.view.set_slice_subset r)) $$ H
  iintro H
  subst hg
  iapply Hk
  rw [← read_store]
  iapply (owns_intro (c : Thread nD τ) m fullShare ((m.access r).write (Elt F) g w Finset.univ))
  iexact H

/-- A sequence of two programs: the second's precondition is the first's postcondition. -/
theorem run_bind {β : Type} {Q : β → sProp 𝕄} (p : Prog (TpuEff nD τ sig (Elt F) Λ₀ .tc) α) (k : α → Prog (TpuEff nD τ sig (Elt F) Λ₀ .tc) β) :
    run c p (fun x => run c (k x) Q) ⊢ run c (p >>= k) Q :=
  Entails.of_eq (wp_bind _ _ _ _ _ _).symm

/-- A program that only returns. -/
theorem run_ret {Q : α → sProp 𝕄} (x : α) : Q x ⊢ run c (pure x : Prog (TpuEff nD τ sig (Elt F) Λ₀ .tc) α) Q :=
  le_wp_ret _ _ _ _ _

/-- The program learns the number of its own device. -/
theorem devId {Q : α → sProp 𝕄} {k : Dev nD → Prog (TpuEff nD τ sig (Elt F) Λ₀ .tc) α} :
    run c (k c) Q ⊢ run c (Prog.lift .deviceId >>= k) Q := by
  change _ ⊢ run c (Prog.op .deviceId k) Q
  unfold run
  rw [wp_deviceId]

end

end Cert.KernelIdealProof

end

end
-- ==== Proof.KernelIdealContents.lean ====
/-
# What the buffers hold, step by step

The body of device `c` reads its inputs, fills the accumulator, and exchanges rows of it with four peers. This module
names every intermediate value in program order: `accN` is the accumulator after its `N`-th store, `sentN` the rows
device `c` puts in flight in exchange `N`, and what lands in exchange `N` is the peer's `sentN`.
-/
module

public import proofs.«01_k».proof.Proof.KernelIdealMem

@[expose] public section

noncomputable section

namespace Cert.KernelIdealProof

open Cert.KernelIdeal Cert.KernelIdeal.Gen
open Idealize.ShloMosaic

variable {F : FTy → Type} [FloatOps F]

/-- The five inputs as each device holds them. -/
structure Inputs (F : FTy → Type) where
  x : Dev nD → S2x512x768.Idx → Elt F .f32
  wq : Dev nD → S768x512.Idx → Elt F .f32
  k : Dev nD → S2x512x8x64.Idx → Elt F .f32
  v : Dev nD → S2x512x8x64.Idx → Elt F .f32
  wo : Dev nD → S512x768.Idx → Elt F .f32

set_option backward.proofsInPublic true in
/-- The device that differs from `c` in bit `b`. -/
def flip (b : Fin 4) (c : Dev nD) : Dev nD := ⟨(c.val ^^^ 2 ^ b.val) % 16, Nat.mod_lt _ (by decide)⟩

/-- The bit in which the two devices of exchange `i` differ: ascending in the four reduce-scatter exchanges, descending
in the four all-gather exchanges. -/
def bit : Fin 8 → Fin 4
  | 0 => 0 | 1 => 1 | 2 => 2 | 3 => 3 | 4 => 3 | 5 => 2 | 6 => 1 | 7 => 0

/-- The device `c` exchanges rows with in exchange `i`. -/
def peer (i : Fin 8) (c : Dev nD) : Dev nD := flip (bit i) c

/-- The value `%16` that one part of the body hands the next. -/
def val16 (I : Inputs F) (c : Dev nD) : IVec S512x512 32 :=
  iota .tc S512x512 32 [0] iota_S512x512_d0_w32

/-- The value `%17` that one part of the body hands the next. -/
def val17 (I : Inputs F) (c : Dev nD) : IVec S512x512 32 :=
  iota .tc S512x512 32 [1] iota_S512x512_d1_w32

/-- The value `%19` that one part of the body hands the next. -/
def val19 (I : Inputs F) (c : Dev nD) : IVec S512x512 32 :=
  k0_pay2

/-- The value `%26` that one part of the body hands the next. -/
def val26 (I : Inputs F) (c : Dev nD) : IVec S512x512 32 :=
  k0_pay3

/-- The value `%72` that one part of the body hands the next. -/
def val72 (I : Inputs F) (c : Dev nD) : IVec S512x512 1 :=
  k0_pay6 (Scalar.remsi (Scalar.divsi (Dev.word c) 1#32) 16#32) (val16 I c) (val17 I c) 64#32 (val19 I c) (val26 I c) (Scalar.extui (Scalar.cmpi .sgt 64#32 0#32)) 0#32

/-- The value `%75` that one part of the body hands the next. -/
def val75 (I : Inputs F) (c : Dev nD) : IVec S512x512 32 :=
  k0_pay7 (Scalar.remsi (Scalar.divsi (Dev.word c) 1#32) 16#32) (val16 I c) (val17 I c) 64#32 (val19 I c) (val26 I c) (Scalar.extui (Scalar.cmpi .sgt 64#32 0#32)) 0#32

/-- The accumulator after it is zeroed. -/
def acc0 (I : Inputs F) (c : Dev nD) : Vec F S1024x640 .f32 :=
  k0_pay9

/-- Loaded from the activations. -/
def val86 (I : Inputs F) (c : Dev nD) : Vec F S1x512x768 .f32 :=
  cut (Rect.unit (s := S2x512x768) (k0_off1 c) S1x512x768.size (k0_off1_inb c)) (I.x c)

/-- Loaded from the query weights. -/
def val89 (I : Inputs F) (c : Dev nD) : Vec F S768x512 .f32 :=
  cut (Rect.unit (s := S768x512) ![0, 0] S768x512.size inb_S768x512_S768x512_0_0) (I.wq c)

/-- Loaded from the keys. -/
def val94 (I : Inputs F) (c : Dev nD) : Vec F S1x512x1x64 .f32 :=
  cut (Rect.unit (s := S2x512x8x64) (k0_off2 c) S1x512x1x64.size (k0_off2_inb c)) (I.k c)

/-- Loaded from the values. -/
def val98 (I : Inputs F) (c : Dev nD) : Vec F S1x512x1x64 .f32 :=
  cut (Rect.unit (s := S2x512x8x64) (k0_off2 c) S1x512x1x64.size (k0_off2_inb c)) (I.v c)

/-- The value `%78` that one part of the body hands the next. -/
def val78 (I : Inputs F) (c : Dev nD) : IVec S512x512 1 :=
  k0_pay8 (val72 I c) (val75 I c) 0#32

/-- The value `%91` that one part of the body hands the next. -/
def val91 (I : Inputs F) (c : Dev nD) : FVec F S512x512 .f32 :=
  k0_pay10 (val86 I c) (val89 I c)

/-- The value `%108` that one part of the body hands the next. -/
def val108 (I : Inputs F) (c : Dev nD) : FVec F S512x1 .f32 :=
  k0_pay12 (val72 I c) (val75 I c) 0#32 (val86 I c) (val89 I c) (val94 I c)

/-- The value `%109` that one part of the body hands the next. -/
def val109 (I : Inputs F) (c : Dev nD) : FVec F S512x64 .f32 :=
  k0_pay13 (val72 I c) (val75 I c) 0#32 (val86 I c) (val89 I c) (val94 I c) (val98 I c)

/-- The accumulator after one store. -/
def acc1 (I : Inputs F) (c : Dev nD) : Vec F S1024x640 .f32 :=
  (Rect.unit (s := S1024x640) (k0_off3 c) S512x64.size (k0_off3_inb c)).overlay (acc0 I c) (k0_pay14 (val109 I c))

/-- The accumulator after 2 stores. -/
def acc2 (I : Inputs F) (c : Dev nD) : Vec F S1024x640 .f32 :=
  (Rect.unit (s := S1024x640) (k0_off4 c) S512x1.size (k0_off4_inb c)).overlay (acc1 I c) (k0_pay15 (val108 I c))

/-- Loaded from the keys. -/
def val122 (I : Inputs F) (c : Dev nD) : Vec F S1x512x1x64 .f32 :=
  cut (Rect.unit (s := S2x512x8x64) (k0_off5 c) S1x512x1x64.size (k0_off5_inb c)) (I.k c)

/-- Loaded from the values. -/
def val126 (I : Inputs F) (c : Dev nD) : Vec F S1x512x1x64 .f32 :=
  cut (Rect.unit (s := S2x512x8x64) (k0_off5 c) S1x512x1x64.size (k0_off5_inb c)) (I.v c)

/-- The accumulator after 3 stores. -/
def acc3 (I : Inputs F) (c : Dev nD) : Vec F S1024x640 .f32 :=
  (Rect.unit (s := S1024x640) (k0_off6 c) S512x64.size (k0_off6_inb c)).overlay (acc2 I c) (k0_pay17 (val78 I c) (val91 I c) (val122 I c) (val126 I c))

/-- The accumulator after 4 stores. -/
def acc4 (I : Inputs F) (c : Dev nD) : Vec F S1024x640 .f32 :=
  (Rect.unit (s := S1024x640) (k0_off7 c) S512x1.size (k0_off7_inb c)).overlay (acc3 I c) (k0_pay18 (val78 I c) (val91 I c) (val122 I c))

/-- The value `%148` that one part of the body hands the next. -/
def val148 (I : Inputs F) (c : Dev nD) : FVec F S512x64 .f32 :=
  k0_pay19 (val91 I c)

/-- Loaded from the keys. -/
def val150 (I : Inputs F) (c : Dev nD) : Vec F S1x512x1x64 .f32 :=
  cut (Rect.unit (s := S2x512x8x64) (k0_off8 c) S1x512x1x64.size (k0_off8_inb c)) (I.k c)

/-- Loaded from the values. -/
def val154 (I : Inputs F) (c : Dev nD) : Vec F S1x512x1x64 .f32 :=
  cut (Rect.unit (s := S2x512x8x64) (k0_off8 c) S1x512x1x64.size (k0_off8_inb c)) (I.v c)

/-- The accumulator after 5 stores. -/
def acc5 (I : Inputs F) (c : Dev nD) : Vec F S1024x640 .f32 :=
  (Rect.unit (s := S1024x640) (k0_off9 c) S512x64.size (k0_off9_inb c)).overlay (acc4 I c) (k0_pay21 (val78 I c) (val148 I c) (val150 I c) (val154 I c))

/-- The accumulator after 6 stores. -/
def acc6 (I : Inputs F) (c : Dev nD) : Vec F S1024x640 .f32 :=
  (Rect.unit (s := S1024x640) (k0_off10 c) S512x1.size (k0_off10_inb c)).overlay (acc5 I c) (k0_pay22 (val78 I c) (val148 I c) (val150 I c))

/-- Loaded from the keys. -/
def val178 (I : Inputs F) (c : Dev nD) : Vec F S1x512x1x64 .f32 :=
  cut (Rect.unit (s := S2x512x8x64) (k0_off11 c) S1x512x1x64.size (k0_off11_inb c)) (I.k c)

/-- Loaded from the values. -/
def val182 (I : Inputs F) (c : Dev nD) : Vec F S1x512x1x64 .f32 :=
  cut (Rect.unit (s := S2x512x8x64) (k0_off11 c) S1x512x1x64.size (k0_off11_inb c)) (I.v c)

/-- The value `%184` that one part of the body hands the next. -/
def val184 (I : Inputs F) (c : Dev nD) : FVec F S512x64 .f32 :=
  k0_pay23 (val182 I c)

/-- The value `%185` that one part of the body hands the next. -/
def val185 (I : Inputs F) (c : Dev nD) : FVec F S512x512 .f32 :=
  k0_pay24 (val91 I c) (val178 I c)

/-- The accumulator after 7 stores. -/
def acc7 (I : Inputs F) (c : Dev nD) : Vec F S1024x640 .f32 :=
  (Rect.unit (s := S1024x640) (k0_off12 c) S512x64.size (k0_off12_inb c)).overlay (acc6 I c) (k0_pay26 (val78 I c) (val184 I c) (val185 I c) (Scalar.ofBits .f32 0x3E000000#32))

/-- The accumulator after 8 stores. -/
def acc8 (I : Inputs F) (c : Dev nD) : Vec F S1024x640 .f32 :=
  (Rect.unit (s := S1024x640) (k0_off13 c) S512x1.size (k0_off13_inb c)).overlay (acc7 I c) (k0_pay27 (val78 I c) (val185 I c) (Scalar.ofBits .f32 0x3E000000#32))

/-- Loaded from the keys. -/
def val206 (I : Inputs F) (c : Dev nD) : Vec F S1x512x1x64 .f32 :=
  cut (Rect.unit (s := S2x512x8x64) (k0_off14 c) S1x512x1x64.size (k0_off14_inb c)) (I.k c)

/-- Loaded from the values. -/
def val210 (I : Inputs F) (c : Dev nD) : Vec F S1x512x1x64 .f32 :=
  cut (Rect.unit (s := S2x512x8x64) (k0_off14 c) S1x512x1x64.size (k0_off14_inb c)) (I.v c)

/-- The value `%220` that one part of the body hands the next. -/
def val220 (I : Inputs F) (c : Dev nD) : FVec F S512x1 .f32 :=
  k0_pay29 (val78 I c) (val91 I c) (val206 I c)

/-- The value `%221` that one part of the body hands the next. -/
def val221 (I : Inputs F) (c : Dev nD) : FVec F S512x64 .f32 :=
  k0_pay30 (val78 I c) (val91 I c) (val206 I c) (val210 I c)

/-- The accumulator after 9 stores. -/
def acc9 (I : Inputs F) (c : Dev nD) : Vec F S1024x640 .f32 :=
  (Rect.unit (s := S1024x640) (k0_off15 c) S512x64.size (k0_off15_inb c)).overlay (acc8 I c) (k0_pay31 (val221 I c))

/-- The accumulator after 10 stores. -/
def acc10 (I : Inputs F) (c : Dev nD) : Vec F S1024x640 .f32 :=
  (Rect.unit (s := S1024x640) (k0_off16 c) S512x1.size (k0_off16_inb c)).overlay (acc9 I c) (k0_pay32 (val220 I c))

/-- Loaded from the keys. -/
def val234 (I : Inputs F) (c : Dev nD) : Vec F S1x512x1x64 .f32 :=
  cut (Rect.unit (s := S2x512x8x64) (k0_off17 c) S1x512x1x64.size (k0_off17_inb c)) (I.k c)

/-- Loaded from the values. -/
def val238 (I : Inputs F) (c : Dev nD) : Vec F S1x512x1x64 .f32 :=
  cut (Rect.unit (s := S2x512x8x64) (k0_off17 c) S1x512x1x64.size (k0_off17_inb c)) (I.v c)

/-- The accumulator after 11 stores. -/
def acc11 (I : Inputs F) (c : Dev nD) : Vec F S1024x640 .f32 :=
  (Rect.unit (s := S1024x640) (k0_off18 c) S512x64.size (k0_off18_inb c)).overlay (acc10 I c) (k0_pay34 (val78 I c) (val91 I c) (val234 I c) (val238 I c))

/-- The accumulator after 12 stores. -/
def acc12 (I : Inputs F) (c : Dev nD) : Vec F S1024x640 .f32 :=
  (Rect.unit (s := S1024x640) (k0_off19 c) S512x1.size (k0_off19_inb c)).overlay (acc11 I c) (k0_pay35 (val78 I c) (val91 I c) (val234 I c))

/-- The value `%260` that one part of the body hands the next. -/
def val260 (I : Inputs F) (c : Dev nD) : FVec F S512x64 .f32 :=
  k0_pay36 (val91 I c)

/-- Loaded from the keys. -/
def val262 (I : Inputs F) (c : Dev nD) : Vec F S1x512x1x64 .f32 :=
  cut (Rect.unit (s := S2x512x8x64) (k0_off20 c) S1x512x1x64.size (k0_off20_inb c)) (I.k c)

/-- Loaded from the values. -/
def val266 (I : Inputs F) (c : Dev nD) : Vec F S1x512x1x64 .f32 :=
  cut (Rect.unit (s := S2x512x8x64) (k0_off20 c) S1x512x1x64.size (k0_off20_inb c)) (I.v c)

/-- The accumulator after 13 stores. -/
def acc13 (I : Inputs F) (c : Dev nD) : Vec F S1024x640 .f32 :=
  (Rect.unit (s := S1024x640) (k0_off21 c) S512x64.size (k0_off21_inb c)).overlay (acc12 I c) (k0_pay38 (val78 I c) (val260 I c) (val262 I c) (val266 I c))

/-- The accumulator after 14 stores. -/
def acc14 (I : Inputs F) (c : Dev nD) : Vec F S1024x640 .f32 :=
  (Rect.unit (s := S1024x640) (k0_off22 c) S512x1.size (k0_off22_inb c)).overlay (acc13 I c) (k0_pay39 (val78 I c) (val260 I c) (val262 I c))

/-- Loaded from the keys. -/
def val290 (I : Inputs F) (c : Dev nD) : Vec F S1x512x1x64 .f32 :=
  cut (Rect.unit (s := S2x512x8x64) (k0_off23 c) S1x512x1x64.size (k0_off23_inb c)) (I.k c)

/-- Loaded from the values. -/
def val294 (I : Inputs F) (c : Dev nD) : Vec F S1x512x1x64 .f32 :=
  cut (Rect.unit (s := S2x512x8x64) (k0_off23 c) S1x512x1x64.size (k0_off23_inb c)) (I.v c)

/-- The value `%296` that one part of the body hands the next. -/
def val296 (I : Inputs F) (c : Dev nD) : FVec F S512x64 .f32 :=
  k0_pay40 (val294 I c)

/-- The value `%297` that one part of the body hands the next. -/
def val297 (I : Inputs F) (c : Dev nD) : FVec F S512x512 .f32 :=
  k0_pay41 (val91 I c) (val290 I c)

/-- The accumulator after 15 stores. -/
def acc15 (I : Inputs F) (c : Dev nD) : Vec F S1024x640 .f32 :=
  (Rect.unit (s := S1024x640) (k0_off24 c) S512x64.size (k0_off24_inb c)).overlay (acc14 I c) (k0_pay43 (val78 I c) (val296 I c) (val297 I c) (Scalar.ofBits .f32 0x3E000000#32))

/-- The accumulator after 16 stores. -/
def acc16 (I : Inputs F) (c : Dev nD) : Vec F S1024x640 .f32 :=
  (Rect.unit (s := S1024x640) (k0_off25 c) S512x1.size (k0_off25_inb c)).overlay (acc15 I c) (k0_pay44 (val78 I c) (val297 I c) (Scalar.ofBits .f32 0x3E000000#32))

/-- Loaded from `acc16`. -/
def val319 (I : Inputs F) (c : Dev nD) : Vec F S512x640 .f32 :=
  cut (Rect.unit (s := S1024x640) (k0_off26 c) S512x640.size (k0_off26_inb c)) (acc16 I c)

/-- The rows sent in exchange 0. -/
def sent0 (I : Inputs F) (c : Dev nD) : Vec F S512x640 .bf16 :=
  k0_pay45 (val319 I c)

/-- Loaded from the activations. -/
def val334 (I : Inputs F) (c : Dev nD) : Vec F S1x512x768 .f32 :=
  cut (Rect.unit (s := S2x512x768) (k0_off27 c) S1x512x768.size (k0_off27_inb c)) (I.x c)

/-- Loaded from the query weights. -/
def val337 (I : Inputs F) (c : Dev nD) : Vec F S768x512 .f32 :=
  cut (Rect.unit (s := S768x512) ![0, 0] S768x512.size inb_S768x512_S768x512_0_0) (I.wq c)

/-- Loaded from the keys. -/
def val342 (I : Inputs F) (c : Dev nD) : Vec F S1x512x1x64 .f32 :=
  cut (Rect.unit (s := S2x512x8x64) (k0_off28 c) S1x512x1x64.size (k0_off28_inb c)) (I.k c)

/-- Loaded from the values. -/
def val346 (I : Inputs F) (c : Dev nD) : Vec F S1x512x1x64 .f32 :=
  cut (Rect.unit (s := S2x512x8x64) (k0_off28 c) S1x512x1x64.size (k0_off28_inb c)) (I.v c)

/-- The accumulator after 17 stores. -/
def acc17 (I : Inputs F) (c : Dev nD) : Vec F S1024x640 .f32 :=
  (Rect.unit (s := S1024x640) (k0_off29 c) S512x64.size (k0_off29_inb c)).overlay (acc16 I c) (k0_pay48 (val78 I c) (val334 I c) (val337 I c) (val342 I c) (val346 I c))

/-- The accumulator after 18 stores. -/
def acc18 (I : Inputs F) (c : Dev nD) : Vec F S1024x640 .f32 :=
  (Rect.unit (s := S1024x640) (k0_off30 c) S512x1.size (k0_off30_inb c)).overlay (acc17 I c) (k0_pay49 (val78 I c) (val334 I c) (val337 I c) (val342 I c))

/-- The value `%339` that one part of the body hands the next. -/
def val339 (I : Inputs F) (c : Dev nD) : FVec F S512x512 .f32 :=
  k0_pay46 (val334 I c) (val337 I c)

/-- The value `%368` that one part of the body hands the next. -/
def val368 (I : Inputs F) (c : Dev nD) : FVec F S512x64 .f32 :=
  k0_pay50 (val334 I c) (val337 I c)

/-- Loaded from the keys. -/
def val370 (I : Inputs F) (c : Dev nD) : Vec F S1x512x1x64 .f32 :=
  cut (Rect.unit (s := S2x512x8x64) (k0_off31 c) S1x512x1x64.size (k0_off31_inb c)) (I.k c)

/-- Loaded from the values. -/
def val374 (I : Inputs F) (c : Dev nD) : Vec F S1x512x1x64 .f32 :=
  cut (Rect.unit (s := S2x512x8x64) (k0_off31 c) S1x512x1x64.size (k0_off31_inb c)) (I.v c)

/-- The accumulator after 19 stores. -/
def acc19 (I : Inputs F) (c : Dev nD) : Vec F S1024x640 .f32 :=
  (Rect.unit (s := S1024x640) (k0_off32 c) S512x64.size (k0_off32_inb c)).overlay (acc18 I c) (k0_pay52 (val78 I c) (val368 I c) (val370 I c) (val374 I c))

/-- The accumulator after 20 stores. -/
def acc20 (I : Inputs F) (c : Dev nD) : Vec F S1024x640 .f32 :=
  (Rect.unit (s := S1024x640) (k0_off33 c) S512x1.size (k0_off33_inb c)).overlay (acc19 I c) (k0_pay53 (val78 I c) (val368 I c) (val370 I c))

/-- Loaded from the keys. -/
def val398 (I : Inputs F) (c : Dev nD) : Vec F S1x512x1x64 .f32 :=
  cut (Rect.unit (s := S2x512x8x64) (k0_off34 c) S1x512x1x64.size (k0_off34_inb c)) (I.k c)

/-- Loaded from the values. -/
def val402 (I : Inputs F) (c : Dev nD) : Vec F S1x512x1x64 .f32 :=
  cut (Rect.unit (s := S2x512x8x64) (k0_off34 c) S1x512x1x64.size (k0_off34_inb c)) (I.v c)

/-- The value `%404` that one part of the body hands the next. -/
def val404 (I : Inputs F) (c : Dev nD) : FVec F S512x64 .f32 :=
  k0_pay54 (val402 I c)

/-- The value `%405` that one part of the body hands the next. -/
def val405 (I : Inputs F) (c : Dev nD) : FVec F S512x512 .f32 :=
  k0_pay55 (val339 I c) (val398 I c)

/-- The accumulator after 21 stores. -/
def acc21 (I : Inputs F) (c : Dev nD) : Vec F S1024x640 .f32 :=
  (Rect.unit (s := S1024x640) (k0_off35 c) S512x64.size (k0_off35_inb c)).overlay (acc20 I c) (k0_pay57 (val78 I c) (val404 I c) (val405 I c) (Scalar.ofBits .f32 0x3E000000#32))

/-- The accumulator after 22 stores. -/
def acc22 (I : Inputs F) (c : Dev nD) : Vec F S1024x640 .f32 :=
  (Rect.unit (s := S1024x640) (k0_off36 c) S512x1.size (k0_off36_inb c)).overlay (acc21 I c) (k0_pay58 (val78 I c) (val405 I c) (Scalar.ofBits .f32 0x3E000000#32))

/-- Loaded from the keys. -/
def val426 (I : Inputs F) (c : Dev nD) : Vec F S1x512x1x64 .f32 :=
  cut (Rect.unit (s := S2x512x8x64) (k0_off37 c) S1x512x1x64.size (k0_off37_inb c)) (I.k c)

/-- Loaded from the values. -/
def val430 (I : Inputs F) (c : Dev nD) : Vec F S1x512x1x64 .f32 :=
  cut (Rect.unit (s := S2x512x8x64) (k0_off37 c) S1x512x1x64.size (k0_off37_inb c)) (I.v c)

/-- The value `%440` that one part of the body hands the next. -/
def val440 (I : Inputs F) (c : Dev nD) : FVec F S512x1 .f32 :=
  k0_pay60 (val78 I c) (val339 I c) (val426 I c)

/-- The value `%441` that one part of the body hands the next. -/
def val441 (I : Inputs F) (c : Dev nD) : FVec F S512x64 .f32 :=
  k0_pay61 (val78 I c) (val339 I c) (val426 I c) (val430 I c)

/-- The accumulator after 23 stores. -/
def acc23 (I : Inputs F) (c : Dev nD) : Vec F S1024x640 .f32 :=
  (Rect.unit (s := S1024x640) (k0_off38 c) S512x64.size (k0_off38_inb c)).overlay (acc22 I c) (k0_pay62 (val441 I c))

/-- The accumulator after 24 stores. -/
def acc24 (I : Inputs F) (c : Dev nD) : Vec F S1024x640 .f32 :=
  (Rect.unit (s := S1024x640) (k0_off39 c) S512x1.size (k0_off39_inb c)).overlay (acc23 I c) (k0_pay63 (val440 I c))

/-- Loaded from the keys. -/
def val454 (I : Inputs F) (c : Dev nD) : Vec F S1x512x1x64 .f32 :=
  cut (Rect.unit (s := S2x512x8x64) (k0_off40 c) S1x512x1x64.size (k0_off40_inb c)) (I.k c)

/-- Loaded from the values. -/
def val458 (I : Inputs F) (c : Dev nD) : Vec F S1x512x1x64 .f32 :=
  cut (Rect.unit (s := S2x512x8x64) (k0_off40 c) S1x512x1x64.size (k0_off40_inb c)) (I.v c)

/-- The accumulator after 25 stores. -/
def acc25 (I : Inputs F) (c : Dev nD) : Vec F S1024x640 .f32 :=
  (Rect.unit (s := S1024x640) (k0_off41 c) S512x64.size (k0_off41_inb c)).overlay (acc24 I c) (k0_pay65 (val78 I c) (val339 I c) (val454 I c) (val458 I c))

/-- The accumulator after 26 stores. -/
def acc26 (I : Inputs F) (c : Dev nD) : Vec F S1024x640 .f32 :=
  (Rect.unit (s := S1024x640) (k0_off42 c) S512x1.size (k0_off42_inb c)).overlay (acc25 I c) (k0_pay66 (val78 I c) (val339 I c) (val454 I c))

/-- The value `%480` that one part of the body hands the next. -/
def val480 (I : Inputs F) (c : Dev nD) : FVec F S512x64 .f32 :=
  k0_pay67 (val339 I c)

/-- Loaded from the keys. -/
def val482 (I : Inputs F) (c : Dev nD) : Vec F S1x512x1x64 .f32 :=
  cut (Rect.unit (s := S2x512x8x64) (k0_off43 c) S1x512x1x64.size (k0_off43_inb c)) (I.k c)

/-- Loaded from the values. -/
def val486 (I : Inputs F) (c : Dev nD) : Vec F S1x512x1x64 .f32 :=
  cut (Rect.unit (s := S2x512x8x64) (k0_off43 c) S1x512x1x64.size (k0_off43_inb c)) (I.v c)

/-- The accumulator after 27 stores. -/
def acc27 (I : Inputs F) (c : Dev nD) : Vec F S1024x640 .f32 :=
  (Rect.unit (s := S1024x640) (k0_off44 c) S512x64.size (k0_off44_inb c)).overlay (acc26 I c) (k0_pay69 (val78 I c) (val480 I c) (val482 I c) (val486 I c))

/-- The accumulator after 28 stores. -/
def acc28 (I : Inputs F) (c : Dev nD) : Vec F S1024x640 .f32 :=
  (Rect.unit (s := S1024x640) (k0_off45 c) S512x1.size (k0_off45_inb c)).overlay (acc27 I c) (k0_pay70 (val78 I c) (val480 I c) (val482 I c))

/-- Loaded from the keys. -/
def val510 (I : Inputs F) (c : Dev nD) : Vec F S1x512x1x64 .f32 :=
  cut (Rect.unit (s := S2x512x8x64) (k0_off46 c) S1x512x1x64.size (k0_off46_inb c)) (I.k c)

/-- Loaded from the values. -/
def val514 (I : Inputs F) (c : Dev nD) : Vec F S1x512x1x64 .f32 :=
  cut (Rect.unit (s := S2x512x8x64) (k0_off46 c) S1x512x1x64.size (k0_off46_inb c)) (I.v c)

/-- The value `%516` that one part of the body hands the next. -/
def val516 (I : Inputs F) (c : Dev nD) : FVec F S512x64 .f32 :=
  k0_pay71 (val514 I c)

/-- The value `%517` that one part of the body hands the next. -/
def val517 (I : Inputs F) (c : Dev nD) : FVec F S512x512 .f32 :=
  k0_pay72 (val339 I c) (val510 I c)

/-- The accumulator after 29 stores. -/
def acc29 (I : Inputs F) (c : Dev nD) : Vec F S1024x640 .f32 :=
  (Rect.unit (s := S1024x640) (k0_off47 c) S512x64.size (k0_off47_inb c)).overlay (acc28 I c) (k0_pay74 (val78 I c) (val516 I c) (val517 I c) (Scalar.ofBits .f32 0x3E000000#32))

/-- The accumulator after 30 stores. -/
def acc30 (I : Inputs F) (c : Dev nD) : Vec F S1024x640 .f32 :=
  (Rect.unit (s := S1024x640) (k0_off48 c) S512x1.size (k0_off48_inb c)).overlay (acc29 I c) (k0_pay75 (val78 I c) (val517 I c) (Scalar.ofBits .f32 0x3E000000#32))

/-- Loaded from the keys. -/
def val538 (I : Inputs F) (c : Dev nD) : Vec F S1x512x1x64 .f32 :=
  cut (Rect.unit (s := S2x512x8x64) (k0_off49 c) S1x512x1x64.size (k0_off49_inb c)) (I.k c)

/-- Loaded from the values. -/
def val542 (I : Inputs F) (c : Dev nD) : Vec F S1x512x1x64 .f32 :=
  cut (Rect.unit (s := S2x512x8x64) (k0_off49 c) S1x512x1x64.size (k0_off49_inb c)) (I.v c)

/-- The value `%552` that one part of the body hands the next. -/
def val552 (I : Inputs F) (c : Dev nD) : FVec F S512x1 .f32 :=
  k0_pay77 (val78 I c) (val339 I c) (val538 I c)

/-- The value `%553` that one part of the body hands the next. -/
def val553 (I : Inputs F) (c : Dev nD) : FVec F S512x64 .f32 :=
  k0_pay78 (val78 I c) (val339 I c) (val538 I c) (val542 I c)

/-- The accumulator after 31 stores. -/
def acc31 (I : Inputs F) (c : Dev nD) : Vec F S1024x640 .f32 :=
  (Rect.unit (s := S1024x640) (k0_off50 c) S512x64.size (k0_off50_inb c)).overlay (acc30 I c) (k0_pay79 (val553 I c))

/-- The accumulator after 32 stores. -/
def acc32 (I : Inputs F) (c : Dev nD) : Vec F S1024x640 .f32 :=
  (Rect.unit (s := S1024x640) (k0_off51 c) S512x1.size (k0_off51_inb c)).overlay (acc31 I c) (k0_pay80 (val552 I c))

/-- Loaded from `acc32`. -/
def val576 (I : Inputs F) (c : Dev nD) : Vec F S512x640 .f32 :=
  cut (Rect.unit (s := S1024x640) (k0_off52 c) S512x640.size (k0_off52_inb c)) (acc32 I c)

/-- The accumulator after 33 stores. -/
def acc33 (I : Inputs F) (c : Dev nD) : Vec F S1024x640 .f32 :=
  (Rect.unit (s := S1024x640) (k0_off52 c) S512x640.size (k0_off52_inb c)).overlay (acc32 I c) (k0_pay81 (val576 I c) (sent0 I (peer 0 c)))

/-- Loaded from `acc33`. -/
def val592 (I : Inputs F) (c : Dev nD) : Vec F S256x640 .f32 :=
  cut (Rect.unit (s := S1024x640) (k0_off53 c) S256x640.size (k0_off53_inb c)) (acc33 I c)

/-- The rows sent in exchange 1. -/
def sent1 (I : Inputs F) (c : Dev nD) : Vec F S256x640 .bf16 :=
  k0_pay82 (val592 I c)

/-- Loaded from `acc33`. -/
def val617 (I : Inputs F) (c : Dev nD) : Vec F S256x640 .f32 :=
  cut (Rect.unit (s := S1024x640) (k0_off54 c) S256x640.size (k0_off54_inb c)) (acc33 I c)

/-- The accumulator after 34 stores. -/
def acc34 (I : Inputs F) (c : Dev nD) : Vec F S1024x640 .f32 :=
  (Rect.unit (s := S1024x640) (k0_off54 c) S256x640.size (k0_off54_inb c)).overlay (acc33 I c) (k0_pay83 (val617 I c) (sent1 I (peer 1 c)))

/-- Loaded from `acc34`. -/
def val633 (I : Inputs F) (c : Dev nD) : Vec F S128x640 .f32 :=
  cut (Rect.unit (s := S1024x640) (k0_off55 c) S128x640.size (k0_off55_inb c)) (acc34 I c)

/-- The rows sent in exchange 2. -/
def sent2 (I : Inputs F) (c : Dev nD) : Vec F S128x640 .bf16 :=
  k0_pay84 (val633 I c)

/-- Loaded from `acc34`. -/
def val658 (I : Inputs F) (c : Dev nD) : Vec F S128x640 .f32 :=
  cut (Rect.unit (s := S1024x640) (k0_off56 c) S128x640.size (k0_off56_inb c)) (acc34 I c)

/-- The accumulator after 35 stores. -/
def acc35 (I : Inputs F) (c : Dev nD) : Vec F S1024x640 .f32 :=
  (Rect.unit (s := S1024x640) (k0_off56 c) S128x640.size (k0_off56_inb c)).overlay (acc34 I c) (k0_pay85 (val658 I c) (sent2 I (peer 2 c)))

/-- Loaded from `acc35`. -/
def val674 (I : Inputs F) (c : Dev nD) : Vec F S64x640 .f32 :=
  cut (Rect.unit (s := S1024x640) (k0_off57 c) S64x640.size (k0_off57_inb c)) (acc35 I c)

/-- The value `%678` that one part of the body hands the next. -/
def val678 (I : Inputs F) (c : Dev nD) : FVec F S64x640 .bf16 :=
  k0_pay86 (val674 I c)

/-- The rows sent in exchange 3. -/
def sent3 (I : Inputs F) (c : Dev nD) : Vec F S64x640 .bf16 :=
  val678 I c

/-- Loaded from `acc35`. -/
def val699 (I : Inputs F) (c : Dev nD) : Vec F S64x640 .f32 :=
  cut (Rect.unit (s := S1024x640) (k0_off58 c) S64x640.size (k0_off58_inb c)) (acc35 I c)

/-- The value `%706` that one part of the body hands the next. -/
def val706 (I : Inputs F) (c : Dev nD) : FVec F S64x640 .f32 :=
  k0_pay87 (val699 I c) (sent3 I (peer 3 c))

/-- The accumulator after 36 stores. -/
def acc36 (I : Inputs F) (c : Dev nD) : Vec F S1024x640 .f32 :=
  (Rect.unit (s := S1024x640) (k0_off58 c) S64x640.size (k0_off58_inb c)).overlay (acc35 I c) (val706 I c)

/-- Loaded from `acc36`. -/
def val708 (I : Inputs F) (c : Dev nD) : Vec F S64x64 .f32 :=
  cut (Rect.unit (s := S1024x640) (k0_off59 c) S64x64.size (k0_off59_inb c)) (acc36 I c)

/-- Loaded from `acc36`. -/
def val710 (I : Inputs F) (c : Dev nD) : Vec F S64x1 .f32 :=
  cut (Rect.unit (s := S1024x640) (k0_off60 c) S64x1.size (k0_off60_inb c)) (acc36 I c)

/-- The accumulator after 37 stores. -/
def acc37 (I : Inputs F) (c : Dev nD) : Vec F S1024x640 .f32 :=
  (Rect.unit (s := S1024x640) (k0_off59 c) S64x64.size (k0_off59_inb c)).overlay (acc36 I c) (k0_pay88 (val708 I c) (val710 I c))

/-- Loaded from `acc37`. -/
def val718 (I : Inputs F) (c : Dev nD) : Vec F S64x64 .f32 :=
  cut (Rect.unit (s := S1024x640) (k0_off61 c) S64x64.size (k0_off61_inb c)) (acc37 I c)

/-- Loaded from `acc37`. -/
def val720 (I : Inputs F) (c : Dev nD) : Vec F S64x1 .f32 :=
  cut (Rect.unit (s := S1024x640) (k0_off62 c) S64x1.size (k0_off62_inb c)) (acc37 I c)

/-- The accumulator after 38 stores. -/
def acc38 (I : Inputs F) (c : Dev nD) : Vec F S1024x640 .f32 :=
  (Rect.unit (s := S1024x640) (k0_off61 c) S64x64.size (k0_off61_inb c)).overlay (acc37 I c) (k0_pay89 (val718 I c) (val720 I c))

/-- Loaded from `acc38`. -/
def val728 (I : Inputs F) (c : Dev nD) : Vec F S64x64 .f32 :=
  cut (Rect.unit (s := S1024x640) (k0_off63 c) S64x64.size (k0_off63_inb c)) (acc38 I c)

/-- Loaded from `acc38`. -/
def val730 (I : Inputs F) (c : Dev nD) : Vec F S64x1 .f32 :=
  cut (Rect.unit (s := S1024x640) (k0_off64 c) S64x1.size (k0_off64_inb c)) (acc38 I c)

/-- The accumulator after 39 stores. -/
def acc39 (I : Inputs F) (c : Dev nD) : Vec F S1024x640 .f32 :=
  (Rect.unit (s := S1024x640) (k0_off63 c) S64x64.size (k0_off63_inb c)).overlay (acc38 I c) (k0_pay90 (val728 I c) (val730 I c))

/-- Loaded from `acc39`. -/
def val738 (I : Inputs F) (c : Dev nD) : Vec F S64x64 .f32 :=
  cut (Rect.unit (s := S1024x640) (k0_off65 c) S64x64.size (k0_off65_inb c)) (acc39 I c)

/-- Loaded from `acc39`. -/
def val740 (I : Inputs F) (c : Dev nD) : Vec F S64x1 .f32 :=
  cut (Rect.unit (s := S1024x640) (k0_off66 c) S64x1.size (k0_off66_inb c)) (acc39 I c)

/-- The accumulator after 40 stores. -/
def acc40 (I : Inputs F) (c : Dev nD) : Vec F S1024x640 .f32 :=
  (Rect.unit (s := S1024x640) (k0_off65 c) S64x64.size (k0_off65_inb c)).overlay (acc39 I c) (k0_pay91 (val738 I c) (val740 I c))

/-- Loaded from `acc40`. -/
def val748 (I : Inputs F) (c : Dev nD) : Vec F S64x64 .f32 :=
  cut (Rect.unit (s := S1024x640) (k0_off67 c) S64x64.size (k0_off67_inb c)) (acc40 I c)

/-- Loaded from `acc40`. -/
def val750 (I : Inputs F) (c : Dev nD) : Vec F S64x1 .f32 :=
  cut (Rect.unit (s := S1024x640) (k0_off68 c) S64x1.size (k0_off68_inb c)) (acc40 I c)

/-- The accumulator after 41 stores. -/
def acc41 (I : Inputs F) (c : Dev nD) : Vec F S1024x640 .f32 :=
  (Rect.unit (s := S1024x640) (k0_off67 c) S64x64.size (k0_off67_inb c)).overlay (acc40 I c) (k0_pay92 (val748 I c) (val750 I c))

/-- Loaded from `acc41`. -/
def val758 (I : Inputs F) (c : Dev nD) : Vec F S64x64 .f32 :=
  cut (Rect.unit (s := S1024x640) (k0_off69 c) S64x64.size (k0_off69_inb c)) (acc41 I c)

/-- Loaded from `acc41`. -/
def val760 (I : Inputs F) (c : Dev nD) : Vec F S64x1 .f32 :=
  cut (Rect.unit (s := S1024x640) (k0_off70 c) S64x1.size (k0_off70_inb c)) (acc41 I c)

/-- The accumulator after 42 stores. -/
def acc42 (I : Inputs F) (c : Dev nD) : Vec F S1024x640 .f32 :=
  (Rect.unit (s := S1024x640) (k0_off69 c) S64x64.size (k0_off69_inb c)).overlay (acc41 I c) (k0_pay93 (val758 I c) (val760 I c))

/-- Loaded from `acc42`. -/
def val768 (I : Inputs F) (c : Dev nD) : Vec F S64x64 .f32 :=
  cut (Rect.unit (s := S1024x640) (k0_off71 c) S64x64.size (k0_off71_inb c)) (acc42 I c)

/-- Loaded from `acc42`. -/
def val770 (I : Inputs F) (c : Dev nD) : Vec F S64x1 .f32 :=
  cut (Rect.unit (s := S1024x640) (k0_off72 c) S64x1.size (k0_off72_inb c)) (acc42 I c)

/-- The accumulator after 43 stores. -/
def acc43 (I : Inputs F) (c : Dev nD) : Vec F S1024x640 .f32 :=
  (Rect.unit (s := S1024x640) (k0_off71 c) S64x64.size (k0_off71_inb c)).overlay (acc42 I c) (k0_pay94 (val768 I c) (val770 I c))

/-- Loaded from `acc43`. -/
def val778 (I : Inputs F) (c : Dev nD) : Vec F S64x64 .f32 :=
  cut (Rect.unit (s := S1024x640) (k0_off73 c) S64x64.size (k0_off73_inb c)) (acc43 I c)

/-- Loaded from `acc43`. -/
def val780 (I : Inputs F) (c : Dev nD) : Vec F S64x1 .f32 :=
  cut (Rect.unit (s := S1024x640) (k0_off74 c) S64x1.size (k0_off74_inb c)) (acc43 I c)

/-- The accumulator after 44 stores. -/
def acc44 (I : Inputs F) (c : Dev nD) : Vec F S1024x640 .f32 :=
  (Rect.unit (s := S1024x640) (k0_off73 c) S64x64.size (k0_off73_inb c)).overlay (acc43 I c) (k0_pay95 (val778 I c) (val780 I c))

/-- Loaded from `acc44`. -/
def val790 (I : Inputs F) (c : Dev nD) : Vec F S64x512 .f32 :=
  cut (Rect.unit (s := S1024x640) (k0_off75 c) S64x512.size (k0_off75_inb c)) (acc44 I c)

/-- The rows sent in exchange 4. -/
def sent4 (I : Inputs F) (c : Dev nD) : Vec F S64x512 .bf16 :=
  k0_pay96 (val790 I c)

/-- The accumulator after 45 stores. -/
def acc45 (I : Inputs F) (c : Dev nD) : Vec F S1024x640 .f32 :=
  (Rect.unit (s := S1024x640) (k0_off76 c) S64x512.size (k0_off76_inb c)).overlay (acc44 I c) (k0_pay97 (sent4 I (peer 4 c)))

/-- Loaded from `acc45`. -/
def val829 (I : Inputs F) (c : Dev nD) : Vec F S128x512 .f32 :=
  cut (Rect.unit (s := S1024x640) (k0_off77 c) S128x512.size (k0_off77_inb c)) (acc45 I c)

/-- The rows sent in exchange 5. -/
def sent5 (I : Inputs F) (c : Dev nD) : Vec F S128x512 .bf16 :=
  k0_pay98 (val829 I c)

/-- The accumulator after 46 stores. -/
def acc46 (I : Inputs F) (c : Dev nD) : Vec F S1024x640 .f32 :=
  (Rect.unit (s := S1024x640) (k0_off78 c) S128x512.size (k0_off78_inb c)).overlay (acc45 I c) (k0_pay99 (sent5 I (peer 5 c)))

/-- Loaded from `acc46`. -/
def val868 (I : Inputs F) (c : Dev nD) : Vec F S256x512 .f32 :=
  cut (Rect.unit (s := S1024x640) (k0_off79 c) S256x512.size (k0_off79_inb c)) (acc46 I c)

/-- The rows sent in exchange 6. -/
def sent6 (I : Inputs F) (c : Dev nD) : Vec F S256x512 .bf16 :=
  k0_pay100 (val868 I c)

/-- The accumulator after 47 stores. -/
def acc47 (I : Inputs F) (c : Dev nD) : Vec F S1024x640 .f32 :=
  (Rect.unit (s := S1024x640) (k0_off80 c) S256x512.size (k0_off80_inb c)).overlay (acc46 I c) (k0_pay101 (sent6 I (peer 6 c)))

/-- Loaded from `acc47`. -/
def val907 (I : Inputs F) (c : Dev nD) : Vec F S512x512 .f32 :=
  cut (Rect.unit (s := S1024x640) (k0_off81 c) S512x512.size (k0_off81_inb c)) (acc47 I c)

/-- The rows sent in exchange 7. -/
def sent7 (I : Inputs F) (c : Dev nD) : Vec F S512x512 .bf16 :=
  k0_pay102 (val907 I c)

/-- Loaded from `acc47`. -/
def val923 (I : Inputs F) (c : Dev nD) : Vec F S512x512 .f32 :=
  cut (Rect.unit (s := S1024x640) (k0_off82 c) S512x512.size (k0_off82_inb c)) (acc47 I c)

/-- Loaded from the output weights. -/
def val924 (I : Inputs F) (c : Dev nD) : Vec F S512x768 .f32 :=
  cut (Rect.unit (s := S512x768) ![0, 0] S512x768.size inb_S512x768_S512x768_0_0) (I.wo c)

/-- The accumulator after 48 stores. -/
def acc48 (I : Inputs F) (c : Dev nD) : Vec F S1024x640 .f32 :=
  (Rect.unit (s := S1024x640) (k0_off83 c) S512x512.size (k0_off83_inb c)).overlay (acc47 I c) (k0_pay104 (sent7 I (peer 7 c)))

/-- Loaded from `acc48`. -/
def val953 (I : Inputs F) (c : Dev nD) : Vec F S512x512 .f32 :=
  cut (Rect.unit (s := S1024x640) (k0_off84 c) S512x512.size (k0_off84_inb c)) (acc48 I c)

/-- Loaded from the output weights. -/
def val954 (I : Inputs F) (c : Dev nD) : Vec F S512x768 .f32 :=
  cut (Rect.unit (s := S512x768) ![0, 0] S512x768.size inb_S512x768_S512x768_0_0) (I.wo c)

end Cert.KernelIdealProof

end

end
-- ==== Proof.KernelIdealProtocol.lean ====
/-
# The exchange: cells, schedule, levels, and one rule per operation

Device `c` has one barrier cell and, for each of the eight exchanges, a send cell and a receive cell. Every cell runs a
single round. The barrier cell collects one unit from each of the four peers, and each peer hands over with its unit
the two slots of its receive buffers that `c` will write. An exchange's send cell gives the staged rows back; its
receive cell gives `c`'s slot holding the peer's rows.

Waits cannot block each other: a barrier cell stands at level 1 and the receive cell of exchange `i` at level `2 + i`,
and a device that waits at one level owes only at higher ones.
-/
module

public import proofs.«01_k».proof.Proof.KernelIdealContents

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Peers -/

theorem flip_flip (b : Fin 4) (c : Dev nD) : flip b (flip b c) = c := by revert b c; decide
theorem peer_peer (i : Fin 8) (c : Dev nD) : peer i (peer i c) = c := flip_flip _ _

theorem flip_inj (b b' : Fin 4) (c : Dev nD) (h : flip b c = flip b' c) : b = b' := by revert b b' c; decide

/-! ## Memrefs -/

abbrev xM : Memref sig .tc .vmem S2x512x768 .f32 := Memref.whole cc0_stg0_0
abbrev wqM : Memref sig .tc .vmem S768x512 .f32 := Memref.whole cc0_stg1_0
abbrev kM : Memref sig .tc .vmem S2x512x8x64 .f32 := Memref.whole cc0_stg2_0
abbrev vM : Memref sig .tc .vmem S2x512x8x64 .f32 := Memref.whole cc0_stg3_0
abbrev woM : Memref sig .tc .vmem S512x768 .f32 := Memref.whole cc0_stg4_0
abbrev outM : Memref sig .tc .vmem S2x512x768 .f32 := Memref.whole cc0_stg5_0
abbrev accM : Memref sig .tc .vmem S1024x640 .f32 := Memref.whole cc0_scratch0
abbrev rsStage : Memref sig .tc .vmem S512x640 .bf16 := Memref.whole cc0_scratch1
abbrev rsRecv : Memref sig .tc .vmem S960x640 .bf16 := Memref.whole cc0_scratch2
abbrev agStage : Memref sig .tc .vmem S512x512 .bf16 := Memref.whole cc0_scratch3
abbrev agRecv : Memref sig .tc .vmem S960x512 .bf16 := Memref.whole cc0_scratch4

/-- The shape of the rows moved in each exchange. -/
abbrev shp : Fin 8 → Shape
  | 0 => S512x640 | 1 => S256x640 | 2 => S128x640 | 3 => S64x640
  | 4 => S64x512 | 5 => S128x512 | 6 => S256x512 | 7 => S512x512

/-- Where the rows of exchange `i` land. -/
abbrev slot : (i : Fin 8) → Memref sig .tc .vmem (shp i) .bf16
  | 0 => rsRecv.slice (Rect.unit (s := S960x640) ![0, 0] S512x640.size inb_S960x640_S512x640_0_0) (fun _ => rfl)
  | 1 => rsRecv.slice (Rect.unit (s := S960x640) ![512, 0] S256x640.size inb_S960x640_S256x640_512_0) (fun _ => rfl)
  | 2 => rsRecv.slice (Rect.unit (s := S960x640) ![768, 0] S128x640.size inb_S960x640_S128x640_768_0) (fun _ => rfl)
  | 3 => rsRecv.slice (Rect.unit (s := S960x640) ![896, 0] S64x640.size inb_S960x640_S64x640_896_0) (fun _ => rfl)
  | 4 => agRecv.slice (Rect.unit (s := S960x512) ![0, 0] S64x512.size inb_S960x512_S64x512_0_0) (fun _ => rfl)
  | 5 => agRecv.slice (Rect.unit (s := S960x512) ![64, 0] S128x512.size inb_S960x512_S128x512_64_0) (fun _ => rfl)
  | 6 => agRecv.slice (Rect.unit (s := S960x512) ![192, 0] S256x512.size inb_S960x512_S256x512_192_0) (fun _ => rfl)
  | 7 => agRecv.slice (Rect.unit (s := S960x512) ![448, 0] S512x512.size inb_S960x512_S512x512_448_0) (fun _ => rfl)

/-- Where the rows of exchange `i` are staged. -/
abbrev stageSl : (i : Fin 8) → Memref sig .tc .vmem (shp i) .bf16
  | 0 => rsStage.slice (Rect.unit (s := S512x640) ![0, 0] S512x640.size inb_S512x640_S512x640_0_0) (fun _ => rfl)
  | 1 => rsStage.slice (Rect.unit (s := S512x640) ![0, 0] S256x640.size inb_S512x640_S256x640_0_0) (fun _ => rfl)
  | 2 => rsStage.slice (Rect.unit (s := S512x640) ![0, 0] S128x640.size inb_S512x640_S128x640_0_0) (fun _ => rfl)
  | 3 => rsStage.slice (Rect.unit (s := S512x640) ![0, 0] S64x640.size inb_S512x640_S64x640_0_0) (fun _ => rfl)
  | 4 => agStage.slice (Rect.unit (s := S512x512) ![0, 0] S64x512.size inb_S512x512_S64x512_0_0) (fun _ => rfl)
  | 5 => agStage.slice (Rect.unit (s := S512x512) ![0, 0] S128x512.size inb_S512x512_S128x512_0_0) (fun _ => rfl)
  | 6 => agStage.slice (Rect.unit (s := S512x512) ![0, 0] S256x512.size inb_S512x512_S256x512_0_0) (fun _ => rfl)
  | 7 => agStage.slice (Rect.unit (s := S512x512) ![0, 0] S512x512.size inb_S512x512_S512x512_0_0) (fun _ => rfl)

/-- The rows device `c` sends in exchange `i`. -/
abbrev sent (I : Inputs F) (c : Dev nD) : (i : Fin 8) → (shp i).Idx → Elt F .bf16
  | 0 => sent0 I c | 1 => sent1 I c | 2 => sent2 I c | 3 => sent3 I c
  | 4 => sent4 I c | 5 => sent5 I c | 6 => sent6 I c | 7 => sent7 I c

/-- The size of exchange `i` as its cells count it. -/
abbrev N (i : Fin 8) : ℕ := (slot i).view.dmaCredit
theorem N_pos (i : Fin 8) : 0 < N i := by
  fin_cases i <;> exact View.dmaCredit_pos _ (by decide)

/-! ## Cells -/

/-- The cells of one device: its barrier, and for each exchange the send (`false`) and receive (`true`) cells. -/
abbrev Cell : Type := Option (Bool × Fin 8)

abbrev barS : Sem sig := (SemArray.scalar (sig.barrier 0 rfl) : Sems sig S_).sem

abbrev sendSem : Fin 8 → DmaSem sig
  | 0 => ((cc0_scratch5.slice (Rect.unit (s := S8) ![0] S1.size inb_S8_S1_0)).squeeze S_ squeezes_S1_S_).sem
  | 1 => ((cc0_scratch5.slice (Rect.unit (s := S8) ![1] S1.size inb_S8_S1_1)).squeeze S_ squeezes_S1_S_).sem
  | 2 => ((cc0_scratch5.slice (Rect.unit (s := S8) ![2] S1.size inb_S8_S1_2)).squeeze S_ squeezes_S1_S_).sem
  | 3 => ((cc0_scratch5.slice (Rect.unit (s := S8) ![3] S1.size inb_S8_S1_3)).squeeze S_ squeezes_S1_S_).sem
  | 4 => ((cc0_scratch5.slice (Rect.unit (s := S8) ![4] S1.size inb_S8_S1_4)).squeeze S_ squeezes_S1_S_).sem
  | 5 => ((cc0_scratch5.slice (Rect.unit (s := S8) ![5] S1.size inb_S8_S1_5)).squeeze S_ squeezes_S1_S_).sem
  | 6 => ((cc0_scratch5.slice (Rect.unit (s := S8) ![6] S1.size inb_S8_S1_6)).squeeze S_ squeezes_S1_S_).sem
  | 7 => ((cc0_scratch5.slice (Rect.unit (s := S8) ![7] S1.size inb_S8_S1_7)).squeeze S_ squeezes_S1_S_).sem

abbrev recvSem : Fin 8 → DmaSem sig
  | 0 => ((cc0_scratch6.slice (Rect.unit (s := S8) ![0] S1.size inb_S8_S1_0)).squeeze S_ squeezes_S1_S_).sem
  | 1 => ((cc0_scratch6.slice (Rect.unit (s := S8) ![1] S1.size inb_S8_S1_1)).squeeze S_ squeezes_S1_S_).sem
  | 2 => ((cc0_scratch6.slice (Rect.unit (s := S8) ![2] S1.size inb_S8_S1_2)).squeeze S_ squeezes_S1_S_).sem
  | 3 => ((cc0_scratch6.slice (Rect.unit (s := S8) ![3] S1.size inb_S8_S1_3)).squeeze S_ squeezes_S1_S_).sem
  | 4 => ((cc0_scratch6.slice (Rect.unit (s := S8) ![4] S1.size inb_S8_S1_4)).squeeze S_ squeezes_S1_S_).sem
  | 5 => ((cc0_scratch6.slice (Rect.unit (s := S8) ![5] S1.size inb_S8_S1_5)).squeeze S_ squeezes_S1_S_).sem
  | 6 => ((cc0_scratch6.slice (Rect.unit (s := S8) ![6] S1.size inb_S8_S1_6)).squeeze S_ squeezes_S1_S_).sem
  | 7 => ((cc0_scratch6.slice (Rect.unit (s := S8) ![7] S1.size inb_S8_S1_7)).squeeze S_ squeezes_S1_S_).sem

/-- The semaphore of a cell. -/
abbrev csem : Cell → SemLoc sig
  | none => .reg barS
  | some (false, i) => .dma (sendSem i)
  | some (true, i) => .dma (recvSem i)

abbrev cellOf (c : Dev nD) (k : Cell) : GSem nD τ sig := ((c : Thread nD τ), csem k)
abbrev barC (c : Dev nD) : GSem nD τ sig := ((c : Thread nD τ), .reg barS)
abbrev sendC (i : Fin 8) (c : Dev nD) : GSem nD τ sig := ((c : Thread nD τ), .dma (sendSem i))
abbrev recvC (i : Fin 8) (c : Dev nD) : GSem nD τ sig := ((c : Thread nD τ), .dma (recvSem i))

/-- All cells of a device. -/
def cells : List Cell :=
  [none, some (false, 0), some (false, 1), some (false, 2), some (false, 3), some (false, 4), some (false, 5), some (false, 6), some (false, 7),
    some (true, 0), some (true, 1), some (true, 2), some (true, 3), some (true, 4), some (true, 5), some (true, 6), some (true, 7)]

/-- The cell a semaphore is the semaphore of. -/
def idx (s : SemLoc sig) : Option Cell := cells.find? fun k => decide (csem k = s)

theorem idx_csem (k : Cell) : idx (csem k) = some k := by revert k; decide
theorem idx_bar : idx (.reg barS) = some none := idx_csem none
theorem idx_send (i : Fin 8) : idx (.dma (sendSem i)) = some (some (false, i)) := idx_csem (some (false, i))
theorem idx_recv (i : Fin 8) : idx (.dma (recvSem i)) = some (some (true, i)) := idx_csem (some (true, i))

theorem csem_injective : Function.Injective csem := fun a b h => by
  have := idx_csem a; rw [h, idx_csem] at this; exact (Option.some.inj this).symm

/-! ## The schedule -/

/-- Device `c` owns its slot of exchange `i`, whatever it holds. -/
def slotAny (i : Fin 8) (c : Dev nD) : sProp 𝕄 := iprop(∃ X, at' (F := F) c (slot i) X)
/-- Device `c`'s slot of exchange `i` holds what the peer sent. -/
def landed (I : Inputs F) (i : Fin 8) (c : Dev nD) : sProp 𝕄 := at' c (slot i) (sent I (peer i c) i)
/-- Device `c` has its staged rows of exchange `i` back. -/
def stageBack (i : Fin 8) (c : Dev nD) : sProp 𝕄 := iprop(∃ X, at' (F := F) c (stageSl i) X)

instance slotAny_storable (i : Fin 8) (c : Dev nD) : BI.Storable (upEmb : UEmb _ 𝕄) (slotAny (F := F) i c) := by
  unfold slotAny at' owns; infer_instance
instance landed_storable (I : Inputs F) (i : Fin 8) (c : Dev nD) : BI.Storable (upEmb : UEmb _ 𝕄) (landed I i c) := by
  unfold landed at' owns; infer_instance
instance stageBack_storable (i : Fin 8) (c : Dev nD) : BI.Storable (upEmb : UEmb _ 𝕄) (stageBack (F := F) i c) := by
  unfold stageBack at' owns; infer_instance

/-- The two exchanges that bit `b` serves: an early one and a late one. -/
def early (b : Fin 4) : Fin 8 := ⟨b.val, by omega⟩
def late (b : Fin 4) : Fin 8 := ⟨7 - b.val, by omega⟩

/-- What a peer's barrier unit brings: its slots for the two exchanges of that pair. -/
def barPay (b : Fin 4) (c : Dev nD) : sProp 𝕄 := iprop(slotAny (F := F) (early b) (flip b c) ∗ slotAny (F := F) (late b) (flip b c))

instance barPay_storable (b : Fin 4) (c : Dev nD) : BI.Storable (upEmb : UEmb _ 𝕄) (barPay (F := F) b c) := by
  unfold barPay; infer_instance

/-- What a unit of a cell's round hands over. -/
def pay (I : Inputs F) (c : Dev nD) (d : Duty) : Option Cell → sProp 𝕄
  | none => iprop(emp)
  | some none => barPay d c
  | some (some (false, i)) => stageBack i c
  | some (some (true, i)) => landed I i c

instance pay_storable (I : Inputs F) (c : Dev nD) (d : Duty) (k : Option Cell) : BI.Storable (upEmb : UEmb _ 𝕄) (pay I c d k) := by
  rcases k with _ | _ | ⟨_ | _, i⟩ <;> unfold pay <;> infer_instance

def units : Option Cell → ℕ
  | some (some (_, i)) => N i
  | _ => 1

def dutySet : Option Cell → Finset Duty
  | none => ∅
  | some none => Finset.univ
  | some (some _) => {0}

def sched (I : Inputs F) : Rounds.Schedule (GSem nD τ sig) Duty 𝕄 where
  duties g r := if r = 0 ∧ g.1.2 = .tc then dutySet (idx g.2) else ∅
  unitless _ := False
  amount g _ _ := units (idx g.2)
  payload g _ d := pay I g.1.1 d (idx g.2)
  amount_pos g _ _ _ := by
    show 0 < units (idx g.2)
    rcases idx g.2 with _ | _ | ⟨_, i⟩
    · exact Nat.one_pos
    · exact Nat.one_pos
    · exact N_pos i

instance sched_storable (I : Inputs F) (g : GSem nD τ sig) (r : ℕ) (d : Duty) :
    BI.Storable (upEmb : UEmb _ 𝕄) ((sched I).payload g r d) := pay_storable I g.1.1 d (idx g.2)

section Sched
variable (I : Inputs F) (c : Dev nD) (i : Fin 8)

theorem duties_cell (k : Cell) : (sched I).duties (cellOf c k) 0 = dutySet (some k) := by
  show (if 0 = 0 ∧ (cellOf c k).1.2 = .tc then dutySet (idx (csem k)) else ∅) = _
  rw [if_pos ⟨rfl, rfl⟩, idx_csem]
theorem duties_bar : (sched I).duties (barC c) 0 = Finset.univ := duties_cell I c none
theorem duties_send : (sched I).duties (sendC i c) 0 = {0} := duties_cell I c (some (false, i))
theorem duties_recv : (sched I).duties (recvC i c) 0 = {0} := duties_cell I c (some (true, i))
theorem duties_later (g : GSem nD τ sig) : ∀ r, 1 ≤ r → (sched I).duties g r = ∅ :=
  fun r hr => if_neg fun h => by omega

theorem amount_bar (d : Duty) : (sched I).amount (barC c) 0 d = 1 := by show units (idx (.reg barS)) = _; rw [idx_bar]; rfl
theorem amount_send (d : Duty) : (sched I).amount (sendC i c) 0 d = N i := by show units (idx (.dma (sendSem i))) = _; rw [idx_send]; rfl
theorem amount_recv (d : Duty) : (sched I).amount (recvC i c) 0 d = N i := by show units (idx (.dma (recvSem i))) = _; rw [idx_recv]; rfl

theorem expect_bar : (sched I).expect (barC c) 0 = 4 := by
  unfold Schedule.expect Schedule.amountOf
  rw [duties_bar, Finset.sum_congr rfl fun d _ => amount_bar I c d]; rfl
theorem expect_send : (sched I).expect (sendC i c) 0 = N i := by
  unfold Schedule.expect Schedule.amountOf; rw [duties_send, Finset.sum_singleton, amount_send]
theorem expect_recv : (sched I).expect (recvC i c) 0 = N i := by
  unfold Schedule.expect Schedule.amountOf; rw [duties_recv, Finset.sum_singleton, amount_recv]

theorem payload_bar (d : Duty) : (sched I).payload (barC c) 0 d = barPay d c := by show pay I c d (idx (.reg barS)) = _; rw [idx_bar]; rfl
theorem payload_send (d : Duty) : (sched I).payload (sendC i c) 0 d = stageBack i c := by show pay I c d (idx (.dma (sendSem i))) = _; rw [idx_send]; rfl
theorem payload_recv (d : Duty) : (sched I).payload (recvC i c) 0 d = landed I i c := by show pay I c d (idx (.dma (recvSem i))) = _; rw [idx_recv]; rfl

theorem rest_bar : bigSep ((sched I).duties (barC c) 0 \ ∅) (fun d => (sched I).payload (barC c) 0 d)
    = iprop(barPay 0 c ∗ barPay 1 c ∗ barPay 2 c ∗ barPay (F := F) 3 c) := by
  rw [Finset.sdiff_empty, duties_bar, bigSep_univ_eq_bigSepL [0, 1, 2, 3] (by decide) (by decide), bigSepL_cons_cons, bigSepL_cons_cons,
    bigSepL_cons_cons, bigSepL_singleton, payload_bar, payload_bar, payload_bar, payload_bar]
  rfl
theorem rest_send : bigSep ((sched I).duties (sendC i c) 0 \ ∅) (fun d => (sched I).payload (sendC i c) 0 d) = stageBack i c := by
  rw [Finset.sdiff_empty, duties_send, bigSep_singleton, payload_send]
theorem rest_recv : bigSep ((sched I).duties (recvC i c) 0 \ ∅) (fun d => (sched I).payload (recvC i c) 0 d) = landed I i c := by
  rw [Finset.sdiff_empty, duties_recv, bigSep_singleton, payload_recv]

end Sched

/-! ## What a device owes, and the levels -/

/-- What `c` owes for the exchanges from `n` on: each one's rows, at the peer's receive cell. -/
def owedFrom (n : ℕ) (c : Dev nD) : CellTallies nD τ sig Unit :=
  ∑ i ∈ Finset.univ.filter (fun i : Fin 8 => n ≤ i.val), tallyAt (recvC i (peer i c)) () (N i)

theorem owedFrom_step (i : Fin 8) (c : Dev nD) : owedFrom i.val c = owedFrom (i.val + 1) c + tallyAt (recvC i (peer i c)) () (N i) := by
  unfold owedFrom
  rw [show Finset.univ.filter (fun j : Fin 8 => i.val ≤ j.val) = insert i (Finset.univ.filter (fun j : Fin 8 => i.val + 1 ≤ j.val)) from by
    revert i; decide, Finset.sum_insert (by simp), add_comm]

theorem owedFrom_end (c : Dev nD) : owedFrom 8 c = 0 := by
  unfold owedFrom
  rw [show Finset.univ.filter (fun j : Fin 8 => 8 ≤ j.val) = ∅ from by decide, Finset.sum_empty]

/-- What `c` owes before its signals to the peers `n`, `n + 1`, …. -/
def owedBar (n : ℕ) (c : Dev nD) : CellTallies nD τ sig Unit :=
  owedFrom 0 c + ∑ b ∈ Finset.univ.filter (fun b : Fin 4 => n ≤ b.val), tallyAt (barC (flip b c)) () 1

theorem owedBar_step (b : Fin 4) (c : Dev nD) : owedBar b.val c = owedBar (b.val + 1) c + tallyAt (barC (flip b c)) () 1 := by
  unfold owedBar
  rw [show Finset.univ.filter (fun j : Fin 4 => b.val ≤ j.val) = insert b (Finset.univ.filter (fun j : Fin 4 => b.val + 1 ≤ j.val)) from by
    revert b; decide, Finset.sum_insert (by simp), add_comm (tallyAt _ _ _), add_assoc]

theorem owedBar_end (c : Dev nD) : owedBar 4 c = owedFrom 0 c := by
  unfold owedBar
  rw [show Finset.univ.filter (fun j : Fin 4 => 4 ≤ j.val) = ∅ from by decide, Finset.sum_empty, add_zero]

theorem tallies_sum_apply {ι : Type} (s : Finset ι) (f : ι → CellTallies nD τ sig Unit) (g : GSem nD τ sig) (u : Unit) :
    (∑ i ∈ s, f i) g u = ∑ i ∈ s, f i g u := by
  rw [Finset.sum_apply, Finsupp.finset_sum_apply]

theorem owedFrom_pos {n : ℕ} {c : Dev nD} {g : GSem nD τ sig} {u : Unit} (h : 0 < owedFrom n c g u) :
    ∃ i : Fin 8, n ≤ i.val ∧ g = recvC i (peer i c) := by
  unfold owedFrom at h
  rw [tallies_sum_apply] at h
  by_contra hn
  push Not at hn
  refine Nat.lt_irrefl 0 (h.trans_eq (Finset.sum_eq_zero fun i hi => ?_))
  rw [tallyAt_apply, if_neg fun h' => hn i (Finset.mem_filter.mp hi).2 h'.1]

theorem owedBar_pos {n : ℕ} {c : Dev nD} {g : GSem nD τ sig} {u : Unit} (h : 0 < owedBar n c g u) :
    (∃ i : Fin 8, g = recvC i (peer i c)) ∨ ∃ b : Fin 4, g = barC (flip b c) := by
  unfold owedBar at h
  rw [Pi.add_apply, Finsupp.add_apply, tallies_sum_apply] at h
  by_contra hn
  push Not at hn
  have h1 : owedFrom 0 c g u = 0 := Nat.eq_zero_of_not_pos fun h1 => by
    obtain ⟨i, -, hi⟩ := owedFrom_pos h1
    exact hn.1 i hi
  rw [h1, zero_add] at h
  refine Nat.lt_irrefl 0 (h.trans_eq (Finset.sum_eq_zero fun b hb => ?_))
  rw [tallyAt_apply, if_neg fun h' => hn.2 b h'.1]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def level : Option Cell → ℕ
  | some none => 1
  | some (some (true, i)) => 2 + i.val
  | _ => 0

def lv (g : GSem nD τ sig) (_ : Unit) : ℕ := level (idx g.2)

theorem lv_bar (c : Dev nD) (u : Unit) : lv (barC c) u = 1 := by show level (idx (.reg barS)) = _; rw [idx_bar]; rfl
theorem lv_send (i : Fin 8) (c : Dev nD) (u : Unit) : lv (sendC i c) u = 0 := by show level (idx (.dma (sendSem i))) = _; rw [idx_send]; rfl
theorem lv_recv (i : Fin 8) (c : Dev nD) (u : Unit) : lv (recvC i c) u = 2 + i.val := by show level (idx (.dma (recvSem i))) = _; rw [idx_recv]; rfl

variable (F) in
/-- The levels of all cells. -/
def levels : sProp 𝕄 := levAts L lv

instance levels_persistent : BI.Persistent (levels F) := by unfold levels; infer_instance

theorem mayWait_cut (c : Dev nD) (s : SemLoc sig) (n : ℕ) (b : ℕ) (hs : lv ((c : Thread nD τ), s) () ≤ b) (hb : b < 2 + n) :
    levels F ⊢ MayWait (c : Thread nD τ) s () (owedFrom n c) :=
  MayOwe.of_cut (L := L) (lev := lv) b (fun p hp => by rw [Finset.mem_singleton.mp hp, L_tc]; exact Finset.mem_singleton_self _)
    (fun g u hg => by obtain ⟨i, -, rfl⟩ := owedFrom_pos hg; exact Finset.mem_singleton_self _)
    (fun p hp => by rw [Finset.mem_singleton.mp hp]; exact hs)
    (fun g u hg => by obtain ⟨i, hi, rfl⟩ := owedFrom_pos hg; rw [lv_recv]; omega)

theorem mayWait_bar (c : Dev nD) : levels F ⊢ MayWait (c : Thread nD τ) (.reg barS) () (owedFrom 0 c) :=
  mayWait_cut c _ 0 1 (le_of_eq (lv_bar c ())) (by omega)
theorem mayWait_send (i : Fin 8) (n : ℕ) (c : Dev nD) : levels F ⊢ MayWait (c : Thread nD τ) (.dma (sendSem i)) () (owedFrom n c) :=
  mayWait_cut c _ n 0 (le_of_eq (lv_send i c ())) (by omega)
theorem mayWait_recv (i : Fin 8) (c : Dev nD) : levels F ⊢ MayWait (c : Thread nD τ) (.dma (recvSem i)) () (owedFrom (i.val + 1) c) :=
  mayWait_cut c _ _ (2 + i.val) (le_of_eq (lv_recv i c ())) (by omega)

theorem mayWait_stage (c : Dev nD) (q : DmaSem sig) (hq : idx (.dma q) = none) (O : CellTallies nD τ sig Unit) (hO : O = owedBar 0 c ∨ O = 0) :
    levels F ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedBar_pos hg with ⟨i, rfl⟩ | ⟨b, rfl⟩ <;> exact Finset.mem_singleton_self _)
      (fun p hp => by rw [Finset.mem_singleton.mp hp]; show level (idx _) ≤ 0; rw [hq]; exact le_refl 0)
      (fun g u hg => by
        rcases owedBar_pos hg with ⟨i, rfl⟩ | ⟨b, rfl⟩
        · rw [lv_recv]; omega
        · rw [lv_bar]; omega)
  · rw [MayWait_zero]; iintro -; iempintro

/-! ## Ghost state -/

/-- The standing facts: every cell's invariant, every cell at its round 0, the levels. -/
def records (I : Inputs F) (K : Dev nD × Cell → ℕ) : sProp 𝕄 :=
  iprop((bigSep Finset.univ fun ck : Dev nD × Cell => cellInv ER (sched I) (K ck) (cellOf ck.1 ck.2))
    ∗ (bigSep Finset.univ fun ck : Dev nD × Cell => reached ER (cellOf ck.1 ck.2) 0) ∗ levels F)

instance records_persistent (I : Inputs F) (K) : BI.Persistent (records I K) := by unfold records; infer_instance

theorem inv_of (I : Inputs F) (K : Dev nD × Cell → ℕ) (c : Dev nD) (k : Cell) :
    records I K ⊢ cellInv ER (sched I) (K (c, k)) (cellOf c k) :=
  sep_elim_left.trans (bigSep_elim (Finset.mem_univ (c, k)) (Φ := fun ck : Dev nD × Cell => cellInv ER (sched I) (K ck) (cellOf ck.1 ck.2)))
theorem reached_of (I : Inputs F) (K : Dev nD × Cell → ℕ) (c : Dev nD) (k : Cell) :
    records I K ⊢ reached ER (cellOf c k) 0 :=
  sep_elim_right.trans (sep_elim_left.trans (bigSep_elim (Finset.mem_univ (c, k)) (Φ := fun ck : Dev nD × Cell => reached ER (cellOf ck.1 ck.2) 0)))
theorem lev_of (I : Inputs F) (K : Dev nD × Cell → ℕ) : records I K ⊢ levels F := by
  unfold records; iintro ⟨-, -, H⟩; iexact H

theorem mayBar (I : Inputs F) (K : Dev nD × Cell → ℕ) (c : Dev nD) : records I K ⊢ MayWait (c : Thread nD τ) (.reg barS) () (owedFrom 0 c) :=
  (lev_of I K).trans (mayWait_bar (F := F) c)
theorem maySend (I : Inputs F) (K : Dev nD × Cell → ℕ) (c : Dev nD) (i : Fin 8) :
    records I K ⊢ MayWait (c : Thread nD τ) (.dma (sendSem i)) () (owedFrom (i.val + 1) c) :=
  (lev_of I K).trans (mayWait_send (F := F) i _ c)
theorem mayRecv (I : Inputs F) (K : Dev nD × Cell → ℕ) (c : Dev nD) (i : Fin 8) :
    records I K ⊢ MayWait (c : Thread nD τ) (.dma (recvSem i)) () (owedFrom (i.val + 1) c) :=
  (lev_of I K).trans (mayWait_recv (F := F) i c)

/-- Device `c` owes `O`. -/
def owesAny (c : Dev nD) (O : CellTallies nD τ sig Unit) : sProp 𝕄 := iprop(∃ W : Waits sig Unit, owes (c : Thread nD τ) O W)

/-- What `c` holds before it starts exchange `i`, apart from the peer's slot. -/
def ready (i : Fin 8) (c : Dev nD) : sProp 𝕄 :=
  iprop(dutyTok ER (sendC i c) 0 (0 : Duty) ∗ dutyTok ER (recvC i (peer i c)) 0 (0 : Duty)
    ∗ atPos ER (sendC i c) 0 (∅ : Finset Duty) 0 ∗ atPos ER (recvC i c) 0 (∅ : Finset Duty) 0 ∗ cred (tallyAt (recvC i c) () (N i)))

/-- What `c` holds while its rows of exchange `i` are in flight. -/
def flying (i : Fin 8) (c : Dev nD) : sProp 𝕄 :=
  iprop(cred (tallyAt (sendC i c) () (N i)) ∗ atPos ER (sendC i c) 0 (∅ : Finset Duty) 0
    ∗ atPos ER (recvC i c) 0 (∅ : Finset Duty) 0 ∗ cred (tallyAt (recvC i c) () (N i)))

/-- What `c` holds between its two waits of exchange `i`. -/
def awaiting (i : Fin 8) (c : Dev nD) : sProp 𝕄 :=
  iprop(semVal (sendC i c) 0 ∗ atPos ER (recvC i c) 0 (∅ : Finset Duty) 0 ∗ cred (tallyAt (recvC i c) () (N i)))

/-- Both cells of exchange `i` are done with. -/
def finished (i : Fin 8) (c : Dev nD) : sProp 𝕄 := iprop(semVal (sendC i c) 0 ∗ semVal (recvC i c) 0)

/-! ## The rules -/

section Rules
variable (I : Inputs F) (K : Dev nD × Cell → ℕ) (c : Dev nD)

/-- A signal to the peer at bit `b`, handing it the two slots it will write. -/
theorem signal (b : Fin 4) (n : Dev nD) (hn : n = flip b c) {α : Type} {Q : α → sProp 𝕄}
    {k : PUnit → Prog (TpuEff nD τ sig (Elt F) Λ₀ .tc) α} :
    iprop(records I K ∗ slotAny (early b) c ∗ slotAny (late b) c ∗ dutyTok ER (barC (flip b c)) 0 (b : Duty) ∗ owesAny c (owedBar b.val c))
      ⊢ iprop((owesAny c (owedBar (b.val + 1) c) -∗ run c (k ⟨⟩) Q)
          -∗ run c (semSignalWord n barS 1#32 >>= k) Q) := by
  subst hn
  unfold owesAny
  iintro ⟨#HR, Hs, Hs', Ht, ⟨%W, HO⟩⟩ Hk
  simp only [semSignalWord, Prog.lift, Prog.bind_op, Prog.bind_ret]
  iapply (Rounds.wp_signal 𝒱₀ ER (sched I) (c : Thread nD τ) none (dst := (flip b c : Thread nD τ)) (κ := K (flip b c, none))
      (d := b) (by rw [duties_bar]; exact Finset.mem_univ _) ((amount_bar I (flip b c) b).trans (by decide)) () (owedBar (b.val + 1) c) (owedBar_step b c))
    $$ [HO Ht Hs Hs']
  · isplitr; · iapply (inv_of I K (flip b c) none); iexact HR
    isplitl [HO]; · iexact HO
    isplitl [Ht]; · iexact Ht
    isplitl [Hs Hs']
    · rw [payload_bar]; unfold barPay; rw [flip_flip]
      isplitl [Hs]; · iexact Hs
      iexact Hs'
    · iapply (reached_of I K (flip b c) none); iexact HR
  iintro HO
  iapply Hk
  iexists W; iexact HO

/-- The wait for all four peers' units: their slots for every exchange come with it. -/
theorem barWait {α : Type} {Q : α → sProp 𝕄} {k : PUnit → Prog (TpuEff nD τ sig (Elt F) Λ₀ .tc) α} :
    iprop(records I K ∗ cred (tallyAt (barC c) () 4) ∗ atPos ER (barC c) 0 (∅ : Finset Duty) 0 ∗ owesAny c (owedFrom 0 c))
      ⊢ iprop((iprop((barPay 0 c ∗ barPay 1 c ∗ barPay 2 c ∗ barPay 3 c) ∗ semVal (barC c) 0 ∗ owesAny c (owedFrom 0 c)) -∗ run c (k ⟨⟩) Q)
          -∗ run c (semWaitWord barS 4#32 >>= k) Q) := by
  unfold owesAny
  iintro ⟨#HR, Hc, Hat, ⟨%W, HO⟩⟩ Hk
  simp only [semWaitWord, Prog.lift, Prog.bind_op, Prog.bind_ret]
  ihave #HI := (inv_of I K c none) $$ HR
  iapply (Rounds.wp_wait_rest_token 𝒱₀ ER (sched I) (c : Thread nD τ) none (κ := K (c, none))
      (wpE_semWait_eq 𝒱₀ (c : Thread nD τ) none Set.univ) (Set.mem_univ _) () (O := owedFrom 0 c) (W := W) (R := 0) (m := 0) (T := ∅)
      (by rw [expect_bar]; decide)) $$ [Hc HO Hat]
  · isplitr; · iexact HI
    isplitl [Hc]; · iexact Hc
    isplitl [HO]; · iexact HO
    isplitr; · iapply (mayBar I K c); iexact HR
    iexact Hat
  iintro ⟨HO, Hat, -, Hp⟩
  imod (Rounds.cell_close ER (sched I) (Set.mem_univ (K (c, none))) (fun h => h) (R := 0 + 1) (duties_later I (barC c))) $$ [Hat] with Hv
  · isplitr; · iexact HI
    iexact Hat
  iapply Hk
  isplitl [Hp]; · iapply (Entails.of_eq (rest_bar I c)); iexact Hp
  isplitl [Hv]; · iexact Hv
  iexists _; iexact HO

/-- Starting exchange `i`: the staged rows and the peer's slot go in flight. -/
theorem send (i : Fin 8) (n : Dev nD) (hn : n = peer i c)
    {hsc : (slot i : Memref sig (Dev.tc n : Thread nD τ).2.kind .vmem (shp i) .bf16).view.ref.isScScratch = false}
    {hsrc : (stageSl i).view.WordExact} {hdst : (slot i).view.WordExact}
    {hsem : DmaTarget.Typed .vmem (.dma (recvSem i)) (.remote (Dev.tc n : Thread nD τ) (slot i) (.dma (sendSem i)) hsc)}
    {α : Type} {Q : α → sProp 𝕄} {k : PUnit → Prog (TpuEff nD τ sig (Elt F) Λ₀ .tc) α} :
    iprop(records I K ∗ at' c (stageSl i) (sent I c i) ∗ slotAny i (peer i c) ∗ ready i c ∗ owesAny c (owedFrom i.val c))
      ⊢ iprop((iprop(flying i c ∗ owesAny c (owedFrom (i.val + 1) c)) -∗ run c (k ⟨⟩) Q)
          -∗ run c (Prog.lift (.enqueueDma (stageSl i) (.remote (Dev.tc n : Thread nD τ) (slot i) (.dma (sendSem i)) hsc) (.dma (recvSem i)) hsrc hdst hsem) >>= k) Q) := by
  subst hn
  have h0 : at' (F := F) c (stageSl i) (sent I c i) ⊢ iprop(∃ g, ⌜(stageSl i).view.read (Elt F) g = sent I c i⌝ ∗ (stageSl i).view.loc (c : Thread nD τ) ↦[(stageSl i).view.set]{fullShare} g) := .rfl
  have h1 : slotAny (F := F) i (peer i c) ⊢ iprop(∃ g, (slot i).view.loc (peer i c : Thread nD τ) ↦[(slot i).view.set]{fullShare} g) := by
    unfold slotAny at' owns
    iintro ⟨%X, %g, -, H⟩
    iexists g; iexact H
  unfold owesAny ready flying
  iintro ⟨#HR, Hsrc, Hdst, ⟨HtS, HtR, Hrest⟩, ⟨%W, HO⟩⟩ Hk
  ihave Hsrc' := h0 $$ Hsrc
  icases Hsrc' with ⟨%g, %hg, Hsrc⟩
  ihave Hdst' := h1 $$ Hdst
  icases Hdst' with ⟨%gd, Hdst⟩
  simp only [Prog.lift, Prog.bind_op, Prog.bind_ret]
  iapply (Rounds.wp_send_pointsTo 𝒱₀ ER (sched I) (c : Thread nD τ) none (κ₁ := K (c, some (false, i))) (κ₂ := K (peer i c, some (true, i)))
      (r₁ := 0) (r₂ := 0) (d₁ := (0 : Duty)) (d₂ := (0 : Duty)) (fs := g) (fd := gd)
      (by rw [duties_send]; exact Finset.mem_singleton_self _) (by rw [duties_recv]; exact Finset.mem_singleton_self _)
      () () (N i) rfl (amount_send I c i 0) (amount_recv I (peer i c) i 0) (owedFrom (i.val + 1) c) (owedFrom_step i c) (W := W)
      (by rw [payload_send]; unfold stageBack; iintro H; iexists (stageSl i).view.read (Elt F) g; iapply (owns_intro (c : Thread nD τ) (stageSl i) fullShare g); iexact H)
      (by
        rw [payload_recv, hg]; unfold landed
        refine (owns_intro (peer i c : Thread nD τ) (slot i) fullShare _).trans (Entails.of_eq ?_)
        rw [View.read_write_univ, peer_peer]))
    $$ [HO HtS HtR Hsrc Hdst]
  · isplitr; · iapply (inv_of I K c (some (false, i))); iexact HR
    isplitr; · iapply (inv_of I K (peer i c) (some (true, i))); iexact HR
    isplitl [Hsrc]; · iexact Hsrc
    isplitl [Hdst]; · iexact Hdst
    isplitl [HO]; · iexact HO
    isplitl [HtS]; · iexact HtS
    isplitr; · iapply (reached_of I K c (some (false, i))); iexact HR
    isplitl [HtR]; · iexact HtR
    iapply (reached_of I K (peer i c) (some (true, i))); iexact HR
  iintro ⟨Hc, HO⟩
  iapply Hk
  isplitl [Hc Hrest]
  · isplitl [Hc]; · iexact Hc
    iexact Hrest
  iexists W; iexact HO

/-- The wait for the staged rows of exchange `i`. -/
theorem waitSent (i : Fin 8) {s' : Shape} {e' : EltTy} {sp' : Space} {src : Memref sig .tc sp' s' e'} {dst : Memref sig .tc .vmem (shp i) .bf16}
    {hsrc : src.view.WordExact} {hdst : dst.view.WordExact} (hN : dst.view.dmaCredit = N i)
    {α : Type} {Q : α → sProp 𝕄} {k : PUnit → Prog (TpuEff nD τ sig (Elt F) Λ₀ .tc) α} :
    iprop(records I K ∗ flying i c ∗ owesAny c (owedFrom (i.val + 1) c))
      ⊢ iprop((iprop(awaiting i c ∗ stageBack i c ∗ owesAny c (owedFrom (i.val + 1) c)) -∗ run c (k ⟨⟩) Q)
          -∗ run c (Prog.lift (.waitDma2 (sendSem i) src dst hsrc hdst) >>= k) Q) := by
  unfold owesAny flying awaiting
  iintro ⟨#HR, ⟨Hc, Hat, Hrest⟩, ⟨%W, HO⟩⟩ Hk
  simp only [Prog.lift, Prog.bind_op, Prog.bind_ret]
  ihave #HI := (inv_of I K c (some (false, i))) $$ HR
  iapply (Rounds.wp_wait_rest_token 𝒱₀ ER (sched I) (c : Thread nD τ) none (κ := K (c, some (false, i))) (sm := .dma (sendSem i)) (k' := N i)
      (by rw [← hN]; exact wpE_waitDma2_eq 𝒱₀ (c : Thread nD τ) none Set.univ) (Set.mem_univ _) () (O := owedFrom (i.val + 1) c) (W := W) (R := 0) (m := 0) (T := ∅)
      (by rw [expect_send, Nat.zero_add])) $$ [Hc HO Hat]
  · isplitr; · iexact HI
    isplitl [Hc]; · iexact Hc
    isplitl [HO]; · iexact HO
    isplitr; · iapply (maySend I K c i); iexact HR
    iexact Hat
  iintro ⟨HO, Hat, -, Hp⟩
  imod (Rounds.cell_close ER (sched I) (Set.mem_univ (K (c, some (false, i)))) (fun h => h) (R := 0 + 1) (duties_later I (sendC i c))) $$ [Hat] with Hv
  · isplitr; · iexact HI
    iexact Hat
  iapply Hk
  isplitl [Hv Hrest]
  · isplitl [Hv]; · iexact Hv
    iexact Hrest
  isplitl [Hp]; · iapply (Entails.of_eq (rest_send I c i)); iexact Hp
  iexists _; iexact HO

/-- The wait for the peer's rows of exchange `i`. -/
theorem waitLanded (i : Fin 8) {s' : Shape} {e' : EltTy} {sp' : Space} {src : Memref sig .tc sp' s' e'} {dst : Memref sig .tc .vmem (shp i) .bf16}
    {hsrc : src.view.WordExact} {hdst : dst.view.WordExact} (hN : dst.view.dmaCredit = N i)
    {α : Type} {Q : α → sProp 𝕄} {k : PUnit → Prog (TpuEff nD τ sig (Elt F) Λ₀ .tc) α} :
    iprop(records I K ∗ awaiting i c ∗ owesAny c (owedFrom (i.val + 1) c))
      ⊢ iprop((iprop(finished i c ∗ landed I i c ∗ owesAny c (owedFrom (i.val + 1) c)) -∗ run c (k ⟨⟩) Q)
          -∗ run c (Prog.lift (.waitDma2 (recvSem i) src dst hsrc hdst) >>= k) Q) := by
  unfold owesAny awaiting finished
  iintro ⟨#HR, ⟨Hvs, Hat, Hc⟩, ⟨%W, HO⟩⟩ Hk
  simp only [Prog.lift, Prog.bind_op, Prog.bind_ret]
  ihave #HI := (inv_of I K c (some (true, i))) $$ HR
  iapply (Rounds.wp_wait_rest_token 𝒱₀ ER (sched I) (c : Thread nD τ) none (κ := K (c, some (true, i))) (sm := .dma (recvSem i)) (k' := N i)
      (by rw [← hN]; exact wpE_waitDma2_eq 𝒱₀ (c : Thread nD τ) none Set.univ) (Set.mem_univ _) () (O := owedFrom (i.val + 1) c) (W := W) (R := 0) (m := 0) (T := ∅)
      (by rw [expect_recv, Nat.zero_add])) $$ [Hc HO Hat]
  · isplitr; · iexact HI
    isplitl [Hc]; · iexact Hc
    isplitl [HO]; · iexact HO
    isplitr; · iapply (mayRecv I K c i); iexact HR
    iexact Hat
  iintro ⟨HO, Hat, -, Hp⟩
  imod (Rounds.cell_close ER (sched I) (Set.mem_univ (K (c, some (true, i)))) (fun h => h) (R := 0 + 1) (duties_later I (recvC i c))) $$ [Hat] with Hv
  · isplitr; · iexact HI
    iexact Hat
  iapply Hk
  isplitl [Hv Hvs]
  · isplitl [Hvs]; · iexact Hvs
    iexact Hv
  isplitl [Hp]; · iapply (Entails.of_eq (rest_recv I c i)); iexact Hp
  iexists _; iexact HO

end Rules

end Cert.KernelIdealProof

end

end
-- ==== Proof.KernelIdealStages.lean ====
/-
# Staging, landing, and the two halves of the result

Before exchange `i` its rows are stored in a rectangle of a staging buffer. That rectangle goes in flight while the
rest of the buffer stays, and the two are put together again once the rows are back.
-/
module

public import proofs.«01_k».proof.Proof.KernelIdealProtocol
public import Idealize.ShloMosaic.Lib.VecWindow

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` owns a memref, whatever it holds. -/
abbrev someAt (c : Dev nD) {sp : Space} {s : Shape} {e : EltTy} (m : Memref sig .tc sp s e) : sProp 𝕄 := iprop(∃ X, at' (F := F) c m X)

/-- Device `c` owns a memref except for one of its rectangles. -/
def restOf (c : Dev nD) {sp : Space} {s : Shape} {e : EltTy} (m : Memref sig .tc sp s e) (r : Rect s) (hr : ∀ a, r.stride a = 1) : sProp 𝕄 :=
  iprop(∃ f : Buf (Elt F) (m.view.loc (c : Thread nD τ)), m.view.loc (c : Thread nD τ) ↦[m.view.set \ (m.slice r hr).view.set]{fullShare} f)

theorem split_stored (c : Dev nD) {sp : Space} {s : Shape} {e : EltTy} (m : Memref sig .tc sp s e) (r : Rect s) (hr : ∀ a, r.stride a = 1)
    (X : s.Idx → Elt F e) (w : r.shape.Idx → Elt F e) : at' c m (r.overlay X w) ⊢ iprop(at' c (m.slice r hr) w ∗ restOf c m r hr) := by
  iintro H
  ihave H := (owns_slice_split (c : Thread nD τ) m fullShare r hr (r.overlay X w)) $$ H
  icases H with ⟨Hs, %f, -, Hf⟩
  isplitl [Hs]
  · rw [show (fun i => r.overlay X w (r.emb i)) = w from funext fun i => Rect.overlay_emb r X w i]
    iexact Hs
  unfold restOf
  iexists f; iexact Hf

theorem join_rest (c : Dev nD) {sp : Space} {s : Shape} {e : EltTy} (m : Memref sig .tc sp s e) (r : Rect s) (hr : ∀ a, r.stride a = 1) :
    iprop(someAt c (m.slice r hr) ∗ restOf c m r hr) ⊢ someAt (F := F) c m := by
  unfold restOf
  iintro ⟨⟨%X, Hs⟩, %f, Hf⟩
  iexists _
  iapply (owns_slice_join (c : Thread nD τ) m fullShare r hr X f)
  isplitl [Hs]; · iexact Hs
  iexact Hf

/-- What stays of the staging buffer while the rows of exchange `i` are in flight. -/
def restStage : (i : Fin 8) → Dev nD → sProp 𝕄
  | 0, c => restOf c rsStage (Rect.unit (s := S512x640) ![0, 0] S512x640.size inb_S512x640_S512x640_0_0) (fun _ => rfl)
  | 1, c => restOf c rsStage (Rect.unit (s := S512x640) ![0, 0] S256x640.size inb_S512x640_S256x640_0_0) (fun _ => rfl)
  | 2, c => restOf c rsStage (Rect.unit (s := S512x640) ![0, 0] S128x640.size inb_S512x640_S128x640_0_0) (fun _ => rfl)
  | 3, c => restOf c rsStage (Rect.unit (s := S512x640) ![0, 0] S64x640.size inb_S512x640_S64x640_0_0) (fun _ => rfl)
  | 4, c => restOf c agStage (Rect.unit (s := S512x512) ![0, 0] S64x512.size inb_S512x512_S64x512_0_0) (fun _ => rfl)
  | 5, c => restOf c agStage (Rect.unit (s := S512x512) ![0, 0] S128x512.size inb_S512x512_S128x512_0_0) (fun _ => rfl)
  | 6, c => restOf c agStage (Rect.unit (s := S512x512) ![0, 0] S256x512.size inb_S512x512_S256x512_0_0) (fun _ => rfl)
  | 7, c => restOf c agStage (Rect.unit (s := S512x512) ![0, 0] S512x512.size inb_S512x512_S512x512_0_0) (fun _ => rfl)

/-- The rows of exchange `i` are staged. -/
def staged (I : Inputs F) (i : Fin 8) (c : Dev nD) : sProp 𝕄 := iprop(at' c (stageSl i) (sent I c i) ∗ restStage i c)

section
variable (I : Inputs F) (c : Dev nD)

theorem staged0 (X : S512x640.Idx → Elt F .bf16) : at' c rsStage ((Rect.unit (s := S512x640) ![0, 0] S512x640.size inb_S512x640_S512x640_0_0).overlay X (sent0 I c)) ⊢ staged I 0 c :=
  split_stored c rsStage (Rect.unit (s := S512x640) ![0, 0] S512x640.size inb_S512x640_S512x640_0_0) (fun _ => rfl) X (sent0 I c)
theorem unstage0 : iprop(stageBack 0 c ∗ restStage 0 c) ⊢ someAt (F := F) c rsStage := join_rest c rsStage (Rect.unit (s := S512x640) ![0, 0] S512x640.size inb_S512x640_S512x640_0_0) (fun _ => rfl)
theorem landed0 : landed I 0 c ⊢ at' c (rsRecv.slice (Rect.unit (s := S960x640) ![0, 0] S512x640.size inb_S960x640_S512x640_0_0) (fun _ => rfl)) (sent0 I (peer 0 c)) := .rfl
theorem atLanded0 : at' c (rsRecv.slice (Rect.unit (s := S960x640) ![0, 0] S512x640.size inb_S960x640_S512x640_0_0) (fun _ => rfl)) (sent0 I (peer 0 c)) ⊢ landed I 0 c := .rfl
theorem staged1 (X : S512x640.Idx → Elt F .bf16) : at' c rsStage ((Rect.unit (s := S512x640) ![0, 0] S256x640.size inb_S512x640_S256x640_0_0).overlay X (sent1 I c)) ⊢ staged I 1 c :=
  split_stored c rsStage (Rect.unit (s := S512x640) ![0, 0] S256x640.size inb_S512x640_S256x640_0_0) (fun _ => rfl) X (sent1 I c)
theorem unstage1 : iprop(stageBack 1 c ∗ restStage 1 c) ⊢ someAt (F := F) c rsStage := join_rest c rsStage (Rect.unit (s := S512x640) ![0, 0] S256x640.size inb_S512x640_S256x640_0_0) (fun _ => rfl)
theorem landed1 : landed I 1 c ⊢ at' c (rsRecv.slice (Rect.unit (s := S960x640) ![512, 0] S256x640.size inb_S960x640_S256x640_512_0) (fun _ => rfl)) (sent1 I (peer 1 c)) := .rfl
theorem atLanded1 : at' c (rsRecv.slice (Rect.unit (s := S960x640) ![512, 0] S256x640.size inb_S960x640_S256x640_512_0) (fun _ => rfl)) (sent1 I (peer 1 c)) ⊢ landed I 1 c := .rfl
theorem staged2 (X : S512x640.Idx → Elt F .bf16) : at' c rsStage ((Rect.unit (s := S512x640) ![0, 0] S128x640.size inb_S512x640_S128x640_0_0).overlay X (sent2 I c)) ⊢ staged I 2 c :=
  split_stored c rsStage (Rect.unit (s := S512x640) ![0, 0] S128x640.size inb_S512x640_S128x640_0_0) (fun _ => rfl) X (sent2 I c)
theorem unstage2 : iprop(stageBack 2 c ∗ restStage 2 c) ⊢ someAt (F := F) c rsStage := join_rest c rsStage (Rect.unit (s := S512x640) ![0, 0] S128x640.size inb_S512x640_S128x640_0_0) (fun _ => rfl)
theorem landed2 : landed I 2 c ⊢ at' c (rsRecv.slice (Rect.unit (s := S960x640) ![768, 0] S128x640.size inb_S960x640_S128x640_768_0) (fun _ => rfl)) (sent2 I (peer 2 c)) := .rfl
theorem atLanded2 : at' c (rsRecv.slice (Rect.unit (s := S960x640) ![768, 0] S128x640.size inb_S960x640_S128x640_768_0) (fun _ => rfl)) (sent2 I (peer 2 c)) ⊢ landed I 2 c := .rfl
theorem staged3 (X : S512x640.Idx → Elt F .bf16) : at' c rsStage ((Rect.unit (s := S512x640) ![0, 0] S64x640.size inb_S512x640_S64x640_0_0).overlay X (sent3 I c)) ⊢ staged I 3 c :=
  split_stored c rsStage (Rect.unit (s := S512x640) ![0, 0] S64x640.size inb_S512x640_S64x640_0_0) (fun _ => rfl) X (sent3 I c)
theorem unstage3 : iprop(stageBack 3 c ∗ restStage 3 c) ⊢ someAt (F := F) c rsStage := join_rest c rsStage (Rect.unit (s := S512x640) ![0, 0] S64x640.size inb_S512x640_S64x640_0_0) (fun _ => rfl)
theorem landed3 : landed I 3 c ⊢ at' c (rsRecv.slice (Rect.unit (s := S960x640) ![896, 0] S64x640.size inb_S960x640_S64x640_896_0) (fun _ => rfl)) (sent3 I (peer 3 c)) := .rfl
theorem atLanded3 : at' c (rsRecv.slice (Rect.unit (s := S960x640) ![896, 0] S64x640.size inb_S960x640_S64x640_896_0) (fun _ => rfl)) (sent3 I (peer 3 c)) ⊢ landed I 3 c := .rfl
theorem staged4 (X : S512x512.Idx → Elt F .bf16) : at' c agStage ((Rect.unit (s := S512x512) ![0, 0] S64x512.size inb_S512x512_S64x512_0_0).overlay X (sent4 I c)) ⊢ staged I 4 c :=
  split_stored c agStage (Rect.unit (s := S512x512) ![0, 0] S64x512.size inb_S512x512_S64x512_0_0) (fun _ => rfl) X (sent4 I c)
theorem unstage4 : iprop(stageBack 4 c ∗ restStage 4 c) ⊢ someAt (F := F) c agStage := join_rest c agStage (Rect.unit (s := S512x512) ![0, 0] S64x512.size inb_S512x512_S64x512_0_0) (fun _ => rfl)
theorem landed4 : landed I 4 c ⊢ at' c (agRecv.slice (Rect.unit (s := S960x512) ![0, 0] S64x512.size inb_S960x512_S64x512_0_0) (fun _ => rfl)) (sent4 I (peer 4 c)) := .rfl
theorem atLanded4 : at' c (agRecv.slice (Rect.unit (s := S960x512) ![0, 0] S64x512.size inb_S960x512_S64x512_0_0) (fun _ => rfl)) (sent4 I (peer 4 c)) ⊢ landed I 4 c := .rfl
theorem staged5 (X : S512x512.Idx → Elt F .bf16) : at' c agStage ((Rect.unit (s := S512x512) ![0, 0] S128x512.size inb_S512x512_S128x512_0_0).overlay X (sent5 I c)) ⊢ staged I 5 c :=
  split_stored c agStage (Rect.unit (s := S512x512) ![0, 0] S128x512.size inb_S512x512_S128x512_0_0) (fun _ => rfl) X (sent5 I c)
theorem unstage5 : iprop(stageBack 5 c ∗ restStage 5 c) ⊢ someAt (F := F) c agStage := join_rest c agStage (Rect.unit (s := S512x512) ![0, 0] S128x512.size inb_S512x512_S128x512_0_0) (fun _ => rfl)
theorem landed5 : landed I 5 c ⊢ at' c (agRecv.slice (Rect.unit (s := S960x512) ![64, 0] S128x512.size inb_S960x512_S128x512_64_0) (fun _ => rfl)) (sent5 I (peer 5 c)) := .rfl
theorem atLanded5 : at' c (agRecv.slice (Rect.unit (s := S960x512) ![64, 0] S128x512.size inb_S960x512_S128x512_64_0) (fun _ => rfl)) (sent5 I (peer 5 c)) ⊢ landed I 5 c := .rfl
theorem staged6 (X : S512x512.Idx → Elt F .bf16) : at' c agStage ((Rect.unit (s := S512x512) ![0, 0] S256x512.size inb_S512x512_S256x512_0_0).overlay X (sent6 I c)) ⊢ staged I 6 c :=
  split_stored c agStage (Rect.unit (s := S512x512) ![0, 0] S256x512.size inb_S512x512_S256x512_0_0) (fun _ => rfl) X (sent6 I c)
theorem unstage6 : iprop(stageBack 6 c ∗ restStage 6 c) ⊢ someAt (F := F) c agStage := join_rest c agStage (Rect.unit (s := S512x512) ![0, 0] S256x512.size inb_S512x512_S256x512_0_0) (fun _ => rfl)
theorem landed6 : landed I 6 c ⊢ at' c (agRecv.slice (Rect.unit (s := S960x512) ![192, 0] S256x512.size inb_S960x512_S256x512_192_0) (fun _ => rfl)) (sent6 I (peer 6 c)) := .rfl
theorem atLanded6 : at' c (agRecv.slice (Rect.unit (s := S960x512) ![192, 0] S256x512.size inb_S960x512_S256x512_192_0) (fun _ => rfl)) (sent6 I (peer 6 c)) ⊢ landed I 6 c := .rfl
theorem staged7 (X : S512x512.Idx → Elt F .bf16) : at' c agStage ((Rect.unit (s := S512x512) ![0, 0] S512x512.size inb_S512x512_S512x512_0_0).overlay X (sent7 I c)) ⊢ staged I 7 c :=
  split_stored c agStage (Rect.unit (s := S512x512) ![0, 0] S512x512.size inb_S512x512_S512x512_0_0) (fun _ => rfl) X (sent7 I c)
theorem unstage7 : iprop(stageBack 7 c ∗ restStage 7 c) ⊢ someAt (F := F) c agStage := join_rest c agStage (Rect.unit (s := S512x512) ![0, 0] S512x512.size inb_S512x512_S512x512_0_0) (fun _ => rfl)
theorem landed7 : landed I 7 c ⊢ at' c (agRecv.slice (Rect.unit (s := S960x512) ![448, 0] S512x512.size inb_S960x512_S512x512_448_0) (fun _ => rfl)) (sent7 I (peer 7 c)) := .rfl
theorem atLanded7 : at' c (agRecv.slice (Rect.unit (s := S960x512) ![448, 0] S512x512.size inb_S960x512_S512x512_448_0) (fun _ => rfl)) (sent7 I (peer 7 c)) ⊢ landed I 7 c := .rfl

theorem dev1_eq : (⟨k0_dev1 c, k0_dev1_lt c⟩ : Dev nD) = flip 0 c := by revert c; decide +kernel
theorem dev2_eq : (⟨k0_dev2 c, k0_dev2_lt c⟩ : Dev nD) = flip 1 c := by revert c; decide +kernel
theorem dev3_eq : (⟨k0_dev3 c, k0_dev3_lt c⟩ : Dev nD) = flip 2 c := by revert c; decide +kernel
theorem dev4_eq : (⟨k0_dev4 c, k0_dev4_lt c⟩ : Dev nD) = flip 3 c := by revert c; decide +kernel
theorem dev5_eq : (⟨k0_dev5 c, k0_dev5_lt c⟩ : Dev nD) = peer 0 c := by revert c; decide +kernel
theorem dev6_eq : (⟨k0_dev6 c, k0_dev6_lt c⟩ : Dev nD) = peer 1 c := by revert c; decide +kernel
theorem dev7_eq : (⟨k0_dev7 c, k0_dev7_lt c⟩ : Dev nD) = peer 2 c := by revert c; decide +kernel
theorem dev8_eq : (⟨k0_dev8 c, k0_dev8_lt c⟩ : Dev nD) = peer 3 c := by revert c; decide +kernel
theorem dev9_eq : (⟨k0_dev9 c, k0_dev9_lt c⟩ : Dev nD) = peer 4 c := by revert c; decide +kernel
theorem dev10_eq : (⟨k0_dev10 c, k0_dev10_lt c⟩ : Dev nD) = peer 5 c := by revert c; decide +kernel
theorem dev11_eq : (⟨k0_dev11 c, k0_dev11_lt c⟩ : Dev nD) = peer 6 c := by revert c; decide +kernel
theorem dev12_eq : (⟨k0_dev12 c, k0_dev12_lt c⟩ : Dev nD) = peer 7 c := by revert c; decide +kernel

/-- Zeroing the accumulator leaves nothing of what it held. -/
theorem zeroed (X : S1024x640.Idx → Elt F .f32) :
    at' c accM ((Rect.unit (s := S1024x640) ![0, 0] S1024x640.size inb_S1024x640_S1024x640_0_0).overlay X (k0_pay9 (F := F))) ⊢ at' c accM (acc0 I c) := by
  refine Entails.of_eq (congrArg _ (funext fun j => ?_))
  have h := Rect.overlay_emb (Rect.unit (s := S1024x640) ![0, 0] S1024x640.size inb_S1024x640_S1024x640_0_0) X (k0_pay9 (F := F)) j
  rw [Rect.emb_unit_full] at h
  exact h

abbrev outR1 : Rect S2x512x768 := Rect.unit (s := S2x512x768) (k0_off27 c) S1x512x768.size (k0_off27_inb c)
abbrev outR2 : Rect S2x512x768 := Rect.unit (s := S2x512x768) (k0_off1 c) S1x512x768.size (k0_off1_inb c)

/-- The result holds the first half the body writes. -/
def halfOut : sProp 𝕄 := iprop(∃ Z, at' c outM ((outR1 c).overlay Z (k0_pay103 (val923 I c) (val924 I c))))

theorem halfOut_intro (Z : S2x512x768.Idx → Elt F .f32) :
    at' c outM ((outR1 c).overlay Z (k0_pay103 (val923 I c) (val924 I c))) ⊢ halfOut I c := by
  unfold halfOut; iintro H; iexists Z; iexact H

/-- The result of device `c`. -/
def outAt : S2x512x768.Idx → Elt F .f32 :=
  (outR2 c).overlay ((outR1 c).overlay (I.x c) (k0_pay103 (val923 I c) (val924 I c))) (k0_pay1 (val953 I c) (val954 I c))

theorem out_offs : ∀ c : Dev nD, ((k0_off27 c 0 = 0 ∧ k0_off1 c 0 = 1) ∨ (k0_off27 c 0 = 1 ∧ k0_off1 c 0 = 0))
    ∧ k0_off27 c 1 = 0 ∧ k0_off27 c 2 = 0 ∧ k0_off1 c 1 = 0 ∧ k0_off1 c 2 = 0 := by decide +kernel

theorem mem_batch (off : Fin 3 → Nat) (inb) (h1 : off 1 = 0) (h2 : off 2 = 0) (j : S2x512x768.Idx) (h : (j 0).val = off 0) :
    j ∈ (Rect.unit (s := S2x512x768) off S1x512x768.size inb).set := by
  have hj1 : (j 1).val < 512 := (j 1).isLt
  have hj2 : (j 2).val < 768 := (j 2).isLt
  refine Rect.mem_set_unit.mpr fun a => ?_
  match a with
  | 0 => exact ⟨h.ge, by show (j 0).val < off 0 + 1; omega⟩
  | 1 => exact ⟨by show off 1 ≤ _; omega, by show (j 1).val < off 1 + 512; omega⟩
  | 2 => exact ⟨by show off 2 ≤ _; omega, by show (j 2).val < off 2 + 768; omega⟩

/-- The two halves cover the result. -/
theorem out_cover (j : S2x512x768.Idx) (h : j ∉ (outR2 c).set) : j ∈ (outR1 c).set := by
  have hj : (j 0).val < 2 := (j 0).isLt
  obtain ⟨h0, h1, h2, h3, h4⟩ := out_offs c
  have hne : (j 0).val ≠ k0_off1 c 0 := fun e => h (mem_batch _ _ h3 h4 j e)
  exact mem_batch _ _ h1 h2 j (by omega)

theorem outAt_intro (Z : S2x512x768.Idx → Elt F .f32) :
    at' c outM ((outR2 c).overlay ((outR1 c).overlay Z (k0_pay103 (val923 I c) (val924 I c))) (k0_pay1 (val953 I c) (val954 I c))) ⊢ at' c outM (outAt I c) := by
  refine Entails.of_eq (congrArg _ (funext fun j => ?_))
  unfold outAt
  by_cases h : j ∈ (outR2 c).set
  · obtain ⟨i, rfl⟩ := (outR2 c).exists_idx_of_mem h
    exact (Rect.overlay_emb _ _ _ i).trans (Rect.overlay_emb _ _ _ i).symm
  · rw [Rect.overlay_of_not_mem _ _ _ h, Rect.overlay_of_not_mem _ _ _ h]
    obtain ⟨i, rfl⟩ := (outR1 c).exists_idx_of_mem (out_cover c j h)
    exact (Rect.overlay_emb _ _ _ i).trans (Rect.overlay_emb _ _ _ i).symm

end

end Cert.KernelIdealProof

end

end
-- ==== Proof.KernelIdealPartsA.lean ====
/-
# The first half of the attention

One rule per printed part of the body: the heads of the batch element whose rows the first exchange sends, up to the
start of that exchange.
-/
module

public import proofs.«01_k».proof.Proof.KernelIdealStages

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (I : Inputs F) (K : Dev nD × Cell → ℕ) (c : Dev nD)

theorem part3 (Kt : (Σ' (v78 : IVec S512x512 1) (v83 : BitVec 32) (v84 : BitVec 32) (v91 : FVec F S512x512 .f32) (v108 : FVec F S512x1 .f32), FVec F S512x64 .f32) → sProp 𝕄) :
    iprop(someAt c accM ∗ at' c xM (I.x c) ∗ at' c wqM (I.wq c) ∗ at' c kM (I.k c) ∗ at' c vM (I.v c))
      ⊢ iprop((iprop(at' c accM (acc0 I c) ∗ at' c xM (I.x c) ∗ at' c wqM (I.wq c) ∗ at' c kM (I.k c) ∗ at' c vM (I.v c)) -∗ Kt ⟨(val78 I c), (Scalar.andi (Scalar.remsi (Scalar.divsi (Dev.word c) 1#32) 16#32) 1#32), (Scalar.subi 1#32 (Scalar.andi (Scalar.remsi (Scalar.divsi (Dev.word c) 1#32) 16#32) 1#32)), (val91 I c), (val108 I c), (val109 I c)⟩)
          -∗ run c (k0_part3 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (Scalar.remsi (Scalar.divsi (Dev.word c) 1#32) 16#32) (val72 I c) (val75 I c) 0#32) Kt) := by
  rw [k0_part3_eq_skeleton]; unfold k0_part3_skel
  iintro ⟨Hacc, Hx, Hwq, Hk, Hv⟩ Hk'
  dsimp only
  icases Hacc with ⟨%X0, Hacc⟩
  iapply (ld c) $$ Hacc; iintro Hacc
  iapply (st c) $$ Hacc; iintro Hacc
  ihave Hacc := (zeroed I c X0) $$ Hacc
  iapply (ld c) $$ Hx; iintro Hx
  iapply (ld c) $$ Hwq; iintro Hwq
  iapply (ld c) $$ Hk; iintro Hk
  iapply (ld c) $$ Hv; iintro Hv
  iapply (run_ret c)
  try delta val109
  try delta val108
  try delta val91
  try delta val78
  try delta val98
  try delta val94
  try delta val89
  try delta val86
  try delta acc0
  iapply Hk'
  isplitl [Hacc]; · iexact Hacc
  isplitl [Hx]; · iexact Hx
  isplitl [Hwq]; · iexact Hwq
  isplitl [Hk]; · iexact Hk
  iexact Hv

theorem part4 (v84 : BitVec 32) (Kt : (FVec F S512x64 .f32) → sProp 𝕄) :
    iprop(at' c accM (acc0 I c) ∗ at' c kM (I.k c) ∗ at' c vM (I.v c))
      ⊢ iprop((iprop(at' c accM (acc4 I c) ∗ at' c kM (I.k c) ∗ at' c vM (I.v c)) -∗ Kt (val148 I c))
          -∗ run c (k0_part4 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (val78 I c) v84 (val91 I c) (val108 I c) (val109 I c)) Kt) := by
  rw [k0_part4_eq_skeleton]; unfold k0_part4_skel
  iintro ⟨Hacc, Hk, Hv⟩ Hk'
  dsimp only
  iapply (ld c) $$ Hacc; iintro Hacc
  iapply (st c) $$ Hacc; iintro Hacc
  iapply (ld c) $$ Hacc; iintro Hacc
  iapply (st c) $$ Hacc; iintro Hacc
  iapply (ld c) $$ Hk; iintro Hk
  iapply (ld c) $$ Hv; iintro Hv
  iapply (ld c) $$ Hacc; iintro Hacc
  iapply (st c) $$ Hacc; iintro Hacc
  iapply (ld c) $$ Hacc; iintro Hacc
  iapply (st c) $$ Hacc; iintro Hacc
  iapply (run_ret c)
  try delta val148
  try delta acc4
  try delta acc3
  try delta val126
  try delta val122
  try delta acc2
  try delta acc1
  iapply Hk'
  isplitl [Hacc]; · iexact Hacc
  isplitl [Hk]; · iexact Hk
  iexact Hv

theorem part5 (v84 : BitVec 32) (Kt : (Σ' (v184 : FVec F S512x64 .f32) (v185 : FVec F S512x512 .f32), F .f32) → sProp 𝕄) :
    iprop(at' c kM (I.k c) ∗ at' c vM (I.v c) ∗ at' c accM (acc4 I c))
      ⊢ iprop((iprop(at' c kM (I.k c) ∗ at' c vM (I.v c) ∗ at' c accM (acc6 I c)) -∗ Kt ⟨(val184 I c), (val185 I c), (Scalar.ofBits .f32 0x3E000000#32)⟩)
          -∗ run c (k0_part5 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (val78 I c) v84 (val91 I c) (val148 I c)) Kt) := by
  rw [k0_part5_eq_skeleton]; unfold k0_part5_skel
  iintro ⟨Hk, Hv, Hacc⟩ Hk'
  dsimp only
  iapply (ld c) $$ Hk; iintro Hk
  iapply (ld c) $$ Hv; iintro Hv
  iapply (ld c) $$ Hacc; iintro Hacc
  iapply (st c) $$ Hacc; iintro Hacc
  iapply (ld c) $$ Hacc; iintro Hacc
  iapply (st c) $$ Hacc; iintro Hacc
  iapply (ld c) $$ Hk; iintro Hk
  iapply (ld c) $$ Hv; iintro Hv
  iapply (run_ret c)
  try delta val185
  try delta val184
  try delta val182
  try delta val178
  try delta acc6
  try delta acc5
  try delta val154
  try delta val150
  iapply Hk'
  isplitl [Hk]; · iexact Hk
  isplitl [Hv]; · iexact Hv
  iexact Hacc

theorem part6 (v84 : BitVec 32) (Kt : (Σ' (v220 : FVec F S512x1 .f32), FVec F S512x64 .f32) → sProp 𝕄) :
    iprop(at' c accM (acc6 I c) ∗ at' c kM (I.k c) ∗ at' c vM (I.v c))
      ⊢ iprop((iprop(at' c accM (acc8 I c) ∗ at' c kM (I.k c) ∗ at' c vM (I.v c)) -∗ Kt ⟨(val220 I c), (val221 I c)⟩)
          -∗ run c (k0_part6 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (val78 I c) v84 (val91 I c) (val184 I c) (val185 I c) (Scalar.ofBits .f32 0x3E000000#32)) Kt) := by
  rw [k0_part6_eq_skeleton]; unfold k0_part6_skel
  iintro ⟨Hacc, Hk, Hv⟩ Hk'
  dsimp only
  iapply (ld c) $$ Hacc; iintro Hacc
  iapply (st c) $$ Hacc; iintro Hacc
  iapply (ld c) $$ Hacc; iintro Hacc
  iapply (st c) $$ Hacc; iintro Hacc
  iapply (ld c) $$ Hk; iintro Hk
  iapply (ld c) $$ Hv; iintro Hv
  iapply (run_ret c)
  try delta val221
  try delta val220
  try delta val210
  try delta val206
  try delta acc8
  try delta acc7
  iapply Hk'
  isplitl [Hacc]; · iexact Hacc
  isplitl [Hk]; · iexact Hk
  iexact Hv

theorem part7 (v84 : BitVec 32) (Kt : (FVec F S512x64 .f32) → sProp 𝕄) :
    iprop(at' c accM (acc8 I c) ∗ at' c kM (I.k c) ∗ at' c vM (I.v c))
      ⊢ iprop((iprop(at' c accM (acc12 I c) ∗ at' c kM (I.k c) ∗ at' c vM (I.v c)) -∗ Kt (val260 I c))
          -∗ run c (k0_part7 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (val78 I c) v84 (val91 I c) (val220 I c) (val221 I c)) Kt) := by
  rw [k0_part7_eq_skeleton]; unfold k0_part7_skel
  iintro ⟨Hacc, Hk, Hv⟩ Hk'
  dsimp only
  iapply (ld c) $$ Hacc; iintro Hacc
  iapply (st c) $$ Hacc; iintro Hacc
  iapply (ld c) $$ Hacc; iintro Hacc
  iapply (st c) $$ Hacc; iintro Hacc
  iapply (ld c) $$ Hk; iintro Hk
  iapply (ld c) $$ Hv; iintro Hv
  iapply (ld c) $$ Hacc; iintro Hacc
  iapply (st c) $$ Hacc; iintro Hacc
  iapply (ld c) $$ Hacc; iintro Hacc
  iapply (st c) $$ Hacc; iintro Hacc
  iapply (run_ret c)
  try delta val260
  try delta acc12
  try delta acc11
  try delta val238
  try delta val234
  try delta acc10
  try delta acc9
  iapply Hk'
  isplitl [Hacc]; · iexact Hacc
  isplitl [Hk]; · iexact Hk
  iexact Hv

theorem part8 (v84 : BitVec 32) (Kt : (Σ' (v296 : FVec F S512x64 .f32) (v297 : FVec F S512x512 .f32), F .f32) → sProp 𝕄) :
    iprop(at' c kM (I.k c) ∗ at' c vM (I.v c) ∗ at' c accM (acc12 I c))
      ⊢ iprop((iprop(at' c kM (I.k c) ∗ at' c vM (I.v c) ∗ at' c accM (acc14 I c)) -∗ Kt ⟨(val296 I c), (val297 I c), (Scalar.ofBits .f32 0x3E000000#32)⟩)
          -∗ run c (k0_part8 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (val78 I c) v84 (val91 I c) (val260 I c)) Kt) := by
  rw [k0_part8_eq_skeleton]; unfold k0_part8_skel
  iintro ⟨Hk, Hv, Hacc⟩ Hk'
  dsimp only
  iapply (ld c) $$ Hk; iintro Hk
  iapply (ld c) $$ Hv; iintro Hv
  iapply (ld c) $$ Hacc; iintro Hacc
  iapply (st c) $$ Hacc; iintro Hacc
  iapply (ld c) $$ Hacc; iintro Hacc
  iapply (st c) $$ Hacc; iintro Hacc
  iapply (ld c) $$ Hk; iintro Hk
  iapply (ld c) $$ Hv; iintro Hv
  iapply (run_ret c)
  try delta val297
  try delta val296
  try delta val294
  try delta val290
  try delta acc14
  try delta acc13
  try delta val266
  try delta val262
  iapply Hk'
  isplitl [Hk]; · iexact Hk
  isplitl [Hv]; · iexact Hv
  iexact Hacc

theorem part9 (v2 : BitVec 32) (v83 : BitVec 32) (v84 : BitVec 32) (Kt : (BitVec 32) → sProp 𝕄) :
    iprop(records I K ∗ at' c accM (acc14 I c) ∗ someAt c rsStage ∗ (ready 0 c ∗ slotAny 0 (peer 0 c)) ∗ owesAny c (owedFrom 0 c))
      ⊢ iprop((iprop(at' c accM (acc16 I c) ∗ restStage 0 c ∗ flying 0 c ∗ owesAny c (owedFrom 1 c)) -∗ Kt (Scalar.xori v2 1#32))
          -∗ run c (k0_part9 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 (val78 I c) v83 v84 (val296 I c) (val297 I c) (Scalar.ofBits .f32 0x3E000000#32)) Kt) := by
  rw [k0_part9_eq_skeleton]; unfold k0_part9_skel
  iintro ⟨#HR, Hacc, Hrs, He0, HO⟩ Hk'
  dsimp only
  iapply (ld c) $$ Hacc; iintro Hacc
  iapply (st c) $$ Hacc; iintro Hacc
  iapply (ld c) $$ Hacc; iintro Hacc
  iapply (st c) $$ Hacc; iintro Hacc
  iapply (ld c) $$ Hacc; iintro Hacc
  icases Hrs with ⟨%Y, Hrs⟩
  iapply (ld c) $$ Hrs; iintro Hrs
  iapply (st c) $$ Hrs; iintro Hrs
  ihave Hw := (staged0 I c Y)
  try delta sent0
  try delta val319
  try delta acc16
  try delta acc15
  ihave Hrs := Hw $$ Hrs
  unfold staged; icases Hrs with ⟨Hs, Hrs⟩; icases He0 with ⟨He0, Hd⟩
  iapply (send I K c 0 _ (dev5_eq c)) $$ [Hs Hd He0 HO]
  · isplitr; · iexact HR
    isplitl [Hs]; · iexact Hs
    isplitl [Hd]; · iexact Hd
    isplitl [He0]; · iexact He0
    iexact HO
  iintro ⟨He0, HO⟩
  iapply (run_ret c)
  try delta acc16
  try delta acc15
  iapply Hk'
  isplitl [Hacc]; · iexact Hacc
  isplitl [Hrs]; · iexact Hrs
  isplitl [He0]; · iexact He0
  iexact HO

end

end Cert.KernelIdealProof

end

end
-- ==== Proof.KernelIdealPartsB.lean ====
/-
# The second half of the attention

One rule per printed part of the body: the heads of the other batch element, then the end of the first exchange.
-/
module

public import proofs.«01_k».proof.Proof.KernelIdealStages

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (I : Inputs F) (K : Dev nD × Cell → ℕ) (c : Dev nD)

theorem part10 (v83 : BitVec 32) (Kt : (Σ' (v339 : FVec F S512x512 .f32), FVec F S512x64 .f32) → sProp 𝕄) :
    iprop(at' c xM (I.x c) ∗ at' c wqM (I.wq c) ∗ at' c kM (I.k c) ∗ at' c vM (I.v c) ∗ at' c accM (acc16 I c))
      ⊢ iprop((iprop(at' c xM (I.x c) ∗ at' c wqM (I.wq c) ∗ at' c kM (I.k c) ∗ at' c vM (I.v c) ∗ at' c accM (acc18 I c)) -∗ Kt ⟨(val339 I c), (val368 I c)⟩)
          -∗ run c (k0_part10 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (val78 I c) v83) Kt) := by
  rw [k0_part10_eq_skeleton]; unfold k0_part10_skel
  iintro ⟨Hx, Hwq, Hk, Hv, Hacc⟩ Hk'
  dsimp only
  iapply (ld c) $$ Hx; iintro Hx
  iapply (ld c) $$ Hwq; iintro Hwq
  iapply (ld c) $$ Hk; iintro Hk
  iapply (ld c) $$ Hv; iintro Hv
  iapply (ld c) $$ Hacc; iintro Hacc
  iapply (st c) $$ Hacc; iintro Hacc
  iapply (ld c) $$ Hacc; iintro Hacc
  iapply (st c) $$ Hacc; iintro Hacc
  iapply (run_ret c)
  try delta val368
  try delta val339
  try delta acc18
  try delta acc17
  try delta val346
  try delta val342
  try delta val337
  try delta val334
  iapply Hk'
  isplitl [Hx]; · iexact Hx
  isplitl [Hwq]; · iexact Hwq
  isplitl [Hk]; · iexact Hk
  isplitl [Hv]; · iexact Hv
  iexact Hacc

theorem part11 (v83 : BitVec 32) (Kt : (Σ' (v404 : FVec F S512x64 .f32) (v405 : FVec F S512x512 .f32), F .f32) → sProp 𝕄) :
    iprop(at' c kM (I.k c) ∗ at' c vM (I.v c) ∗ at' c accM (acc18 I c))
      ⊢ iprop((iprop(at' c kM (I.k c) ∗ at' c vM (I.v c) ∗ at' c accM (acc20 I c)) -∗ Kt ⟨(val404 I c), (val405 I c), (Scalar.ofBits .f32 0x3E000000#32)⟩)
          -∗ run c (k0_part11 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (val78 I c) v83 (val339 I c) (val368 I c)) Kt) := by
  rw [k0_part11_eq_skeleton]; unfold k0_part11_skel
  iintro ⟨Hk, Hv, Hacc⟩ Hk'
  dsimp only
  iapply (ld c) $$ Hk; iintro Hk
  iapply (ld c) $$ Hv; iintro Hv
  iapply (ld c) $$ Hacc; iintro Hacc
  iapply (st c) $$ Hacc; iintro Hacc
  iapply (ld c) $$ Hacc; iintro Hacc
  iapply (st c) $$ Hacc; iintro Hacc
  iapply (ld c) $$ Hk; iintro Hk
  iapply (ld c) $$ Hv; iintro Hv
  iapply (run_ret c)
  try delta val405
  try delta val404
  try delta val402
  try delta val398
  try delta acc20
  try delta acc19
  try delta val374
  try delta val370
  iapply Hk'
  isplitl [Hk]; · iexact Hk
  isplitl [Hv]; · iexact Hv
  iexact Hacc

theorem part12 (v83 : BitVec 32) (Kt : (Σ' (v440 : FVec F S512x1 .f32), FVec F S512x64 .f32) → sProp 𝕄) :
    iprop(at' c accM (acc20 I c) ∗ at' c kM (I.k c) ∗ at' c vM (I.v c))
      ⊢ iprop((iprop(at' c accM (acc22 I c) ∗ at' c kM (I.k c) ∗ at' c vM (I.v c)) -∗ Kt ⟨(val440 I c), (val441 I c)⟩)
          -∗ run c (k0_part12 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (val78 I c) v83 (val339 I c) (val404 I c) (val405 I c) (Scalar.ofBits .f32 0x3E000000#32)) Kt) := by
  rw [k0_part12_eq_skeleton]; unfold k0_part12_skel
  iintro ⟨Hacc, Hk, Hv⟩ Hk'
  dsimp only
  iapply (ld c) $$ Hacc; iintro Hacc
  iapply (st c) $$ Hacc; iintro Hacc
  iapply (ld c) $$ Hacc; iintro Hacc
  iapply (st c) $$ Hacc; iintro Hacc
  iapply (ld c) $$ Hk; iintro Hk
  iapply (ld c) $$ Hv; iintro Hv
  iapply (run_ret c)
  try delta val441
  try delta val440
  try delta val430
  try delta val426
  try delta acc22
  try delta acc21
  iapply Hk'
  isplitl [Hacc]; · iexact Hacc
  isplitl [Hk]; · iexact Hk
  iexact Hv

theorem part13 (v83 : BitVec 32) (Kt : (FVec F S512x64 .f32) → sProp 𝕄) :
    iprop(at' c accM (acc22 I c) ∗ at' c kM (I.k c) ∗ at' c vM (I.v c))
      ⊢ iprop((iprop(at' c accM (acc26 I c) ∗ at' c kM (I.k c) ∗ at' c vM (I.v c)) -∗ Kt (val480 I c))
          -∗ run c (k0_part13 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (val78 I c) v83 (val339 I c) (val440 I c) (val441 I c)) Kt) := by
  rw [k0_part13_eq_skeleton]; unfold k0_part13_skel
  iintro ⟨Hacc, Hk, Hv⟩ Hk'
  dsimp only
  iapply (ld c) $$ Hacc; iintro Hacc
  iapply (st c) $$ Hacc; iintro Hacc
  iapply (ld c) $$ Hacc; iintro Hacc
  iapply (st c) $$ Hacc; iintro Hacc
  iapply (ld c) $$ Hk; iintro Hk
  iapply (ld c) $$ Hv; iintro Hv
  iapply (ld c) $$ Hacc; iintro Hacc
  iapply (st c) $$ Hacc; iintro Hacc
  iapply (ld c) $$ Hacc; iintro Hacc
  iapply (st c) $$ Hacc; iintro Hacc
  iapply (run_ret c)
  try delta val480
  try delta acc26
  try delta acc25
  try delta val458
  try delta val454
  try delta acc24
  try delta acc23
  iapply Hk'
  isplitl [Hacc]; · iexact Hacc
  isplitl [Hk]; · iexact Hk
  iexact Hv

theorem part14 (v83 : BitVec 32) (Kt : (Σ' (v516 : FVec F S512x64 .f32) (v517 : FVec F S512x512 .f32), F .f32) → sProp 𝕄) :
    iprop(at' c kM (I.k c) ∗ at' c vM (I.v c) ∗ at' c accM (acc26 I c))
      ⊢ iprop((iprop(at' c kM (I.k c) ∗ at' c vM (I.v c) ∗ at' c accM (acc28 I c)) -∗ Kt ⟨(val516 I c), (val517 I c), (Scalar.ofBits .f32 0x3E000000#32)⟩)
          -∗ run c (k0_part14 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (val78 I c) v83 (val339 I c) (val480 I c)) Kt) := by
  rw [k0_part14_eq_skeleton]; unfold k0_part14_skel
  iintro ⟨Hk, Hv, Hacc⟩ Hk'
  dsimp only
  iapply (ld c) $$ Hk; iintro Hk
  iapply (ld c) $$ Hv; iintro Hv
  iapply (ld c) $$ Hacc; iintro Hacc
  iapply (st c) $$ Hacc; iintro Hacc
  iapply (ld c) $$ Hacc; iintro Hacc
  iapply (st c) $$ Hacc; iintro Hacc
  iapply (ld c) $$ Hk; iintro Hk
  iapply (ld c) $$ Hv; iintro Hv
  iapply (run_ret c)
  try delta val517
  try delta val516
  try delta val514
  try delta val510
  try delta acc28
  try delta acc27
  try delta val486
  try delta val482
  iapply Hk'
  isplitl [Hk]; · iexact Hk
  isplitl [Hv]; · iexact Hv
  iexact Hacc

theorem part15 (v83 : BitVec 32) (Kt : (Σ' (v552 : FVec F S512x1 .f32), FVec F S512x64 .f32) → sProp 𝕄) :
    iprop(at' c accM (acc28 I c) ∗ at' c kM (I.k c) ∗ at' c vM (I.v c))
      ⊢ iprop((iprop(at' c accM (acc30 I c) ∗ at' c kM (I.k c) ∗ at' c vM (I.v c)) -∗ Kt ⟨(val552 I c), (val553 I c)⟩)
          -∗ run c (k0_part15 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c (val78 I c) v83 (val339 I c) (val516 I c) (val517 I c) (Scalar.ofBits .f32 0x3E000000#32)) Kt) := by
  rw [k0_part15_eq_skeleton]; unfold k0_part15_skel
  iintro ⟨Hacc, Hk, Hv⟩ Hk'
  dsimp only
  iapply (ld c) $$ Hacc; iintro Hacc
  iapply (st c) $$ Hacc; iintro Hacc
  iapply (ld c) $$ Hacc; iintro Hacc
  iapply (st c) $$ Hacc; iintro Hacc
  iapply (ld c) $$ Hk; iintro Hk
  iapply (ld c) $$ Hv; iintro Hv
  iapply (run_ret c)
  try delta val553
  try delta val552
  try delta val542
  try delta val538
  try delta acc30
  try delta acc29
  iapply Hk'
  isplitl [Hacc]; · iexact Hacc
  isplitl [Hk]; · iexact Hk
  iexact Hv

theorem part16 (v2 : BitVec 32) (v83 : BitVec 32) (v324 : BitVec 32) (Kt : (Σ' (v574 : BitVec 32) (v585 : BitVec 32), BitVec 32) → sProp 𝕄) :
    iprop(records I K ∗ at' c accM (acc30 I c) ∗ owesAny c (owedFrom 1 c) ∗ flying 0 c ∗ restStage 0 c)
      ⊢ iprop((iprop(at' c accM (acc33 I c) ∗ owesAny c (owedFrom 1 c) ∗ finished 0 c ∗ someAt c rsStage ∗ landed I 0 c) -∗ Kt ⟨(Scalar.muli v83 512#32), (Scalar.andi (Scalar.shrsi v2 1#32) 1#32), 1#32⟩)
          -∗ run c (k0_part16 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 v83 v324 (val552 I c) (val553 I c)) Kt) := by
  rw [k0_part16_eq_skeleton]; unfold k0_part16_skel
  iintro ⟨#HR, Hacc, HO, He0, Hrs⟩ Hk'
  dsimp only
  iapply (ld c) $$ Hacc; iintro Hacc
  iapply (st c) $$ Hacc; iintro Hacc
  iapply (ld c) $$ Hacc; iintro Hacc
  iapply (st c) $$ Hacc; iintro Hacc
  iapply (waitSent I K c 0 (dst := stageSl 0) rfl) $$ [He0 HO]
  · isplitr; · iexact HR
    isplitl [He0]; · iexact He0
    iexact HO
  iintro ⟨He0, Hs, HO⟩
  ihave Hrs := (unstage0 c) $$ [Hs Hrs]
  · isplitl [Hs]; · iexact Hs
    iexact Hrs
  iapply (waitLanded I K c 0 (dst := slot 0) rfl) $$ [He0 HO]
  · isplitr; · iexact HR
    isplitl [He0]; · iexact He0
    iexact HO
  iintro ⟨He0, Hl0, HO⟩
  iapply (ld c) $$ Hacc; iintro Hacc
  ihave Hl0 := (landed0 I c) $$ Hl0
  iapply (ldSlice c) $$ Hl0; iintro Hl0
  iapply (ld c) $$ Hacc; iintro Hacc
  iapply (st c) $$ Hacc; iintro Hacc
  iapply (run_ret c)
  try delta acc33
  try delta val576
  try delta acc32
  try delta acc31
  ihave Hl0 := (atLanded0 I c) $$ Hl0
  iapply Hk'
  isplitl [Hacc]; · iexact Hacc
  isplitl [HO]; · iexact HO
  isplitl [He0]; · iexact He0
  isplitl [Hrs]; · iexact Hrs
  iexact Hl0

end

end Cert.KernelIdealProof

end

end
-- ==== Proof.KernelIdealPartsC.lean ====
/-
# The reduce-scatter exchanges and the division

One rule per printed part of the body: the remaining reduce-scatter exchanges, then the division by the row sums.
-/
module

public import proofs.«01_k».proof.Proof.KernelIdealStages

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (I : Inputs F) (K : Dev nD × Cell → ℕ) (c : Dev nD)

theorem part17 (v2 : BitVec 32) (v574 : BitVec 32) (v585 : BitVec 32) (c1_i32_295 : BitVec 32) (Kt : (BitVec 32) → sProp 𝕄) :
    iprop(records I K ∗ at' c accM (acc33 I c) ∗ someAt c rsStage ∗ (ready 1 c ∗ slotAny 1 (peer 1 c)) ∗ owesAny c (owedFrom 1 c))
      ⊢ iprop((iprop(at' c accM (acc33 I c) ∗ someAt c rsStage ∗ awaiting 1 c ∗ owesAny c (owedFrom 2 c)) -∗ Kt (Scalar.addi v574 (Scalar.muli v585 256#32)))
          -∗ run c (k0_part17 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 v574 v585 c1_i32_295) Kt) := by
  rw [k0_part17_eq_skeleton]; unfold k0_part17_skel
  iintro ⟨#HR, Hacc, Hrs, He1, HO⟩ Hk'
  dsimp only
  iapply (ld c) $$ Hacc; iintro Hacc
  icases Hrs with ⟨%Y, Hrs⟩
  iapply (ld c) $$ Hrs; iintro Hrs
  iapply (st c) $$ Hrs; iintro Hrs
  ihave Hw := (staged1 I c Y)
  try delta sent1
  try delta val592
  ihave Hrs := Hw $$ Hrs
  unfold staged; icases Hrs with ⟨Hs, Hrs⟩; icases He1 with ⟨He1, Hd⟩
  iapply (send I K c 1 _ (dev6_eq c)) $$ [Hs Hd He1 HO]
  · isplitr; · iexact HR
    isplitl [Hs]; · iexact Hs
    isplitl [Hd]; · iexact Hd
    isplitl [He1]; · iexact He1
    iexact HO
  iintro ⟨He1, HO⟩
  iapply (waitSent I K c 1 (dst := stageSl 1) rfl) $$ [He1 HO]
  · isplitr; · iexact HR
    isplitl [He1]; · iexact He1
    iexact HO
  iintro ⟨He1, Hs, HO⟩
  ihave Hrs := (unstage1 c) $$ [Hs Hrs]
  · isplitl [Hs]; · iexact Hs
    iexact Hrs
  iapply (run_ret c)
  iapply Hk'
  isplitl [Hacc]; · iexact Hacc
  isplitl [Hrs]; · iexact Hrs
  isplitl [He1]; · iexact He1
  iexact HO

theorem part18 (v2 : BitVec 32) (v590 : BitVec 32) (Kt : (Σ' (v631 : BitVec 32), BitVec 32) → sProp 𝕄) :
    iprop(records I K ∗ owesAny c (owedFrom 2 c) ∗ awaiting 1 c ∗ at' c accM (acc33 I c) ∗ someAt c rsStage ∗ (ready 2 c ∗ slotAny 2 (peer 2 c)))
      ⊢ iprop((iprop(owesAny c (owedFrom 3 c) ∗ finished 1 c ∗ landed I 1 c ∗ at' c accM (acc34 I c) ∗ restStage 2 c ∗ flying 2 c) -∗ Kt ⟨(Scalar.addi v590 (Scalar.muli (Scalar.andi (Scalar.shrsi v2 2#32) 1#32) 128#32)), (Scalar.xori v2 4#32)⟩)
          -∗ run c (k0_part18 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 v590) Kt) := by
  rw [k0_part18_eq_skeleton]; unfold k0_part18_skel
  iintro ⟨#HR, HO, He1, Hacc, Hrs, He2⟩ Hk'
  dsimp only
  iapply (waitLanded I K c 1 (dst := slot 1) rfl) $$ [He1 HO]
  · isplitr; · iexact HR
    isplitl [He1]; · iexact He1
    iexact HO
  iintro ⟨He1, Hl1, HO⟩
  iapply (ld c) $$ Hacc; iintro Hacc
  ihave Hl1 := (landed1 I c) $$ Hl1
  iapply (ldSlice c) $$ Hl1; iintro Hl1
  iapply (ld c) $$ Hacc; iintro Hacc
  iapply (st c) $$ Hacc; iintro Hacc
  iapply (ld c) $$ Hacc; iintro Hacc
  icases Hrs with ⟨%Y, Hrs⟩
  iapply (ld c) $$ Hrs; iintro Hrs
  iapply (st c) $$ Hrs; iintro Hrs
  ihave Hw := (staged2 I c Y)
  try delta sent2
  try delta val633
  try delta acc34
  try delta val617
  ihave Hrs := Hw $$ Hrs
  unfold staged; icases Hrs with ⟨Hs, Hrs⟩; icases He2 with ⟨He2, Hd⟩
  iapply (send I K c 2 _ (dev7_eq c)) $$ [Hs Hd He2 HO]
  · isplitr; · iexact HR
    isplitl [Hs]; · iexact Hs
    isplitl [Hd]; · iexact Hd
    isplitl [He2]; · iexact He2
    iexact HO
  iintro ⟨He2, HO⟩
  iapply (run_ret c)
  try delta acc34
  try delta val617
  ihave Hl1 := (atLanded1 I c) $$ Hl1
  iapply Hk'
  isplitl [HO]; · iexact HO
  isplitl [He1]; · iexact He1
  isplitl [Hl1]; · iexact Hl1
  isplitl [Hacc]; · iexact Hacc
  isplitl [Hrs]; · iexact Hrs
  iexact He2

theorem part19 (v2 : BitVec 32) (v631 : BitVec 32) (v638 : BitVec 32) (Kt : (Σ' (v672 : BitVec 32), FVec F S64x640 .bf16) → sProp 𝕄) :
    iprop(records I K ∗ owesAny c (owedFrom 3 c) ∗ flying 2 c ∗ restStage 2 c ∗ at' c accM (acc34 I c))
      ⊢ iprop((iprop(owesAny c (owedFrom 3 c) ∗ finished 2 c ∗ someAt c rsStage ∗ landed I 2 c ∗ at' c accM (acc35 I c)) -∗ Kt ⟨(Scalar.addi v631 (Scalar.muli (Scalar.andi (Scalar.shrsi v2 3#32) 1#32) 64#32)), (val678 I c)⟩)
          -∗ run c (k0_part19 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 v631 v638) Kt) := by
  rw [k0_part19_eq_skeleton]; unfold k0_part19_skel
  iintro ⟨#HR, HO, He2, Hrs, Hacc⟩ Hk'
  dsimp only
  iapply (waitSent I K c 2 (dst := stageSl 2) rfl) $$ [He2 HO]
  · isplitr; · iexact HR
    isplitl [He2]; · iexact He2
    iexact HO
  iintro ⟨He2, Hs, HO⟩
  ihave Hrs := (unstage2 c) $$ [Hs Hrs]
  · isplitl [Hs]; · iexact Hs
    iexact Hrs
  iapply (waitLanded I K c 2 (dst := slot 2) rfl) $$ [He2 HO]
  · isplitr; · iexact HR
    isplitl [He2]; · iexact He2
    iexact HO
  iintro ⟨He2, Hl2, HO⟩
  iapply (ld c) $$ Hacc; iintro Hacc
  ihave Hl2 := (landed2 I c) $$ Hl2
  iapply (ldSlice c) $$ Hl2; iintro Hl2
  iapply (ld c) $$ Hacc; iintro Hacc
  iapply (st c) $$ Hacc; iintro Hacc
  iapply (ld c) $$ Hacc; iintro Hacc
  icases Hrs with ⟨%Y, Hrs⟩
  iapply (ld c) $$ Hrs; iintro Hrs
  iapply (run_ret c)
  try delta val678
  try delta val674
  try delta acc35
  try delta val658
  ihave Hl2 := (atLanded2 I c) $$ Hl2
  iapply Hk'
  isplitl [HO]; · iexact HO
  isplitl [He2]; · iexact He2
  isplitl [Hrs]; · iexists _; iexact Hrs
  isplitl [Hl2]; · iexact Hl2
  iexact Hacc

theorem part20 (v2 : BitVec 32) (v672 : BitVec 32) (Kt : (FVec F S64x640 .f32) → sProp 𝕄) :
    iprop(records I K ∗ someAt c rsStage ∗ (ready 3 c ∗ slotAny 3 (peer 3 c)) ∗ owesAny c (owedFrom 3 c) ∗ at' c accM (acc35 I c))
      ⊢ iprop((iprop(someAt c rsStage ∗ finished 3 c ∗ owesAny c (owedFrom 4 c) ∗ landed I 3 c ∗ at' c accM (acc35 I c)) -∗ Kt (val706 I c))
          -∗ run c (k0_part20 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 v672 (val678 I c)) Kt) := by
  rw [k0_part20_eq_skeleton]; unfold k0_part20_skel
  iintro ⟨#HR, Hrs, He3, HO, Hacc⟩ Hk'
  dsimp only
  icases Hrs with ⟨%Y, Hrs⟩
  iapply (st c) $$ Hrs; iintro Hrs
  ihave Hw := (staged3 I c Y)
  try delta sent3
  ihave Hrs := Hw $$ Hrs
  unfold staged; icases Hrs with ⟨Hs, Hrs⟩; icases He3 with ⟨He3, Hd⟩
  iapply (send I K c 3 _ (dev8_eq c)) $$ [Hs Hd He3 HO]
  · isplitr; · iexact HR
    isplitl [Hs]; · iexact Hs
    isplitl [Hd]; · iexact Hd
    isplitl [He3]; · iexact He3
    iexact HO
  iintro ⟨He3, HO⟩
  iapply (waitSent I K c 3 (dst := stageSl 3) rfl) $$ [He3 HO]
  · isplitr; · iexact HR
    isplitl [He3]; · iexact He3
    iexact HO
  iintro ⟨He3, Hs, HO⟩
  ihave Hrs := (unstage3 c) $$ [Hs Hrs]
  · isplitl [Hs]; · iexact Hs
    iexact Hrs
  iapply (waitLanded I K c 3 (dst := slot 3) rfl) $$ [He3 HO]
  · isplitr; · iexact HR
    isplitl [He3]; · iexact He3
    iexact HO
  iintro ⟨He3, Hl3, HO⟩
  iapply (ld c) $$ Hacc; iintro Hacc
  ihave Hl3 := (landed3 I c) $$ Hl3
  iapply (ldSlice c) $$ Hl3; iintro Hl3
  iapply (ld c) $$ Hacc; iintro Hacc
  iapply (run_ret c)
  try delta val706
  try delta val699
  ihave Hl3 := (atLanded3 I c) $$ Hl3
  iapply Hk'
  isplitl [Hrs]; · iexact Hrs
  isplitl [He3]; · iexact He3
  isplitl [HO]; · iexact HO
  isplitl [Hl3]; · iexact Hl3
  iexact Hacc

theorem part21 (v672 : BitVec 32) (Kt : (Vec F S64x64 .f32) → sProp 𝕄) :
    iprop(at' c accM (acc35 I c))
      ⊢ iprop((iprop(at' c accM (acc40 I c)) -∗ Kt (val748 I c))
          -∗ run c (k0_part21 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v672 (val706 I c)) Kt) := by
  rw [k0_part21_eq_skeleton]; unfold k0_part21_skel
  iintro Hacc Hk'
  dsimp only
  iapply (st c) $$ Hacc; iintro Hacc
  iapply (ld c) $$ Hacc; iintro Hacc
  iapply (ld c) $$ Hacc; iintro Hacc
  iapply (ld c) $$ Hacc; iintro Hacc
  iapply (st c) $$ Hacc; iintro Hacc
  iapply (ld c) $$ Hacc; iintro Hacc
  iapply (ld c) $$ Hacc; iintro Hacc
  iapply (ld c) $$ Hacc; iintro Hacc
  iapply (st c) $$ Hacc; iintro Hacc
  iapply (ld c) $$ Hacc; iintro Hacc
  iapply (ld c) $$ Hacc; iintro Hacc
  iapply (ld c) $$ Hacc; iintro Hacc
  iapply (st c) $$ Hacc; iintro Hacc
  iapply (ld c) $$ Hacc; iintro Hacc
  iapply (ld c) $$ Hacc; iintro Hacc
  iapply (ld c) $$ Hacc; iintro Hacc
  iapply (st c) $$ Hacc; iintro Hacc
  iapply (ld c) $$ Hacc; iintro Hacc
  iapply (run_ret c)
  try delta val748
  try delta acc40
  try delta val740
  try delta val738
  try delta acc39
  try delta val730
  try delta val728
  try delta acc38
  try delta val720
  try delta val718
  try delta acc37
  try delta val710
  try delta val708
  try delta acc36
  iapply Hk'
  iexact Hacc

theorem part22 (v2 : BitVec 32) (v672 : BitVec 32) (Kt : (Σ' (v788 : BitVec 32), Vec F S64x512 .f32) → sProp 𝕄) :
    iprop(at' c accM (acc40 I c))
      ⊢ iprop((iprop(at' c accM (acc44 I c)) -∗ Kt ⟨(Scalar.andi (Scalar.shrsi v2 3#32) 1#32), (val790 I c)⟩)
          -∗ run c (k0_part22 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 v672 (val748 I c)) Kt) := by
  rw [k0_part22_eq_skeleton]; unfold k0_part22_skel
  iintro Hacc Hk'
  dsimp only
  iapply (ld c) $$ Hacc; iintro Hacc
  iapply (ld c) $$ Hacc; iintro Hacc
  iapply (st c) $$ Hacc; iintro Hacc
  iapply (ld c) $$ Hacc; iintro Hacc
  iapply (ld c) $$ Hacc; iintro Hacc
  iapply (ld c) $$ Hacc; iintro Hacc
  iapply (st c) $$ Hacc; iintro Hacc
  iapply (ld c) $$ Hacc; iintro Hacc
  iapply (ld c) $$ Hacc; iintro Hacc
  iapply (ld c) $$ Hacc; iintro Hacc
  iapply (st c) $$ Hacc; iintro Hacc
  iapply (ld c) $$ Hacc; iintro Hacc
  iapply (ld c) $$ Hacc; iintro Hacc
  iapply (ld c) $$ Hacc; iintro Hacc
  iapply (st c) $$ Hacc; iintro Hacc
  iapply (ld c) $$ Hacc; iintro Hacc
  iapply (run_ret c)
  try delta val790
  try delta acc44
  try delta val780
  try delta val778
  try delta acc43
  try delta val770
  try delta val768
  try delta acc42
  try delta val760
  try delta val758
  try delta acc41
  try delta val750
  iapply Hk'
  iexact Hacc

end

end Cert.KernelIdealProof

end

end
-- ==== Proof.KernelIdealPartsD.lean ====
/-
# The all-gather exchanges

One rule per printed part of the body: the all-gather exchanges and the first half of the result.
-/
module

public import proofs.«01_k».proof.Proof.KernelIdealStages

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (I : Inputs F) (K : Dev nD × Cell → ℕ) (c : Dev nD)

theorem part23 (v2 : BitVec 32) (v672 : BitVec 32) (v788 : BitVec 32) (Kt : (BitVec 32) → sProp 𝕄) :
    iprop(records I K ∗ someAt c agStage ∗ (ready 4 c ∗ slotAny 4 (peer 4 c)) ∗ owesAny c (owedFrom 4 c))
      ⊢ iprop((iprop(someAt c agStage ∗ finished 4 c ∗ owesAny c (owedFrom 5 c) ∗ landed I 4 c) -∗ Kt (Scalar.subi (Scalar.addi v672 64#32) (Scalar.muli (Scalar.muli 2#32 v788) 64#32)))
          -∗ run c (k0_part23 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 v672 v788 (val790 I c)) Kt) := by
  rw [k0_part23_eq_skeleton]; unfold k0_part23_skel
  iintro ⟨#HR, Hag, He4, HO⟩ Hk'
  dsimp only
  icases Hag with ⟨%Y, Hag⟩
  iapply (ld c) $$ Hag; iintro Hag
  iapply (st c) $$ Hag; iintro Hag
  ihave Hw := (staged4 I c Y)
  try delta sent4
  ihave Hag := Hw $$ Hag
  unfold staged; icases Hag with ⟨Hs, Hag⟩; icases He4 with ⟨He4, Hd⟩
  iapply (send I K c 4 _ (dev9_eq c)) $$ [Hs Hd He4 HO]
  · isplitr; · iexact HR
    isplitl [Hs]; · iexact Hs
    isplitl [Hd]; · iexact Hd
    isplitl [He4]; · iexact He4
    iexact HO
  iintro ⟨He4, HO⟩
  iapply (waitSent I K c 4 (dst := stageSl 4) rfl) $$ [He4 HO]
  · isplitr; · iexact HR
    isplitl [He4]; · iexact He4
    iexact HO
  iintro ⟨He4, Hs, HO⟩
  ihave Hag := (unstage4 c) $$ [Hs Hag]
  · isplitl [Hs]; · iexact Hs
    iexact Hag
  iapply (waitLanded I K c 4 (dst := slot 4) rfl) $$ [He4 HO]
  · isplitr; · iexact HR
    isplitl [He4]; · iexact He4
    iexact HO
  iintro ⟨He4, Hl4, HO⟩
  iapply (run_ret c)
  iapply Hk'
  isplitl [Hag]; · iexact Hag
  isplitl [He4]; · iexact He4
  isplitl [HO]; · iexact HO
  iexact Hl4

theorem part24 (v2 : BitVec 32) (v672 : BitVec 32) (v788 : BitVec 32) (v817 : BitVec 32) (Kt : (Σ' (v825 : BitVec 32) (v827 : BitVec 32), BitVec 32) → sProp 𝕄) :
    iprop(records I K ∗ landed I 4 c ∗ at' c accM (acc44 I c) ∗ someAt c agStage ∗ (ready 5 c ∗ slotAny 5 (peer 5 c)) ∗ owesAny c (owedFrom 5 c))
      ⊢ iprop((iprop(landed I 4 c ∗ at' c accM (acc45 I c) ∗ someAt c agStage ∗ awaiting 5 c ∗ owesAny c (owedFrom 6 c)) -∗ Kt ⟨(Scalar.subi v672 (Scalar.muli v788 64#32)), (Scalar.andi (Scalar.shrsi v2 2#32) 1#32), (Scalar.xori v2 4#32)⟩)
          -∗ run c (k0_part24 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 v672 v788 v817) Kt) := by
  rw [k0_part24_eq_skeleton]; unfold k0_part24_skel
  iintro ⟨#HR, Hl4, Hacc, Hag, He5, HO⟩ Hk'
  dsimp only
  ihave Hl4 := (landed4 I c) $$ Hl4
  iapply (ldSlice c) $$ Hl4; iintro Hl4
  iapply (ld c) $$ Hacc; iintro Hacc
  iapply (st c) $$ Hacc; iintro Hacc
  iapply (ld c) $$ Hacc; iintro Hacc
  icases Hag with ⟨%Y, Hag⟩
  iapply (ld c) $$ Hag; iintro Hag
  iapply (st c) $$ Hag; iintro Hag
  ihave Hw := (staged5 I c Y)
  try delta sent5
  try delta val829
  try delta acc45
  ihave Hag := Hw $$ Hag
  unfold staged; icases Hag with ⟨Hs, Hag⟩; icases He5 with ⟨He5, Hd⟩
  iapply (send I K c 5 _ (dev10_eq c)) $$ [Hs Hd He5 HO]
  · isplitr; · iexact HR
    isplitl [Hs]; · iexact Hs
    isplitl [Hd]; · iexact Hd
    isplitl [He5]; · iexact He5
    iexact HO
  iintro ⟨He5, HO⟩
  iapply (waitSent I K c 5 (dst := stageSl 5) rfl) $$ [He5 HO]
  · isplitr; · iexact HR
    isplitl [He5]; · iexact He5
    iexact HO
  iintro ⟨He5, Hs, HO⟩
  ihave Hag := (unstage5 c) $$ [Hs Hag]
  · isplitl [Hs]; · iexact Hs
    iexact Hag
  iapply (run_ret c)
  try delta acc45
  ihave Hl4 := (atLanded4 I c) $$ Hl4
  iapply Hk'
  isplitl [Hl4]; · iexact Hl4
  isplitl [Hacc]; · iexact Hacc
  isplitl [Hag]; · iexact Hag
  isplitl [He5]; · iexact He5
  iexact HO

theorem part25 (v2 : BitVec 32) (v825 : BitVec 32) (v827 : BitVec 32) (v834 : BitVec 32) (Kt : (Σ' (v864 : BitVec 32) (v866 : BitVec 32), BitVec 32) → sProp 𝕄) :
    iprop(records I K ∗ owesAny c (owedFrom 6 c) ∗ awaiting 5 c ∗ at' c accM (acc45 I c) ∗ someAt c agStage)
      ⊢ iprop((iprop(owesAny c (owedFrom 6 c) ∗ finished 5 c ∗ landed I 5 c ∗ at' c accM (acc46 I c) ∗ staged I 6 c) -∗ Kt ⟨(Scalar.subi v825 (Scalar.muli v827 128#32)), (Scalar.andi (Scalar.shrsi v2 1#32) 1#32), (Scalar.xori v2 2#32)⟩)
          -∗ run c (k0_part25 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 v825 v827 v834) Kt) := by
  rw [k0_part25_eq_skeleton]; unfold k0_part25_skel
  iintro ⟨#HR, HO, He5, Hacc, Hag⟩ Hk'
  dsimp only
  iapply (waitLanded I K c 5 (dst := slot 5) rfl) $$ [He5 HO]
  · isplitr; · iexact HR
    isplitl [He5]; · iexact He5
    iexact HO
  iintro ⟨He5, Hl5, HO⟩
  ihave Hl5 := (landed5 I c) $$ Hl5
  iapply (ldSlice c) $$ Hl5; iintro Hl5
  iapply (ld c) $$ Hacc; iintro Hacc
  iapply (st c) $$ Hacc; iintro Hacc
  iapply (ld c) $$ Hacc; iintro Hacc
  icases Hag with ⟨%Y, Hag⟩
  iapply (ld c) $$ Hag; iintro Hag
  iapply (st c) $$ Hag; iintro Hag
  ihave Hw := (staged6 I c Y)
  try delta sent6
  try delta val868
  try delta acc46
  ihave Hag := Hw $$ Hag
  iapply (run_ret c)
  try delta acc46
  ihave Hl5 := (atLanded5 I c) $$ Hl5
  iapply Hk'
  isplitl [HO]; · iexact HO
  isplitl [He5]; · iexact He5
  isplitl [Hl5]; · iexact Hl5
  isplitl [Hacc]; · iexact Hacc
  iexact Hag

theorem part26 (v2 : BitVec 32) (v864 : BitVec 32) (v866 : BitVec 32) (v873 : BitVec 32) (Kt : (Σ' (v903 : BitVec 32) (v905 : BitVec 32), Vec F S512x512 .f32) → sProp 𝕄) :
    iprop(records I K ∗ (ready 6 c ∗ slotAny 6 (peer 6 c)) ∗ owesAny c (owedFrom 6 c) ∗ staged I 6 c ∗ at' c accM (acc46 I c))
      ⊢ iprop((iprop(finished 6 c ∗ owesAny c (owedFrom 7 c) ∗ someAt c agStage ∗ landed I 6 c ∗ at' c accM (acc47 I c)) -∗ Kt ⟨(Scalar.subi v864 (Scalar.muli v866 256#32)), (Scalar.andi (Scalar.shrsi v2 0#32) 1#32), (val907 I c)⟩)
          -∗ run c (k0_part26 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 v864 v866 v873) Kt) := by
  rw [k0_part26_eq_skeleton]; unfold k0_part26_skel
  iintro ⟨#HR, He6, HO, Hag, Hacc⟩ Hk'
  dsimp only
  unfold staged; icases Hag with ⟨Hs, Hag⟩; icases He6 with ⟨He6, Hd⟩
  iapply (send I K c 6 _ (dev11_eq c)) $$ [Hs Hd He6 HO]
  · isplitr; · iexact HR
    isplitl [Hs]; · iexact Hs
    isplitl [Hd]; · iexact Hd
    isplitl [He6]; · iexact He6
    iexact HO
  iintro ⟨He6, HO⟩
  iapply (waitSent I K c 6 (dst := stageSl 6) rfl) $$ [He6 HO]
  · isplitr; · iexact HR
    isplitl [He6]; · iexact He6
    iexact HO
  iintro ⟨He6, Hs, HO⟩
  ihave Hag := (unstage6 c) $$ [Hs Hag]
  · isplitl [Hs]; · iexact Hs
    iexact Hag
  iapply (waitLanded I K c 6 (dst := slot 6) rfl) $$ [He6 HO]
  · isplitr; · iexact HR
    isplitl [He6]; · iexact He6
    iexact HO
  iintro ⟨He6, Hl6, HO⟩
  ihave Hl6 := (landed6 I c) $$ Hl6
  iapply (ldSlice c) $$ Hl6; iintro Hl6
  iapply (ld c) $$ Hacc; iintro Hacc
  iapply (st c) $$ Hacc; iintro Hacc
  iapply (ld c) $$ Hacc; iintro Hacc
  iapply (run_ret c)
  try delta val907
  try delta acc47
  ihave Hl6 := (atLanded6 I c) $$ Hl6
  iapply Hk'
  isplitl [He6]; · iexact He6
  isplitl [HO]; · iexact HO
  isplitl [Hag]; · iexact Hag
  isplitl [Hl6]; · iexact Hl6
  iexact Hacc

theorem part27 (v2 : BitVec 32) (v83 : BitVec 32) (Kt : (Σ' (v934 : BitVec 32), BitVec 32) → sProp 𝕄) :
    iprop(records I K ∗ someAt c agStage ∗ (ready 7 c ∗ slotAny 7 (peer 7 c)) ∗ owesAny c (owedFrom 7 c) ∗ at' c accM (acc47 I c) ∗ at' c woM (I.wo c) ∗ someAt c outM)
      ⊢ iprop((iprop(someAt c agStage ∗ awaiting 7 c ∗ owesAny c (owedFrom 8 c) ∗ at' c accM (acc47 I c) ∗ at' c woM (I.wo c) ∗ halfOut I c) -∗ Kt ⟨(Scalar.muli (Scalar.xori v2 1#32) 1#32), 0#32⟩)
          -∗ run c (k0_part27 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 c v2 v83 (val907 I c)) Kt) := by
  rw [k0_part27_eq_skeleton]; unfold k0_part27_skel
  iintro ⟨#HR, Hag, He7, HO, Hacc, Hwo, Hout⟩ Hk'
  dsimp only
  icases Hag with ⟨%Y, Hag⟩
  iapply (ld c) $$ Hag; iintro Hag
  iapply (st c) $$ Hag; iintro Hag
  ihave Hw := (staged7 I c Y)
  try delta sent7
  ihave Hag := Hw $$ Hag
  unfold staged; icases Hag with ⟨Hs, Hag⟩; icases He7 with ⟨He7, Hd⟩
  iapply (send I K c 7 _ (dev12_eq c)) $$ [Hs Hd He7 HO]
  · isplitr; · iexact HR
    isplitl [Hs]; · iexact Hs
    isplitl [Hd]; · iexact Hd
    isplitl [He7]; · iexact He7
    iexact HO
  iintro ⟨He7, HO⟩
  iapply (ld c) $$ Hacc; iintro Hacc
  iapply (ld c) $$ Hwo; iintro Hwo
  icases Hout with ⟨%Z, Hout⟩
  iapply (ld c) $$ Hout; iintro Hout
  iapply (st c) $$ Hout; iintro Hout
  ihave Hw := (halfOut_intro I c Z)
  try delta val924
  try delta val923
  ihave Hout := Hw $$ Hout
  iapply (waitSent I K c 7 (dst := stageSl 7) rfl) $$ [He7 HO]
  · isplitr; · iexact HR
    isplitl [He7]; · iexact He7
    iexact HO
  iintro ⟨He7, Hs, HO⟩
  ihave Hag := (unstage7 c) $$ [Hs Hag]
  · isplitl [Hs]; · iexact Hs
    iexact Hag
  iapply (run_ret c)
  iapply Hk'
  isplitl [Hag]; · iexact Hag
  isplitl [He7]; · iexact He7
  isplitl [HO]; · iexact HO
  isplitl [Hacc]; · iexact Hacc
  isplitl [Hwo]; · iexact Hwo
  iexact Hout

end

end Cert.KernelIdealProof

end

end
-- ==== Proof.KernelIdealBody.lean ====
/-
# The body of the launch on one device

The rules of the parts put together: what device `c` starts with, and what it has once its part of the kernel has run.
-/
module

public import proofs.«01_k».proof.Proof.KernelIdealPartsA
public import proofs.«01_k».proof.Proof.KernelIdealPartsB
public import proofs.«01_k».proof.Proof.KernelIdealPartsC
public import proofs.«01_k».proof.Proof.KernelIdealPartsD

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (I : Inputs F) (K : Dev nD × Cell → ℕ) (c : Dev nD)

theorem owed_start : owesAny (F := F) c (owedBar ((3 : Fin 4).val + 1) c) ⊢ owesAny c (owedFrom 0 c) :=
  Entails.of_eq (congrArg (owesAny c) (owedBar_end c))

theorem barPay_elim0 : barPay (F := F) 0 c ⊢ iprop(slotAny 0 (peer 0 c) ∗ slotAny 7 (peer 7 c)) := .rfl
theorem barPay_elim1 : barPay (F := F) 1 c ⊢ iprop(slotAny 1 (peer 1 c) ∗ slotAny 6 (peer 6 c)) := .rfl
theorem barPay_elim2 : barPay (F := F) 2 c ⊢ iprop(slotAny 2 (peer 2 c) ∗ slotAny 5 (peer 5 c)) := .rfl
theorem barPay_elim3 : barPay (F := F) 3 c ⊢ iprop(slotAny 3 (peer 3 c) ∗ slotAny 4 (peer 4 c)) := .rfl

/-- The barrier: device `c` lends its landing slots to its neighbours and is lent theirs. -/
theorem part1 (Kt : (Σ' (d0 : Dev nD) (v2 : BitVec 32) (v16 : IVec S512x512 32) (v17 : IVec S512x512 32) (c64_i32 : BitVec 32) (v19 : IVec S512x512 32) (v26 : IVec S512x512 32) (v28 : BitVec 32), BitVec 32) → sProp 𝕄) :
    iprop(records I K ∗ slotAny 0 c ∗ slotAny 1 c ∗ slotAny 2 c ∗ slotAny 3 c ∗ slotAny 4 c ∗ slotAny 5 c ∗ slotAny 6 c ∗ slotAny 7 c ∗ dutyTok ER (barC (flip 0 c)) 0 0 ∗ dutyTok ER (barC (flip 1 c)) 0 1 ∗ dutyTok ER (barC (flip 2 c)) 0 2 ∗ dutyTok ER (barC (flip 3 c)) 0 3 ∗ cred (tallyAt (barC c) () 4) ∗ atPos ER (barC c) 0 ∅ 0 ∗ owesAny c (owedBar 0 c))
      ⊢ iprop((iprop(slotAny 0 (peer 0 c) ∗ slotAny 1 (peer 1 c) ∗ slotAny 2 (peer 2 c) ∗ slotAny 3 (peer 3 c) ∗ slotAny 4 (peer 4 c) ∗ slotAny 5 (peer 5 c) ∗ slotAny 6 (peer 6 c) ∗ slotAny 7 (peer 7 c) ∗ semVal (barC c) 0 ∗ owesAny c (owedFrom 0 c)) -∗ Kt ⟨c, (Scalar.remsi (Scalar.divsi (Dev.word c) 1#32) 16#32), (val16 I c), (val17 I c), 64#32, (val19 I c), (val26 I c), (Scalar.extui (Scalar.cmpi .sgt 64#32 0#32)), 0#32⟩)
          -∗ run c (k0_part1 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6) Kt) := by
  rw [k0_part1_eq_skeleton]; unfold k0_part1_skel
  iintro ⟨#HR, Hq0, Hq1, Hq2, Hq3, Hq4, Hq5, Hq6, Hq7, Ht0, Ht1, Ht2, Ht3, Hcr, Hat, HO⟩ Hk'
  iapply (devId c)
  dsimp only
  iapply (signal I K c 0 _ (dev1_eq c)) $$ [Hq0 Hq7 Ht0 HO]
  · isplitr; · iexact HR
    isplitl [Hq0]; · iexact Hq0
    isplitl [Hq7]; · iexact Hq7
    isplitl [Ht0]; · iexact Ht0
    iexact HO
  iintro HO
  iapply (signal I K c 1 _ (dev2_eq c)) $$ [Hq1 Hq6 Ht1 HO]
  · isplitr; · iexact HR
    isplitl [Hq1]; · iexact Hq1
    isplitl [Hq6]; · iexact Hq6
    isplitl [Ht1]; · iexact Ht1
    iexact HO
  iintro HO
  iapply (signal I K c 2 _ (dev3_eq c)) $$ [Hq2 Hq5 Ht2 HO]
  · isplitr; · iexact HR
    isplitl [Hq2]; · iexact Hq2
    isplitl [Hq5]; · iexact Hq5
    isplitl [Ht2]; · iexact Ht2
    iexact HO
  iintro HO
  iapply (signal I K c 3 _ (dev4_eq c)) $$ [Hq3 Hq4 Ht3 HO]
  · isplitr; · iexact HR
    isplitl [Hq3]; · iexact Hq3
    isplitl [Hq4]; · iexact Hq4
    isplitl [Ht3]; · iexact Ht3
    iexact HO
  iintro HO
  ihave HO := (owed_start c) $$ HO
  iapply (barWait I K c) $$ [Hcr Hat HO]
  · isplitr; · iexact HR
    isplitl [Hcr]; · iexact Hcr
    isplitl [Hat]; · iexact Hat
    iexact HO
  iintro ⟨⟨B0, B1, B2, B3⟩, Hsv, HO⟩
  ihave B0 := (barPay_elim0 c) $$ B0; icases B0 with ⟨Hq0, Hq7⟩
  ihave B1 := (barPay_elim1 c) $$ B1; icases B1 with ⟨Hq1, Hq6⟩
  ihave B2 := (barPay_elim2 c) $$ B2; icases B2 with ⟨Hq2, Hq5⟩
  ihave B3 := (barPay_elim3 c) $$ B3; icases B3 with ⟨Hq3, Hq4⟩
  iapply (run_ret c)
  try delta val26
  try delta val19
  try delta val17
  try delta val16
  iapply Hk'
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hsv]; · iexact Hsv
  iexact HO

/-- The mask, up to its last comparison. -/
theorem part2 (Kt : (Σ' (v72 : IVec S512x512 1) (v75 : IVec S512x512 32), BitVec 32) → sProp 𝕄) :
    Kt ⟨(val72 I c), (val75 I c), 0#32⟩ ⊢ run c (k0_part2 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6 (Scalar.remsi (Scalar.divsi (Dev.word c) 1#32) 16#32) (val16 I c) (val17 I c) 64#32 (val19 I c) (val26 I c) (Scalar.extui (Scalar.cmpi .sgt 64#32 0#32)) 0#32) Kt := by
  rw [k0_part2_eq_skeleton]; unfold k0_part2_skel
  iintro Hk'
  iapply (run_ret c)
  delta val72 val75
  iexact Hk'

theorem pair_intro (X Y : sProp 𝕄) : iprop(X ∗ Y) ⊢ iprop(X ∗ Y) := .rfl

/-- Everything up to the last exchange's rows. -/
theorem part28 (Kt : (Σ' (d0 : Dev nD), BitVec 32) → sProp 𝕄) :
    iprop(records I K ∗ at' c xM (I.x c) ∗ at' c wqM (I.wq c) ∗ at' c kM (I.k c) ∗ at' c vM (I.v c) ∗ at' c woM (I.wo c) ∗ someAt c outM ∗ someAt c accM ∗ someAt c rsStage ∗ someAt c agStage ∗ slotAny 0 c ∗ slotAny 1 c ∗ slotAny 2 c ∗ slotAny 3 c ∗ slotAny 4 c ∗ slotAny 5 c ∗ slotAny 6 c ∗ slotAny 7 c ∗ dutyTok ER (barC (flip 0 c)) 0 0 ∗ dutyTok ER (barC (flip 1 c)) 0 1 ∗ dutyTok ER (barC (flip 2 c)) 0 2 ∗ dutyTok ER (barC (flip 3 c)) 0 3 ∗ cred (tallyAt (barC c) () 4) ∗ atPos ER (barC c) 0 ∅ 0 ∗ ready 0 c ∗ ready 1 c ∗ ready 2 c ∗ ready 3 c ∗ ready 4 c ∗ ready 5 c ∗ ready 6 c ∗ ready 7 c ∗ owesAny c (owedBar 0 c))
      ⊢ iprop((iprop(at' c xM (I.x c) ∗ at' c wqM (I.wq c) ∗ at' c kM (I.k c) ∗ at' c vM (I.v c) ∗ at' c woM (I.wo c) ∗ halfOut I c ∗ at' c accM (acc48 I c) ∗ someAt c rsStage ∗ someAt c agStage ∗ landed I 0 c ∗ landed I 1 c ∗ landed I 2 c ∗ landed I 3 c ∗ landed I 4 c ∗ landed I 5 c ∗ landed I 6 c ∗ landed I 7 c ∗ finished 0 c ∗ finished 1 c ∗ finished 2 c ∗ finished 3 c ∗ finished 4 c ∗ finished 5 c ∗ finished 6 c ∗ finished 7 c ∗ semVal (barC c) 0 ∗ owesAny c (owedFrom 8 c)) -∗ Kt ⟨c, Scalar.subi 1#32 (Scalar.andi (Scalar.remsi (Scalar.divsi (Dev.word c) 1#32) 16#32) 1#32)⟩)
          -∗ run c (k0_part28 xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6) Kt) := by
  rw [k0_part28_eq_skeleton]; unfold k0_part28_skel
  iintro ⟨#HR, Hx, Hwq, Hk, Hv, Hwo, Hout, Hacc, Hrs, Hag, Hq0, Hq1, Hq2, Hq3, Hq4, Hq5, Hq6, Hq7, Ht0, Ht1, Ht2, Ht3, Hcr, Hat, He0, He1, He2, He3, He4, He5, He6, He7, HO⟩ Hk'
  iapply (run_bind c)
  iapply (part1 I K c _) $$ [Hq0 Hq1 Hq2 Hq3 Hq4 Hq5 Hq6 Hq7 Ht0 Ht1 Ht2 Ht3 Hcr Hat HO]
  · isplitr; · iexact HR
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Ht0]; · iexact Ht0
    isplitl [Ht1]; · iexact Ht1
    isplitl [Ht2]; · iexact Ht2
    isplitl [Ht3]; · iexact Ht3
    isplitl [Hcr]; · iexact Hcr
    isplitl [Hat]; · iexact Hat
    iexact HO
  iintro ⟨Hq0, Hq1, Hq2, Hq3, Hq4, Hq5, Hq6, Hq7, Hsv, HO⟩; try dsimp only
  iapply (run_bind c); iapply (part2 I c _); try dsimp only
  ihave He0 := (pair_intro (ready 0 c) (slotAny 0 (peer 0 c))) $$ [He0 Hq0]
  · isplitl [He0]; · iexact He0
    iexact Hq0
  ihave He1 := (pair_intro (ready 1 c) (slotAny 1 (peer 1 c))) $$ [He1 Hq1]
  · isplitl [He1]; · iexact He1
    iexact Hq1
  ihave He2 := (pair_intro (ready 2 c) (slotAny 2 (peer 2 c))) $$ [He2 Hq2]
  · isplitl [He2]; · iexact He2
    iexact Hq2
  ihave He3 := (pair_intro (ready 3 c) (slotAny 3 (peer 3 c))) $$ [He3 Hq3]
  · isplitl [He3]; · iexact He3
    iexact Hq3
  ihave He4 := (pair_intro (ready 4 c) (slotAny 4 (peer 4 c))) $$ [He4 Hq4]
  · isplitl [He4]; · iexact He4
    iexact Hq4
  ihave He5 := (pair_intro (ready 5 c) (slotAny 5 (peer 5 c))) $$ [He5 Hq5]
  · isplitl [He5]; · iexact He5
    iexact Hq5
  ihave He6 := (pair_intro (ready 6 c) (slotAny 6 (peer 6 c))) $$ [He6 Hq6]
  · isplitl [He6]; · iexact He6
    iexact Hq6
  ihave He7 := (pair_intro (ready 7 c) (slotAny 7 (peer 7 c))) $$ [He7 Hq7]
  · isplitl [He7]; · iexact He7
    iexact Hq7
  iapply (run_bind c)
  iapply (part3 I c _) $$ [Hacc Hx Hwq Hk Hv]
  · isplitl [Hacc]; · iexact Hacc
    isplitl [Hx]; · iexact Hx
    isplitl [Hwq]; · iexact Hwq
    isplitl [Hk]; · iexact Hk
    iexact Hv
  iintro ⟨Hacc, Hx, Hwq, Hk, Hv⟩; try dsimp only
  iapply (run_bind c)
  iapply (part4 I c _ _) $$ [Hacc Hk Hv]
  · isplitl [Hacc]; · iexact Hacc
    isplitl [Hk]; · iexact Hk
    iexact Hv
  iintro ⟨Hacc, Hk, Hv⟩; try dsimp only
  iapply (run_bind c)
  iapply (part5 I c _ _) $$ [Hk Hv Hacc]
  · isplitl [Hk]; · iexact Hk
    isplitl [Hv]; · iexact Hv
    iexact Hacc
  iintro ⟨Hk, Hv, Hacc⟩; try dsimp only
  iapply (run_bind c)
  iapply (part6 I c _ _) $$ [Hacc Hk Hv]
  · isplitl [Hacc]; · iexact Hacc
    isplitl [Hk]; · iexact Hk
    iexact Hv
  iintro ⟨Hacc, Hk, Hv⟩; try dsimp only
  iapply (run_bind c)
  iapply (part7 I c _ _) $$ [Hacc Hk Hv]
  · isplitl [Hacc]; · iexact Hacc
    isplitl [Hk]; · iexact Hk
    iexact Hv
  iintro ⟨Hacc, Hk, Hv⟩; try dsimp only
  iapply (run_bind c)
  iapply (part8 I c _ _) $$ [Hk Hv Hacc]
  · isplitl [Hk]; · iexact Hk
    isplitl [Hv]; · iexact Hv
    iexact Hacc
  iintro ⟨Hk, Hv, Hacc⟩; try dsimp only
  iapply (run_bind c)
  iapply (part9 I K c _ _ _ _) $$ [Hacc Hrs He0 HO]
  · isplitr; · iexact HR
    isplitl [Hacc]; · iexact Hacc
    isplitl [Hrs]; · iexact Hrs
    isplitl [He0]; · iexact He0
    iexact HO
  iintro ⟨Hacc, Hrs, He0, HO⟩; try dsimp only
  iapply (run_bind c)
  iapply (part10 I c _ _) $$ [Hx Hwq Hk Hv Hacc]
  · isplitl [Hx]; · iexact Hx
    isplitl [Hwq]; · iexact Hwq
    isplitl [Hk]; · iexact Hk
    isplitl [Hv]; · iexact Hv
    iexact Hacc
  iintro ⟨Hx, Hwq, Hk, Hv, Hacc⟩; try dsimp only
  iapply (run_bind c)
  iapply (part11 I c _ _) $$ [Hk Hv Hacc]
  · isplitl [Hk]; · iexact Hk
    isplitl [Hv]; · iexact Hv
    iexact Hacc
  iintro ⟨Hk, Hv, Hacc⟩; try dsimp only
  iapply (run_bind c)
  iapply (part12 I c _ _) $$ [Hacc Hk Hv]
  · isplitl [Hacc]; · iexact Hacc
    isplitl [Hk]; · iexact Hk
    iexact Hv
  iintro ⟨Hacc, Hk, Hv⟩; try dsimp only
  iapply (run_bind c)
  iapply (part13 I c _ _) $$ [Hacc Hk Hv]
  · isplitl [Hacc]; · iexact Hacc
    isplitl [Hk]; · iexact Hk
    iexact Hv
  iintro ⟨Hacc, Hk, Hv⟩; try dsimp only
  iapply (run_bind c)
  iapply (part14 I c _ _) $$ [Hk Hv Hacc]
  · isplitl [Hk]; · iexact Hk
    isplitl [Hv]; · iexact Hv
    iexact Hacc
  iintro ⟨Hk, Hv, Hacc⟩; try dsimp only
  iapply (run_bind c)
  iapply (part15 I c _ _) $$ [Hacc Hk Hv]
  · isplitl [Hacc]; · iexact Hacc
    isplitl [Hk]; · iexact Hk
    iexact Hv
  iintro ⟨Hacc, Hk, Hv⟩; try dsimp only
  iapply (run_bind c)
  iapply (part16 I K c _ _ _ _) $$ [Hacc HO He0 Hrs]
  · isplitr; · iexact HR
    isplitl [Hacc]; · iexact Hacc
    isplitl [HO]; · iexact HO
    isplitl [He0]; · iexact He0
    iexact Hrs
  iintro ⟨Hacc, HO, He0, Hrs, Hl0⟩; try dsimp only
  iapply (run_bind c)
  iapply (part17 I K c _ _ _ _ _) $$ [Hacc Hrs He1 HO]
  · isplitr; · iexact HR
    isplitl [Hacc]; · iexact Hacc
    isplitl [Hrs]; · iexact Hrs
    isplitl [He1]; · iexact He1
    iexact HO
  iintro ⟨Hacc, Hrs, He1, HO⟩; try dsimp only
  iapply (run_bind c)
  iapply (part18 I K c _ _ _) $$ [HO He1 Hacc Hrs He2]
  · isplitr; · iexact HR
    isplitl [HO]; · iexact HO
    isplitl [He1]; · iexact He1
    isplitl [Hacc]; · iexact Hacc
    isplitl [Hrs]; · iexact Hrs
    iexact He2
  iintro ⟨HO, He1, Hl1, Hacc, Hrs, He2⟩; try dsimp only
  iapply (run_bind c)
  iapply (part19 I K c _ _ _ _) $$ [HO He2 Hrs Hacc]
  · isplitr; · iexact HR
    isplitl [HO]; · iexact HO
    isplitl [He2]; · iexact He2
    isplitl [Hrs]; · iexact Hrs
    iexact Hacc
  iintro ⟨HO, He2, Hrs, Hl2, Hacc⟩; try dsimp only
  iapply (run_bind c)
  iapply (part20 I K c _ _ _) $$ [Hrs He3 HO Hacc]
  · isplitr; · iexact HR
    isplitl [Hrs]; · iexact Hrs
    isplitl [He3]; · iexact He3
    isplitl [HO]; · iexact HO
    iexact Hacc
  iintro ⟨Hrs, He3, HO, Hl3, Hacc⟩; try dsimp only
  iapply (run_bind c)
  iapply (part21 I c _ _) $$ [Hacc]
  · iexact Hacc
  iintro Hacc; try dsimp only
  iapply (run_bind c)
  iapply (part22 I c _ _ _) $$ [Hacc]
  · iexact Hacc
  iintro Hacc; try dsimp only
  iapply (run_bind c)
  iapply (part23 I K c _ _ _ _) $$ [Hag He4 HO]
  · isplitr; · iexact HR
    isplitl [Hag]; · iexact Hag
    isplitl [He4]; · iexact He4
    iexact HO
  iintro ⟨Hag, He4, HO, Hl4⟩; try dsimp only
  iapply (run_bind c)
  iapply (part24 I K c _ _ _ _ _) $$ [Hl4 Hacc Hag He5 HO]
  · isplitr; · iexact HR
    isplitl [Hl4]; · iexact Hl4
    isplitl [Hacc]; · iexact Hacc
    isplitl [Hag]; · iexact Hag
    isplitl [He5]; · iexact He5
    iexact HO
  iintro ⟨Hl4, Hacc, Hag, He5, HO⟩; try dsimp only
  iapply (run_bind c)
  iapply (part25 I K c _ _ _ _ _) $$ [HO He5 Hacc Hag]
  · isplitr; · iexact HR
    isplitl [HO]; · iexact HO
    isplitl [He5]; · iexact He5
    isplitl [Hacc]; · iexact Hacc
    iexact Hag
  iintro ⟨HO, He5, Hl5, Hacc, Hag⟩; try dsimp only
  iapply (run_bind c)
  iapply (part26 I K c _ _ _ _ _) $$ [He6 HO Hag Hacc]
  · isplitr; · iexact HR
    isplitl [He6]; · iexact He6
    isplitl [HO]; · iexact HO
    isplitl [Hag]; · iexact Hag
    iexact Hacc
  iintro ⟨He6, HO, Hag, Hl6, Hacc⟩; try dsimp only
  iapply (run_bind c)
  iapply (part27 I K c _ _ _) $$ [Hag He7 HO Hacc Hwo Hout]
  · isplitr; · iexact HR
    isplitl [Hag]; · iexact Hag
    isplitl [He7]; · iexact He7
    isplitl [HO]; · iexact HO
    isplitl [Hacc]; · iexact Hacc
    isplitl [Hwo]; · iexact Hwo
    iexact Hout
  iintro ⟨Hag, He7, HO, Hacc, Hwo, Hout⟩; try dsimp only
  iapply (waitLanded I K c 7 (dst := slot 7) rfl) $$ [He7 HO]
  · isplitr; · iexact HR
    isplitl [He7]; · iexact He7
    iexact HO
  iintro ⟨He7, Hl7, HO⟩
  ihave Hl7 := (landed7 I c) $$ Hl7
  iapply (ldSlice c) $$ Hl7; iintro Hl7
  iapply (ld c) $$ Hacc; iintro Hacc
  iapply (st c) $$ Hacc; iintro Hacc
  iapply (run_ret c)
  ihave Hl7 := (atLanded7 I c) $$ Hl7
  try delta acc48
  iapply Hk'
  isplitl [Hx]; · iexact Hx
  isplitl [Hwq]; · iexact Hwq
  isplitl [Hk]; · iexact Hk
  isplitl [Hv]; · iexact Hv
  isplitl [Hwo]; · iexact Hwo
  isplitl [Hout]; · iexact Hout
  isplitl [Hacc]; · iexact Hacc
  isplitl [Hrs]; · iexact Hrs
  isplitl [Hag]; · iexact Hag
  isplitl [Hl0]; · iexact Hl0
  isplitl [Hl1]; · iexact Hl1
  isplitl [Hl2]; · iexact Hl2
  isplitl [Hl3]; · iexact Hl3
  isplitl [Hl4]; · iexact Hl4
  isplitl [Hl5]; · iexact Hl5
  isplitl [Hl6]; · iexact Hl6
  isplitl [Hl7]; · iexact Hl7
  isplitl [He0]; · iexact He0
  isplitl [He1]; · iexact He1
  isplitl [He2]; · iexact He2
  isplitl [He3]; · iexact He3
  isplitl [He4]; · iexact He4
  isplitl [He5]; · iexact He5
  isplitl [He6]; · iexact He6
  isplitl [He7]; · iexact He7
  isplitl [Hsv]; · iexact Hsv
  iexact HO

/-- The body on device `c`. -/
theorem body_run (Kt : PUnit → sProp 𝕄) :
    iprop(records I K ∗ at' c xM (I.x c) ∗ at' c wqM (I.wq c) ∗ at' c kM (I.k c) ∗ at' c vM (I.v c) ∗ at' c woM (I.wo c) ∗ someAt c outM ∗ someAt c accM ∗ someAt c rsStage ∗ someAt c agStage ∗ slotAny 0 c ∗ slotAny 1 c ∗ slotAny 2 c ∗ slotAny 3 c ∗ slotAny 4 c ∗ slotAny 5 c ∗ slotAny 6 c ∗ slotAny 7 c ∗ dutyTok ER (barC (flip 0 c)) 0 0 ∗ dutyTok ER (barC (flip 1 c)) 0 1 ∗ dutyTok ER (barC (flip 2 c)) 0 2 ∗ dutyTok ER (barC (flip 3 c)) 0 3 ∗ cred (tallyAt (barC c) () 4) ∗ atPos ER (barC c) 0 ∅ 0 ∗ ready 0 c ∗ ready 1 c ∗ ready 2 c ∗ ready 3 c ∗ ready 4 c ∗ ready 5 c ∗ ready 6 c ∗ ready 7 c ∗ owesAny c (owedBar 0 c))
      ⊢ iprop((iprop(at' c xM (I.x c) ∗ at' c wqM (I.wq c) ∗ at' c kM (I.k c) ∗ at' c vM (I.v c) ∗ at' c woM (I.wo c) ∗ at' c outM (outAt I c) ∗ someAt c accM ∗ someAt c rsStage ∗ someAt c agStage ∗ landed I 0 c ∗ landed I 1 c ∗ landed I 2 c ∗ landed I 3 c ∗ landed I 4 c ∗ landed I 5 c ∗ landed I 6 c ∗ landed I 7 c ∗ finished 0 c ∗ finished 1 c ∗ finished 2 c ∗ finished 3 c ∗ finished 4 c ∗ finished 5 c ∗ finished 6 c ∗ finished 7 c ∗ semVal (barC c) 0 ∗ owesAny c (owedFrom 8 c)) -∗ Kt ⟨⟩)
          -∗ run c (cc0_body xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6) Kt) := by
  rw [cc0_body_eq_skeleton]; unfold cc0_body_skel
  iintro ⟨#HR, Hx, Hwq, Hk, Hv, Hwo, Hout, Hacc, Hrs, Hag, Hq0, Hq1, Hq2, Hq3, Hq4, Hq5, Hq6, Hq7, Ht0, Ht1, Ht2, Ht3, Hcr, Hat, He0, He1, He2, He3, He4, He5, He6, He7, HO⟩ Hk'
  iapply (run_bind c)
  iapply (part28 I K c _) $$ [Hx Hwq Hk Hv Hwo Hout Hacc Hrs Hag Hq0 Hq1 Hq2 Hq3 Hq4 Hq5 Hq6 Hq7 Ht0 Ht1 Ht2 Ht3 Hcr Hat He0 He1 He2 He3 He4 He5 He6 He7 HO]
  · isplitr; · iexact HR
    isplitl [Hx]; · iexact Hx
    isplitl [Hwq]; · iexact Hwq
    isplitl [Hk]; · iexact Hk
    isplitl [Hv]; · iexact Hv
    isplitl [Hwo]; · iexact Hwo
    isplitl [Hout]; · iexact Hout
    isplitl [Hacc]; · iexact Hacc
    isplitl [Hrs]; · iexact Hrs
    isplitl [Hag]; · iexact Hag
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Ht0]; · iexact Ht0
    isplitl [Ht1]; · iexact Ht1
    isplitl [Ht2]; · iexact Ht2
    isplitl [Ht3]; · iexact Ht3
    isplitl [Hcr]; · iexact Hcr
    isplitl [Hat]; · iexact Hat
    isplitl [He0]; · iexact He0
    isplitl [He1]; · iexact He1
    isplitl [He2]; · iexact He2
    isplitl [He3]; · iexact He3
    isplitl [He4]; · iexact He4
    isplitl [He5]; · iexact He5
    isplitl [He6]; · iexact He6
    isplitl [He7]; · iexact He7
    iexact HO
  iintro ⟨Hx, Hwq, Hk, Hv, Hwo, Hout, Hacc, Hrs, Hag, Hl0, Hl1, Hl2, Hl3, Hl4, Hl5, Hl6, Hl7, He0, He1, He2, He3, He4, He5, He6, He7, Hsv, HO⟩; try dsimp only
  iapply (ld c) $$ Hacc; iintro Hacc
  iapply (ld c) $$ Hwo; iintro Hwo
  unfold halfOut; icases Hout with ⟨%Z, Hout⟩
  iapply (ld c) $$ Hout; iintro Hout
  iapply (st c) $$ Hout; iintro Hout
  iapply (run_ret c)
  ihave Hw := (outAt_intro I c Z)
  delta val953 val954
  ihave Hout := Hw $$ Hout
  iapply Hk'
  isplitl [Hx]; · iexact Hx
  isplitl [Hwq]; · iexact Hwq
  isplitl [Hk]; · iexact Hk
  isplitl [Hv]; · iexact Hv
  isplitl [Hwo]; · iexact Hwo
  isplitl [Hout]; · iexact Hout
  isplitl [Hacc]; · iexists _; iexact Hacc
  isplitl [Hrs]; · iexact Hrs
  isplitl [Hag]; · iexact Hag
  isplitl [Hl0]; · iexact Hl0
  isplitl [Hl1]; · iexact Hl1
  isplitl [Hl2]; · iexact Hl2
  isplitl [Hl3]; · iexact Hl3
  isplitl [Hl4]; · iexact Hl4
  isplitl [Hl5]; · iexact Hl5
  isplitl [Hl6]; · iexact Hl6
  isplitl [Hl7]; · iexact Hl7
  isplitl [He0]; · iexact He0
  isplitl [He1]; · iexact He1
  isplitl [He2]; · iexact He2
  isplitl [He3]; · iexact He3
  isplitl [He4]; · iexact He4
  isplitl [He5]; · iexact He5
  isplitl [He6]; · iexact He6
  isplitl [He7]; · iexact He7
  isplitl [Hsv]; · iexact Hsv
  iexact HO

end

end Cert.KernelIdealProof

end

end
-- ==== Proof.KernelIdealSlots.lean ====
/-
# The landing buffers as slots

A landing buffer is four slots of rows, one for each exchange of its phase. Each device starts by cutting its two landing
buffers into their slots and ends by putting them together again.
-/
module

public import proofs.«01_k».proof.Proof.KernelIdealStages

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (c : Dev nD) {sp : Space} {s : Shape} {e : EltTy} (m : Memref sig .tc sp s e) (r : Fin 4 → Rect s) (hr : ∀ t a, (r t).stride a = 1)
  (hd : ∀ t t', t ≠ t' → Disjoint (r t).set (r t').set) (hcov : Finset.univ.biUnion (fun t => (r t).set) = Finset.univ)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

include hd hcov in
/-- A memref owned is each of four disjoint covering rectangles owned. -/
theorem split_four : someAt (F := F) c m ⊢ iprop(someAt c (m.slice (r 0) (hr 0)) ∗ someAt c (m.slice (r 1) (hr 1))
    ∗ someAt c (m.slice (r 2) (hr 2)) ∗ someAt c (m.slice (r 3) (hr 3))) := by
  iintro ⟨%X, H⟩
  ihave H := (owns_rects (c : Thread nD τ) m fullShare r hr hd hcov X) $$ H
  ihave H := (Entails.of_eq (bigSep_four _)) $$ H
  icases H with ⟨H0, H1, H2, H3⟩
  isplitl [H0]; · iexists _; iexact H0
  isplitl [H1]; · iexists _; iexact H1
  isplitl [H2]; · iexists _; iexact H2
  iexists _; iexact H3

include hd hcov in
/-- Four disjoint covering rectangles owned, each at some contents, are the memref owned. -/
theorem join_four : iprop(someAt (F := F) c (m.slice (r 0) (hr 0)) ∗ someAt c (m.slice (r 1) (hr 1))
    ∗ someAt c (m.slice (r 2) (hr 2)) ∗ someAt c (m.slice (r 3) (hr 3))) ⊢ someAt c m := by
  iintro ⟨⟨%w0, H0⟩, ⟨%w1, H1⟩, ⟨%w2, H2⟩, ⟨%w3, H3⟩⟩
  have hX : ∃ X : s.Idx → Elt F e, (fun j => X ((r 0).emb j)) = w0 ∧ (fun j => X ((r 1).emb j)) = w1
      ∧ (fun j => X ((r 2).emb j)) = w2 ∧ (fun j => X ((r 3).emb j)) = w3 := by
    have hn : ∀ (t t' : Fin 4) (j : (r t).shape.Idx), t ≠ t' → (r t).emb j ∉ (r t').set := fun t t' j h hm =>
      Finset.disjoint_left.mp (hd t t' h) ((r t).map_emb_univ ▸ Finset.mem_map_of_mem _ (Finset.mem_univ j)) hm
    refine ⟨(r 0).overlay ((r 1).overlay ((r 2).overlay ((r 3).overlay (fun _ => Classical.arbitrary _) w3) w2) w1) w0, ?_, ?_, ?_, ?_⟩ <;> funext j
    · rw [Rect.overlay_emb]
    · rw [Rect.overlay_of_not_mem _ _ _ (hn 1 0 j (by decide)), Rect.overlay_emb]
    · rw [Rect.overlay_of_not_mem _ _ _ (hn 2 0 j (by decide)), Rect.overlay_of_not_mem _ _ _ (hn 2 1 j (by decide)), Rect.overlay_emb]
    · rw [Rect.overlay_of_not_mem _ _ _ (hn 3 0 j (by decide)), Rect.overlay_of_not_mem _ _ _ (hn 3 1 j (by decide)),
        Rect.overlay_of_not_mem _ _ _ (hn 3 2 j (by decide)), Rect.overlay_emb]
  obtain ⟨X, h0, h1, h2, h3⟩ := hX
  subst h0 h1 h2 h3
  iexists X
  iapply (owns_of_rects (c : Thread nD τ) m fullShare r hr hd hcov X)
  iapply (Entails.of_eq (bigSep_four _).symm)
  isplitl [H0]; · iexact H0
  isplitl [H1]; · iexact H1
  isplitl [H2]; · iexact H2
  iexact H3

end

/-- The slots of `rsRecv`. -/
abbrev rsRect : Fin 4 → Rect S960x640
  | 0 => Rect.unit (s := S960x640) ![0, 0] S512x640.size inb_S960x640_S512x640_0_0
  | 1 => Rect.unit (s := S960x640) ![512, 0] S256x640.size inb_S960x640_S256x640_512_0
  | 2 => Rect.unit (s := S960x640) ![768, 0] S128x640.size inb_S960x640_S128x640_768_0
  | 3 => Rect.unit (s := S960x640) ![896, 0] S64x640.size inb_S960x640_S64x640_896_0

theorem rsRect_mem (t : Fin 4) (j : S960x640.Idx) :
    j ∈ (rsRect t).set ↔ (![0, 512, 768, 896] : Fin 4 → ℕ) t ≤ (j 0).val
      ∧ (j 0).val < (![512, 768, 896, 960] : Fin 4 → ℕ) t := by
  have h1 : (j 1).val < 640 := (j 1).isLt
  match t with
  | 0 =>
    refine Iff.trans Rect.mem_set_unit ⟨fun h => h 0, fun h a => ?_⟩
    match a with
    | 0 => exact h
    | 1 => exact ⟨Nat.zero_le _, h1⟩
  | 1 =>
    refine Iff.trans Rect.mem_set_unit ⟨fun h => h 0, fun h a => ?_⟩
    match a with
    | 0 => exact h
    | 1 => exact ⟨Nat.zero_le _, h1⟩
  | 2 =>
    refine Iff.trans Rect.mem_set_unit ⟨fun h => h 0, fun h a => ?_⟩
    match a with
    | 0 => exact h
    | 1 => exact ⟨Nat.zero_le _, h1⟩
  | 3 =>
    refine Iff.trans Rect.mem_set_unit ⟨fun h => h 0, fun h a => ?_⟩
    match a with
    | 0 => exact h
    | 1 => exact ⟨Nat.zero_le _, h1⟩

theorem rsRect_disjoint (t t' : Fin 4) (h : t ≠ t') : Disjoint (rsRect t).set (rsRect t').set := by
  refine Finset.disjoint_left.mpr fun j h1 h2 => ?_
  rw [rsRect_mem] at h1 h2
  fin_cases t <;> fin_cases t' <;> first | exact h rfl | (simp at h1 h2; omega)

theorem rsRect_cover : Finset.univ.biUnion (fun t => (rsRect t).set) = Finset.univ := by
  refine Finset.eq_univ_of_forall fun j => Finset.mem_biUnion.mpr ?_
  have hj : (j 0).val < 960 := (j 0).isLt
  have h (t : Fin 4) := rsRect_mem t j
  by_cases h0 : (j 0).val < 512
  · exact ⟨0, Finset.mem_univ _, (h 0).mpr ⟨Nat.zero_le _, h0⟩⟩
  by_cases h1 : (j 0).val < 768
  · exact ⟨1, Finset.mem_univ _, (h 1).mpr ⟨Nat.le_of_not_lt h0, h1⟩⟩
  by_cases h2 : (j 0).val < 896
  · exact ⟨2, Finset.mem_univ _, (h 2).mpr ⟨Nat.le_of_not_lt h1, h2⟩⟩
  · exact ⟨3, Finset.mem_univ _, (h 3).mpr ⟨Nat.le_of_not_lt h2, hj⟩⟩

/-- `rsRecv` cut into its slots. -/
theorem rsSlots (c : Dev nD) : someAt (F := F) c rsRecv ⊢ iprop(slotAny 0 c ∗ slotAny 1 c ∗ slotAny 2 c ∗ slotAny 3 c) :=
  split_four c rsRecv rsRect (fun t a => by fin_cases t <;> rfl) rsRect_disjoint rsRect_cover

/-- `rsRecv` put together from its slots. -/
theorem rsWhole (c : Dev nD) : iprop(slotAny (F := F) 0 c ∗ slotAny 1 c ∗ slotAny 2 c ∗ slotAny 3 c) ⊢ someAt c rsRecv :=
  join_four c rsRecv rsRect (fun t a => by fin_cases t <;> rfl) rsRect_disjoint rsRect_cover

/-- The slots of `agRecv`. -/
abbrev agRect : Fin 4 → Rect S960x512
  | 0 => Rect.unit (s := S960x512) ![0, 0] S64x512.size inb_S960x512_S64x512_0_0
  | 1 => Rect.unit (s := S960x512) ![64, 0] S128x512.size inb_S960x512_S128x512_64_0
  | 2 => Rect.unit (s := S960x512) ![192, 0] S256x512.size inb_S960x512_S256x512_192_0
  | 3 => Rect.unit (s := S960x512) ![448, 0] S512x512.size inb_S960x512_S512x512_448_0

theorem agRect_mem (t : Fin 4) (j : S960x512.Idx) :
    j ∈ (agRect t).set ↔ (![0, 64, 192, 448] : Fin 4 → ℕ) t ≤ (j 0).val
      ∧ (j 0).val < (![64, 192, 448, 960] : Fin 4 → ℕ) t := by
  have h1 : (j 1).val < 512 := (j 1).isLt
  match t with
  | 0 =>
    refine Iff.trans Rect.mem_set_unit ⟨fun h => h 0, fun h a => ?_⟩
    match a with
    | 0 => exact h
    | 1 => exact ⟨Nat.zero_le _, h1⟩
  | 1 =>
    refine Iff.trans Rect.mem_set_unit ⟨fun h => h 0, fun h a => ?_⟩
    match a with
    | 0 => exact h
    | 1 => exact ⟨Nat.zero_le _, h1⟩
  | 2 =>
    refine Iff.trans Rect.mem_set_unit ⟨fun h => h 0, fun h a => ?_⟩
    match a with
    | 0 => exact h
    | 1 => exact ⟨Nat.zero_le _, h1⟩
  | 3 =>
    refine Iff.trans Rect.mem_set_unit ⟨fun h => h 0, fun h a => ?_⟩
    match a with
    | 0 => exact h
    | 1 => exact ⟨Nat.zero_le _, h1⟩

theorem agRect_disjoint (t t' : Fin 4) (h : t ≠ t') : Disjoint (agRect t).set (agRect t').set := by
  refine Finset.disjoint_left.mpr fun j h1 h2 => ?_
  rw [agRect_mem] at h1 h2
  fin_cases t <;> fin_cases t' <;> first | exact h rfl | (simp at h1 h2; omega)

theorem agRect_cover : Finset.univ.biUnion (fun t => (agRect t).set) = Finset.univ := by
  refine Finset.eq_univ_of_forall fun j => Finset.mem_biUnion.mpr ?_
  have hj : (j 0).val < 960 := (j 0).isLt
  have h (t : Fin 4) := agRect_mem t j
  by_cases h0 : (j 0).val < 64
  · exact ⟨0, Finset.mem_univ _, (h 0).mpr ⟨Nat.zero_le _, h0⟩⟩
  by_cases h1 : (j 0).val < 192
  · exact ⟨1, Finset.mem_univ _, (h 1).mpr ⟨Nat.le_of_not_lt h0, h1⟩⟩
  by_cases h2 : (j 0).val < 448
  · exact ⟨2, Finset.mem_univ _, (h 2).mpr ⟨Nat.le_of_not_lt h1, h2⟩⟩
  · exact ⟨3, Finset.mem_univ _, (h 3).mpr ⟨Nat.le_of_not_lt h2, hj⟩⟩

/-- `agRecv` cut into its slots. -/
theorem agSlots (c : Dev nD) : someAt (F := F) c agRecv ⊢ iprop(slotAny 4 c ∗ slotAny 5 c ∗ slotAny 6 c ∗ slotAny 7 c) :=
  split_four c agRecv agRect (fun t a => by fin_cases t <;> rfl) agRect_disjoint agRect_cover

/-- `agRecv` put together from its slots. -/
theorem agWhole (c : Dev nD) : iprop(slotAny (F := F) 4 c ∗ slotAny 5 c ∗ slotAny 6 c ∗ slotAny 7 c) ⊢ someAt c agRecv :=
  join_four c agRecv agRect (fun t a => by fin_cases t <;> rfl) agRect_disjoint agRect_cover

end Cert.KernelIdealProof

end

end
-- ==== Proof.KernelIdealGhost.lean ====
/-
# What the devices start from

Before the bodies run, every cell gets its invariant, the tokens of all duties are minted, and each device is handed what
it holds at its start: the tokens of the units IT will pay, its positions at its own cells, and the credits of its barrier
and its receive cells.
-/
module

public import proofs.«01_k».proof.Proof.KernelIdealProtocol

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_bits (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The cells of a device: its barrier, its send cells, its receive cells. -/
def cellEquiv : Unit ⊕ (Fin 8 ⊕ Fin 8) ≃ Cell where
  toFun
    | .inl _ => none
    | .inr (.inl i) => some (false, i)
    | .inr (.inr i) => some (true, i)
  invFun
    | none => .inl ()
    | some (false, i) => .inr (.inl i)
    | some (true, i) => .inr (.inr i)
  left_inv := by rintro (_ | _ | _) <;> rfl
  right_inv := by rintro (_ | ⟨_ | _, _⟩) <;> rfl

theorem bigSep_cells (Φ : Cell → sProp 𝕄) : bigSep Finset.univ Φ
    = iprop(Φ none ∗ (bigSep Finset.univ fun i => Φ (some (false, i))) ∗ bigSep Finset.univ fun i => Φ (some (true, i))) := by
  rw [bigSep_univ_equiv cellEquiv Φ, bigSep_univ_sum, bigSep_univ_sum,
    bigSep_univ_eq_bigSepL [()] (by decide) (by decide)]
  rfl

/-- The cells other than the barrier. -/
def exchEquiv : Fin 8 ⊕ Fin 8 ≃ Bool × Fin 8 where
  toFun
    | .inl i => (false, i)
    | .inr i => (true, i)
  invFun
    | (false, i) => .inl i
    | (true, i) => .inr i
  left_inv := by rintro (_ | _) <;> rfl
  right_inv := by rintro ⟨_ | _, _⟩ <;> rfl

theorem bigSep_exch (Φ : Bool × Fin 8 → sProp 𝕄) : bigSep Finset.univ Φ
    = iprop((bigSep Finset.univ fun i => Φ (false, i)) ∗ bigSep Finset.univ fun i => Φ (true, i)) := by
  rw [bigSep_univ_equiv exchEquiv Φ, bigSep_univ_sum]
  rfl

/-! ## Cells and tokens -/

theorem cellOf_inj' {c c' : Dev nD} {k k' : Cell} (h : cellOf c k = cellOf c' k') : c = c' ∧ k = k' :=
  ⟨congrArg (fun g : GSem nD τ sig => g.1.1) h, csem_injective (congrArg (fun g : GSem nD τ sig => g.2) h)⟩

def allCells : Finset (GSem nD τ sig) :=
  Finset.univ.map ⟨fun ck : Dev nD × Cell => cellOf ck.1 ck.2, fun a b h => Prod.ext (cellOf_inj' h).1 (cellOf_inj' h).2⟩

/-- A device's tokens: one for each peer at its barrier, one at each other cell. -/
abbrev Tok : Type := Fin 4 ⊕ (Bool × Fin 8)
def tokCell : Tok → Cell
  | .inl _ => none
  | .inr k => some k
def tokDuty : Tok → Duty
  | .inl b => b
  | .inr _ => 0

theorem tok_inj : Function.Injective fun ct : Dev nD × Tok => ((cellOf ct.1 (tokCell ct.2), 0, tokDuty ct.2) : GSem nD τ sig × ℕ × Duty) := by
  rintro ⟨c, t⟩ ⟨c', t'⟩ h
  obtain ⟨hc, hk⟩ := cellOf_inj' (congrArg (fun x : GSem nD τ sig × ℕ × Duty => x.1) h)
  have hd : tokDuty t = tokDuty t' := congrArg (fun x : GSem nD τ sig × ℕ × Duty => x.2.2) h
  subst hc
  rcases t with b | k <;> rcases t' with b' | k'
  · have hb : b = b' := hd
    rw [hb]
  · cases hk
  · cases hk
  · have hb : k = k' := Option.some.inj hk
    rw [hb]

def allToks : Finset (GSem nD τ sig × ℕ × Duty) := Finset.univ.map ⟨_, tok_inj⟩

/-- The tokens of device `c`'s own cells. -/
def toks (c : Dev nD) : sProp 𝕄 := bigSep Finset.univ fun t : Tok => dutyTok ER (cellOf c (tokCell t)) 0 (tokDuty t)

/-- What is dealt to device `c`: the round states of its cells, its positions at them, the tokens. -/
def dealt (I : Inputs F) (c : Dev nD) : sProp 𝕄 :=
  iprop((bigSep Finset.univ fun k : Cell => roundState ER (sched I) (cellOf c k) 0)
    ∗ (bigSep Finset.univ fun k : Cell => iprop(atPos ER (cellOf c k) 0 (∅ : Finset Duty) 0 ∗ reached ER (cellOf c k) 0)) ∗ toks c)

theorem deal (I : Inputs F) : BI.own (ER (initOf allCells allToks)) ⊢ (|==> bigSep Finset.univ (dealt I) : sProp 𝕄) := by
  have hX (Φ : GSem nD τ sig → sProp 𝕄) : bigSep allCells Φ = bigSep Finset.univ fun c : Dev nD => bigSep Finset.univ fun k : Cell => Φ (cellOf c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched I) allCells allToks) $$ HX with ⟨Hst, Hr, Hat, Htok⟩
  imodintro
  ihave Hst' := (Entails.of_eq (hX fun g => roundState ER (sched I) g 0)) $$ Hst
  ihave Hat' := (Entails.of_eq (hX fun g => atPos ER g 0 (∅ : Finset Duty) 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## Semaphores -/

/-- The semaphores of the kernel's own. -/
abbrev osem (k : Bool × Fin 8) : SemLoc sig := csem (some k)

theorem unscopedSems0_eq (c : Dev nD) : (unscopedSems0 c : sProp 𝕄) = semVal (barC c) 0 := by
  unfold unscopedSems0; rw [bigSep_eq_bigSepL_of_eq [SemLoc.reg barS] (by decide) (by decide)]; rfl

/-- Every cell's counter at zero. -/
theorem sems_zero (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (cellOf c k) 0 : sProp 𝕄) := by
  unfold Pipeline.ownSems0
  rw [unscopedSems0_eq, bigSep_cells, bigSep_exch]
  iintro ⟨⟨HS, HV⟩, HB⟩
  isplitl [HB]; · iexact HB
  isplitl [HS]; · iexact HS
  iexact HV

theorem alloc (I : Inputs F) (c : Dev nD) :
    iprop(Pipeline.ownSems0 (Ix := Unit) (Name := ℕ) (U := UU) (Lvl := ℕ) (Val := Elt F) (τ := τ) osem c ∗ unscopedSems0 c ∗ dealt I c)
      ⊢ |={Set.univ}=> iprop((bigSep Finset.univ fun k : Cell => iprop(∃ κ : ℕ, cellInv ER (sched I) κ (cellOf c k)))
          ∗ (bigSep Finset.univ fun k : Cell => iprop(atPos ER (cellOf c k) 0 (∅ : Finset Duty) 0 ∗ reached ER (cellOf c k) 0)) ∗ toks c) := by
  unfold dealt
  iintro ⟨Hos, Hus, Hst, Hat, Htok⟩
  ihave Hv := (sems_zero (F := F) c) $$ [Hos Hus]
  · isplitl [Hos] <;> iassumption
  imod (show iprop((bigSep Finset.univ fun k : Cell => semVal (cellOf c k) 0) ∗ bigSep Finset.univ fun k : Cell => roundState ER (sched I) (cellOf c k) 0)
      ⊢ (|={Set.univ}=> bigSep Finset.univ fun k : Cell => iprop(∃ κ : ℕ, cellInv ER (sched I) κ (cellOf c k)) : sProp 𝕄) from by
        rw [← bigSep_sep']
        exact (bigSep_mono fun k _ => (Rounds.body_intro ER (sched I) (cellOf c k)).trans inv_alloc).trans (bigSep_fupd _ _)) $$ [Hv Hst] with Hinv
  · isplitl [Hv] <;> iassumption
  imodintro
  isplitl [Hinv]; · iexact Hinv
  isplitl [Hat]; · iexact Hat
  iexact Htok

/-! ## Tokens to those who pay -/

def flipE : Dev nD × Fin 4 ≃ Dev nD × Fin 4 where
  toFun p := (flip p.2 p.1, p.2)
  invFun p := (flip p.2 p.1, p.2)
  left_inv p := Prod.ext (flip_flip p.2 p.1) rfl
  right_inv p := Prod.ext (flip_flip p.2 p.1) rfl
def peerE : Dev nD × Fin 8 ≃ Dev nD × Fin 8 where
  toFun p := (peer p.2 p.1, p.2)
  invFun p := (peer p.2 p.1, p.2)
  left_inv p := Prod.ext (peer_peer p.2 p.1) rfl
  right_inv p := Prod.ext (peer_peer p.2 p.1) rfl

theorem across_flip (Φ : Dev nD → Fin 4 → sProp 𝕄) :
    (bigSep Finset.univ fun c : Dev nD => bigSep Finset.univ fun b : Fin 4 => Φ c b)
      = bigSep Finset.univ fun c : Dev nD => bigSep Finset.univ fun b : Fin 4 => Φ (flip b c) b := by
  rw [← bigSep_univ_prod (fun p : Dev nD × Fin 4 => Φ p.1 p.2), bigSep_univ_equiv flipE, bigSep_univ_prod]
  rfl
theorem across_peer (Φ : Dev nD → Fin 8 → sProp 𝕄) :
    (bigSep Finset.univ fun c : Dev nD => bigSep Finset.univ fun i : Fin 8 => Φ c i)
      = bigSep Finset.univ fun c : Dev nD => bigSep Finset.univ fun i : Fin 8 => Φ (peer i c) i := by
  rw [← bigSep_univ_prod (fun p : Dev nD × Fin 8 => Φ p.1 p.2), bigSep_univ_equiv peerE, bigSep_univ_prod]
  rfl

/-- The tokens of the units device `c` pays. -/
def payToks (c : Dev nD) : sProp 𝕄 :=
  iprop((bigSep Finset.univ fun b : Fin 4 => dutyTok ER (barC (flip b c)) 0 (b : Duty))
    ∗ (bigSep Finset.univ fun i : Fin 8 => dutyTok ER (sendC i c) 0 (0 : Duty))
    ∗ bigSep Finset.univ fun i : Fin 8 => dutyTok ER (recvC i (peer i c)) 0 (0 : Duty))

theorem toks_eq (c : Dev nD) : (toks c : sProp 𝕄) = iprop((bigSep Finset.univ fun b : Fin 4 => dutyTok ER (barC c) 0 (b : Duty))
    ∗ (bigSep Finset.univ fun i : Fin 8 => dutyTok ER (sendC i c) 0 (0 : Duty))
    ∗ bigSep Finset.univ fun i : Fin 8 => dutyTok ER (recvC i c) 0 (0 : Duty)) := by
  unfold toks
  rw [bigSep_univ_sum, bigSep_exch]
  rfl

theorem toks_across : (bigSep Finset.univ fun c : Dev nD => (toks c : sProp 𝕄)) = bigSep Finset.univ fun c : Dev nD => payToks c := by
  unfold payToks
  rw [bigSep_congr fun c _ => toks_eq c, bigSep_sep', bigSep_sep', bigSep_sep', bigSep_sep',
    across_flip fun c b => dutyTok ER (barC c) 0 (b : Duty), across_peer fun c i => dutyTok ER (recvC i c) 0 (0 : Duty)]

/-- Device `c`'s own part: its positions and its tokens. -/
def ownPart (c : Dev nD) : sProp 𝕄 := iprop((bigSep Finset.univ fun k : Cell => atPos ER (cellOf c k) 0 (∅ : Finset Duty) 0) ∗ payToks c)

/-- The invariants of all cells, and that all are at round 0. -/
def standing (I : Inputs F) (K : Dev nD × Cell → ℕ) : sProp 𝕄 :=
  iprop((bigSep Finset.univ fun ck : Dev nD × Cell => cellInv ER (sched I) (K ck) (cellOf ck.1 ck.2))
    ∗ bigSep Finset.univ fun ck : Dev nD × Cell => reached ER (cellOf ck.1 ck.2) 0)

instance standing_persistent (I : Inputs F) (K) : BI.Persistent (standing I K) := by unfold standing; infer_instance

/-- What device `c` has once the cells stand. -/
def given (I : Inputs F) (c : Dev nD) : sProp 𝕄 := iprop(∃ K, standing I K ∗ ownPart c)

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (I : Inputs F) :
    (bigSep Finset.univ fun c : Dev nD => iprop((bigSep Finset.univ fun k : Cell => iprop(∃ κ : ℕ, cellInv ER (sched I) κ (cellOf c k)))
          ∗ (bigSep Finset.univ fun k : Cell => iprop(atPos ER (cellOf c k) 0 (∅ : Finset Duty) 0 ∗ reached ER (cellOf c k) 0)) ∗ toks c) : sProp 𝕄)
      ⊢ bigSep Finset.univ (given I) := by
  rw [bigSep_sep', bigSep_sep', ← bigSep_univ_prod (fun ck : Dev nD × Cell => iprop(∃ κ : ℕ, cellInv ER (sched I) κ (cellOf ck.1 ck.2))),
    bigSep_congr (s := Finset.univ) (fun (c : Dev nD) _ => bigSep_sep' Finset.univ (fun k : Cell => (atPos ER (cellOf c k) 0 (∅ : Finset Duty) 0 : sProp 𝕄)) (fun k => reached ER (cellOf c k) 0)),
    bigSep_sep', ← bigSep_univ_prod (fun ck : Dev nD × Cell => (reached ER (cellOf ck.1 ck.2) 0 : sProp 𝕄)), toks_across]
  iintro ⟨HI, ⟨Hat, #HR⟩, Htok⟩
  ihave HK := (BI.bigSep_exists_pi Finset.univ (fun (ck : Dev nD × Cell) (κ : ℕ) => (cellInv ER (sched I) κ (cellOf ck.1 ck.2) : sProp 𝕄))) $$ HI
  icases HK with ⟨%K, #HI⟩
  iapply (with_persistent (R := standing I K) (Φ := ownPart) fun c _ => show iprop(standing I K ∗ ownPart c) ⊢ given I c by
    unfold given; iintro H; iexists K; iexact H)
  isplitr
  · unfold standing; isplitl; · iexact HI
    iexact HR
  · unfold ownPart
    rw [bigSep_sep']
    isplitl [Hat]; · iexact Hat
    iexact Htok

/-- All cells of all devices set up at once. -/
theorem set_up (I : Inputs F) : (bigSep Finset.univ fun c => iprop(Pipeline.ownSems0 (Ix := Unit) (Name := ℕ) (U := UU) (Lvl := ℕ) (Val := Elt F) (τ := τ) osem c ∗ unscopedSems0 c ∗ dealt I c) : sProp 𝕄)
    ⊢ |={Set.univ}=> bigSep Finset.univ (given I) :=
  ((bigSep_mono fun c _ => alloc I c).trans (bigSep_fupd _ _)).trans (BI.fupd_mono (regroup I))

/-! ## Credits -/

/-- What device `d` owes at its start. -/
abbrev owed₀ (d : Dev nD) : CellTallies nD τ sig Unit := owedBar 0 d

theorem recv_bar_ne (i : Fin 8) (c d : Dev nD) : recvC i c ≠ barC d := fun h => by
  have := (cellOf_inj' (k := some (true, i)) (k' := none) h).2
  cases this

theorem owed_bar (d c : Dev nD) : owed₀ d (barC c) () = ∑ b : Fin 4, if d = flip b c then 1 else 0 := by
  unfold owed₀ owedBar owedFrom
  rw [Pi.add_apply, Finsupp.add_apply, tallies_sum_apply, tallies_sum_apply,
    Finset.sum_eq_zero (fun i _ => by rw [tallyAt_apply, if_neg fun h => recv_bar_ne _ _ _ h.1.symm]), zero_add,
    Finset.filter_true_of_mem fun b _ => Nat.zero_le _]
  refine Finset.sum_congr rfl fun b _ => ?_
  rw [tallyAt_apply]
  by_cases h : d = flip b c
  · subst h; rw [flip_flip, if_pos ⟨rfl, rfl⟩, if_pos rfl]
  · rw [if_neg (fun h' => h (by have := (cellOf_inj' (k := none) (k' := none) h'.1).1; rw [this, flip_flip])), if_neg h]

theorem owed_recv (i : Fin 8) (d c : Dev nD) : owed₀ d (recvC i c) () = if d = peer i c then N i else 0 := by
  unfold owed₀ owedBar owedFrom
  rw [Pi.add_apply, Finsupp.add_apply, tallies_sum_apply, tallies_sum_apply,
    Finset.sum_eq_zero (s := Finset.univ.filter (fun b : Fin 4 => 0 ≤ b.val))
      (fun b _ => by rw [tallyAt_apply, if_neg fun h => recv_bar_ne _ _ _ h.1]), add_zero,
    Finset.filter_true_of_mem fun b _ => Nat.zero_le _, Finset.sum_eq_single i]
  · rw [tallyAt_apply]
    by_cases h : d = peer i c
    · subst h; rw [peer_peer, if_pos ⟨rfl, rfl⟩, if_pos rfl]
    · rw [if_neg (fun h' => h (by have := (cellOf_inj' (k := some (true, i)) (k' := some (true, i)) h'.1).1; rw [this, peer_peer])), if_neg h]
  · intro j _ hj
    rw [tallyAt_apply, if_neg fun h' => hj (by have := (cellOf_inj' (k := some (true, i)) (k' := some (true, j)) h'.1).2; cases this; rfl)]
  · intro h; exact absurd (Finset.mem_univ i) h

theorem launch_bar (c : Dev nD) :
    tallyOn (barC c) (launchCredit (Pipeline.owing owed₀) 0 (barC c)) = (tallyAt (barC c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun b _ => Finset.sum_ite_eq' Finset.univ (flip b c) fun _ => 1]
  simp

theorem launch_recv (i : Fin 8) (c : Dev nD) :
    tallyOn (recvC i c) (launchCredit (Pipeline.owing owed₀) 0 (recvC i c)) = (tallyAt (recvC i c) () (N i) : CellTallies nD τ sig Unit) := by
  unfold tallyAt; refine congrArg _ (Finsupp.ext fun u => ?_); cases u
  rw [Pipeline.launchCredit_owing, Finsupp.single_eq_same, Finset.sum_congr rfl fun d _ => owed_recv i d c, Finset.sum_ite_eq' Finset.univ (peer i c) fun _ => N i,
    if_pos (Finset.mem_univ _)]

/-- The credits a device gets: four units at its barrier, each exchange's rows at its receive cell. -/
theorem credits (c : Dev nD) :
    (Pipeline.launchCred owed₀ c : sProp 𝕄) ⊢ iprop(cred (tallyAt (barC c) () 4) ∗ bigSep Finset.univ fun i : Fin 8 => cred (tallyAt (recvC i c) () (N i))) := by
  unfold Pipeline.launchCred
  rw [bigSep_univ_at _ (SemLoc.reg barS), launch_bar]
  refine sep_mono_right ?_
  rw [← bigSep_congr fun i _ => congrArg cred (launch_recv i c)]
  refine (bigSep_subset (t := Finset.univ.map ⟨fun i : Fin 8 => csem (some (true, i)), fun i j h => by have := csem_injective h; cases this; rfl⟩) ?_).trans
    (Entails.of_eq (bigSep_map _))
  intro s hs
  obtain ⟨i, -, rfl⟩ := Finset.mem_map.mp hs
  refine Finset.mem_erase.mpr ⟨fun h => ?_, Finset.mem_univ _⟩
  have := csem_injective (a₁ := some (true, i)) (a₂ := none) h
  cases this

/-- Everything a device starts with: what it was given and its credits, sorted by exchange. -/
def start (I : Inputs F) (c : Dev nD) : sProp 𝕄 :=
  iprop((∃ K, records I K) ∗ (bigSep Finset.univ fun b : Fin 4 => dutyTok ER (barC (flip b c)) 0 (b : Duty))
    ∗ cred (tallyAt (barC c) () 4) ∗ atPos ER (barC c) 0 (∅ : Finset Duty) 0 ∗ bigSep Finset.univ fun i : Fin 8 => ready i c)

theorem start_of (I : Inputs F) (c : Dev nD) :
    iprop(levAts L lv ∗ Pipeline.launchCred owed₀ c ∗ given I c) ⊢ start I c := by
  iintro ⟨#Hl, Hc, HG⟩
  ihave Hc := (credits (F := F) c) $$ Hc
  unfold given standing ownPart payToks
  icases HG with ⟨%K, ⟨#HI, #HR⟩, Hat, Htb, Hts, Htr⟩
  icases Hc with ⟨Hb, Hr⟩
  ihave Hat := (Entails.of_eq (bigSep_cells fun k : Cell => atPos ER (cellOf c k) 0 (∅ : Finset Duty) 0)) $$ Hat
  icases Hat with ⟨Hab, Has, Har⟩
  unfold start ready
  simp only [bigSep_sep']
  isplitr
  · iexists K
    unfold records levels
    isplitr; · iexact HI
    isplitr; · iexact HR
    iexact Hl
  isplitl [Htb]; · iexact Htb
  isplitl [Hb]; · iexact Hb
  isplitl [Hab]; · iexact Hab
  isplitl [Hts]; · iexact Hts
  isplitl [Htr]; · iexact Htr
  isplitl [Has]; · iexact Has
  isplitl [Har]; · iexact Har
  iexact Hr

end Cert.KernelIdealProof

end

end
-- ==== Proof.KernelIdealMeets.lean ====
/-
# The body as the launch meets it

What a device holds before its body and after it, the body run between the two.
-/
module

public import proofs.«01_k».proof.Proof.KernelIdealBody
public import proofs.«01_k».proof.Proof.KernelIdealSlots
public import proofs.«01_k».proof.Proof.KernelIdealGhost
public import proofs.«01_k».proof.Proof.Gen.KernelIdeal.Frame
public import Idealize.ShloMosaic.Lib.Pipeline.ValueKit

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- The memory the program starts from: any contents, every semaphore at zero. -/
def s₀ : MemSt nD τ sig (Elt F) := ⟨m, fun _ => 0, ρ⟩

/-- The inputs as the memory holds them. -/
def inp : Inputs F where
  x c := m ((c : Thread nD τ).loc main_arg0)
  wq c := m ((c : Thread nD τ).loc main_arg1)
  k c := m ((c : Thread nD τ).loc main_arg2)
  v c := m ((c : Thread nD τ).loc main_arg3)
  wo c := m ((c : Thread nD τ).loc main_arg4)

theorem blk0 (c : Dev nD) (t : Fin cfg0.N) : (win0_0.blk t).view.read (Elt F) (m ((c : Thread nD τ).loc main_arg0)) = (inp m).x c := by
  refine (show _ = iblk m c 0 t from rfl).trans ?_
  unfold inp
  have hi : win0_0.index t = fun _ => 0 := rfl
  blk_ext! [iblk, V, hi]
theorem blk1 (c : Dev nD) (t : Fin cfg0.N) : (win0_1.blk t).view.read (Elt F) (m ((c : Thread nD τ).loc main_arg1)) = (inp m).wq c := by
  refine (show _ = iblk m c 1 t from rfl).trans ?_
  unfold inp
  have hi : win0_1.index t = fun _ => 0 := rfl
  blk_ext! [iblk, V, hi]
theorem blk2 (c : Dev nD) (t : Fin cfg0.N) : (win0_2.blk t).view.read (Elt F) (m ((c : Thread nD τ).loc main_arg2)) = (inp m).k c := by
  refine (show _ = iblk m c 2 t from rfl).trans ?_
  unfold inp
  have hi : win0_2.index t = fun _ => 0 := rfl
  blk_ext! [iblk, V, hi]
theorem blk3 (c : Dev nD) (t : Fin cfg0.N) : (win0_3.blk t).view.read (Elt F) (m ((c : Thread nD τ).loc main_arg3)) = (inp m).v c := by
  refine (show _ = iblk m c 3 t from rfl).trans ?_
  unfold inp
  have hi : win0_3.index t = fun _ => 0 := rfl
  blk_ext! [iblk, V, hi]
theorem blk4 (c : Dev nD) (t : Fin cfg0.N) : (win0_4.blk t).view.read (Elt F) (m ((c : Thread nD τ).loc main_arg4)) = (inp m).wo c := by
  refine (show _ = iblk m c 4 t from rfl).trans ?_
  unfold inp
  have hi : win0_4.index t = fun _ => 0 := rfl
  blk_ext! [iblk, V, hi]

/-- What a device holds of its scratch buffers, whatever is in them. -/
def scratch (c : Dev nD) : sProp 𝕄 :=
  iprop(someAt (F := F) c accM ∗ someAt c rsStage ∗ someAt c rsRecv ∗ someAt c agStage ∗ someAt c agRecv)

/-- Before the body, -/
def Φ₀ (c : Dev nD) : sProp 𝕄 := iprop(start (inp m) c ∗ scratch c)
/-- and after it. -/
def Φ₁ (c : Dev nD) : sProp 𝕄 :=
  iprop(scratch (F := F) c ∗ (bigSep Finset.univ fun i : Fin 8 => finished i c) ∗ semVal (barC c) 0)

variable (res : Dev nD → S2x512x768.Idx → Elt F .f32)

/-- The launch's data: what each window's array holds, what the body leaves in each, `res` being the results. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wq c
    | ⟨2, _⟩ => (inp m).k c
    | ⟨3, _⟩ => (inp m).v c
    | ⟨4, _⟩ => (inp m).wo c
    | ⟨5, _⟩ => res c
  Φ t := match t with
    | ⟨0, _⟩ => Φ₀ m c
    | ⟨_ + 1, _⟩ => Φ₁ c
  q _ := fullShare
  owed t := match t with
    | ⟨0, _⟩ => owed₀ c
    | ⟨_ + 1, _⟩ => 0

theorem before0 (c : Dev nD) (d) : (dats m ρ res 0 c).before (0 : Fin 6) t0_0 d = (inp m).x c := by
  unfold Dat.before
  rw [if_pos (fetch0_0 t0_0)]
  exact blk0 m c t0_0
theorem before1 (c : Dev nD) (d) : (dats m ρ res 0 c).before (1 : Fin 6) t0_0 d = (inp m).wq c := by
  unfold Dat.before
  rw [if_pos (fetch0_1 t0_0)]
  exact blk1 m c t0_0
theorem before2 (c : Dev nD) (d) : (dats m ρ res 0 c).before (2 : Fin 6) t0_0 d = (inp m).k c := by
  unfold Dat.before
  rw [if_pos (fetch0_2 t0_0)]
  exact blk2 m c t0_0
theorem before3 (c : Dev nD) (d) : (dats m ρ res 0 c).before (3 : Fin 6) t0_0 d = (inp m).v c := by
  unfold Dat.before
  rw [if_pos (fetch0_3 t0_0)]
  exact blk3 m c t0_0
theorem before4 (c : Dev nD) (d) : (dats m ρ res 0 c).before (4 : Fin 6) t0_0 d = (inp m).wo c := by
  unfold Dat.before
  rw [if_pos (fetch0_4 t0_0)]
  exact blk4 m c t0_0

/-- What the body runs from, -/
def bodyPre (c : Dev nD) : sProp 𝕄 :=
  iprop(Φ₀ m c ∗ (dats m ρ res 0 c).owesAt () t0_0.castSucc
    ∗ (∃ d, at' c xM ((dats m ρ res 0 c).before (0 : Fin 6) t0_0 d)) ∗ (∃ d, at' c wqM ((dats m ρ res 0 c).before (1 : Fin 6) t0_0 d))
    ∗ (∃ d, at' c kM ((dats m ρ res 0 c).before (2 : Fin 6) t0_0 d)) ∗ (∃ d, at' c vM ((dats m ρ res 0 c).before (3 : Fin 6) t0_0 d))
    ∗ (∃ d, at' c woM ((dats m ρ res 0 c).before (4 : Fin 6) t0_0 d)) ∗ (∃ d, at' c outM ((dats m ρ res 0 c).before (5 : Fin 6) t0_0 d)))
/-- and what it leaves. -/
def bodyPost (c : Dev nD) : sProp 𝕄 :=
  iprop(Φ₁ c ∗ (dats m ρ res 0 c).owesAt () t0_0.succ
    ∗ at' c xM ((inp m).x c) ∗ at' c wqM ((inp m).wq c) ∗ at' c kM ((inp m).k c) ∗ at' c vM ((inp m).v c)
    ∗ at' c woM ((inp m).wo c) ∗ at' c outM (res c))

theorem body_meets (hres : ∀ c, res c = outAt (inp m) c) (c : Dev nD) : bodyPre m ρ res c ⊢ run c (cc0_body xM (Memref.isWhole_whole _) wqM (Memref.isWhole_whole _) kM (Memref.isWhole_whole _) vM (Memref.isWhole_whole _) woM (Memref.isWhole_whole _) outM (Memref.isWhole_whole _) accM (Memref.isWhole_whole _) rsStage (Memref.isWhole_whole _) rsRecv (Memref.isWhole_whole _) agStage (Memref.isWhole_whole _) agRecv (Memref.isWhole_whole _) cc0_scratch5 cc0_scratch6) fun _ => bodyPost m ρ res c := by
  unfold bodyPre Φ₀ start scratch
  iintro ⟨⟨⟨⟨%K, #HR⟩, Htk, Hcr, Hat, Hre⟩, Hacc, Hrs, Hrr, Hag, Har⟩, Ho, ⟨%d0, Hx⟩, ⟨%d1, Hwq⟩, ⟨%d2, Hk⟩, ⟨%d3, Hv⟩, ⟨%d4, Hwo⟩, ⟨%d5, Hout⟩⟩
  rw [before0, before1, before2, before3, before4]
  unfold Dat.owesAt Pipeline.owesWithin
  icases Ho with ⟨%W, -, HO⟩
  rw [show (dats m ρ res 0 c).owed t0_0.castSucc = owed₀ c from rfl]
  ihave Htk := (Entails.of_eq (bigSep_bits _)) $$ Htk
  icases Htk with ⟨Ht0, Ht1, Ht2, Ht3⟩
  ihave Hre := (Entails.of_eq (bigSep_eight _)) $$ Hre
  icases Hre with ⟨He0, He1, He2, He3, He4, He5, He6, He7⟩
  ihave Hrr := (rsSlots (F := F) c) $$ Hrr
  icases Hrr with ⟨Hq0, Hq1, Hq2, Hq3⟩
  ihave Har := (agSlots (F := F) c) $$ Har
  icases Har with ⟨Hq4, Hq5, Hq6, Hq7⟩
  iapply (body_run (inp m) K c fun _ => bodyPost m ρ res c) $$ [Hx Hwq Hk Hv Hwo Hout Hacc Hrs Hag Hq0 Hq1 Hq2 Hq3 Hq4 Hq5 Hq6 Hq7 Ht0 Ht1 Ht2 Ht3 Hcr Hat He0 He1 He2 He3 He4 He5 He6 He7 HO]
  · isplitr; · iexact HR
    isplitl [Hx]; · iexact Hx
    isplitl [Hwq]; · iexact Hwq
    isplitl [Hk]; · iexact Hk
    isplitl [Hv]; · iexact Hv
    isplitl [Hwo]; · iexact Hwo
    isplitl [Hout]; · iexists _; iexact Hout
    isplitl [Hacc]; · iexact Hacc
    isplitl [Hrs]; · iexact Hrs
    isplitl [Hag]; · iexact Hag
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Ht0]; · iexact Ht0
    isplitl [Ht1]; · iexact Ht1
    isplitl [Ht2]; · iexact Ht2
    isplitl [Ht3]; · iexact Ht3
    isplitl [Hcr]; · iexact Hcr
    isplitl [Hat]; · iexact Hat
    isplitl [He0]; · iexact He0
    isplitl [He1]; · iexact He1
    isplitl [He2]; · iexact He2
    isplitl [He3]; · iexact He3
    isplitl [He4]; · iexact He4
    isplitl [He5]; · iexact He5
    isplitl [He6]; · iexact He6
    isplitl [He7]; · iexact He7
    unfold owesAny
    iexists W; iexact HO
  iintro ⟨Hx, Hwq, Hk, Hv, Hwo, Hout, Hacc, Hrs, Hag, Hl0, Hl1, Hl2, Hl3, Hl4, Hl5, Hl6, Hl7, He0, He1, He2, He3, He4, He5, He6, He7, Hsv, HO⟩
  unfold bodyPost Φ₁ scratch Dat.owesAt Pipeline.owesWithin owesAny
  rw [show (dats m ρ res 0 c).owed t0_0.succ = 0 from rfl, owedFrom_end]
  icases HO with ⟨%W', HO⟩
  isplitl [Hacc Hrs Hag Hl0 Hl1 Hl2 Hl3 Hl4 Hl5 Hl6 Hl7 He0 He1 He2 He3 He4 He5 He6 He7 Hsv]
  · isplitl [Hacc Hrs Hag Hl0 Hl1 Hl2 Hl3 Hl4 Hl5 Hl6 Hl7]
    · isplitl [Hacc]; · iexact Hacc
      isplitl [Hrs]; · iexact Hrs
      isplitl [Hl0 Hl1 Hl2 Hl3]
      · iapply (rsWhole (F := F) c)
        unfold landed slotAny
        isplitl [Hl0]; · iexists _; iexact Hl0
        isplitl [Hl1]; · iexists _; iexact Hl1
        isplitl [Hl2]; · iexists _; iexact Hl2
        iexists _; iexact Hl3
      isplitl [Hag]; · iexact Hag
      iapply (agWhole (F := F) c)
      unfold landed slotAny
      isplitl [Hl4]; · iexists _; iexact Hl4
      isplitl [Hl5]; · iexists _; iexact Hl5
      isplitl [Hl6]; · iexists _; iexact Hl6
      iexists _; iexact Hl7
    isplitr [Hsv]
    · iapply (Entails.of_eq (bigSep_eight _).symm)
      isplitl [He0]; · iexact He0
      isplitl [He1]; · iexact He1
      isplitl [He2]; · iexact He2
      isplitl [He3]; · iexact He3
      isplitl [He4]; · iexact He4
      isplitl [He5]; · iexact He5
      isplitl [He6]; · iexact He6
      iexact He7
    iexact Hsv
  isplitl [HO]
  · iexists W'
    isplitr; · ipureintro; exact fun _ _ => Or.inl trivial
    iexact HO
  isplitl [Hx]; · iexact Hx
  isplitl [Hwq]; · iexact Hwq
  isplitl [Hk]; · iexact Hk
  isplitl [Hv]; · iexact Hv
  isplitl [Hwo]; · iexact Hwo
  rw [hres]
  iexact Hout

end Cert.KernelIdealProof

end

end
-- ==== Proof.KernelIdealLaunch.lean ====
/-
# The run of the whole program

The body of every device, run from what the devices start with; the result: every device's result array holds what its
body computes, its arguments are as they were, and every semaphore is at zero.
-/
module

public import proofs.«01_k».proof.Proof.KernelIdealMeets
public import Idealize.ShloMosaic.Lib.Pipeline.CollectiveSegs

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)
  (res : Dev nD → S2x512x768.Idx → Elt F .f32)

theorem body_obligation (hres : ∀ c, res c = outAt (inp m) c) (c : Dev nD) : BodyObligation (dats (F := F) m ρ res 0 c) (defs₀ (F := F)) 𝒱₀ () Set.univ := fun t => by
  rw [fin_N0 t]
  rw [show (Finset.univ : Finset (Fin cfg0.W)) = (Finset.univ : Finset (Fin 6)) from rfl, bigSep_W0, bigSep_W0]
  exact body_meets m ρ res hres c

/-! ## Setting out and ending -/

theorem share_eq (c : Dev nD) (w : Fin cfg0.W) : (dats m ρ res 0 c).share w = fullShare := by unfold Dat.share; split <;> rfl

theorem ownSemFacts : Pipeline.OwnSemFacts cfg0.spec osem := by decide

theorem whole_out (c : Dev nD) (b : Ref sig .tc) :
    someAt (F := F) c (Memref.whole b) ⊢ iprop(∃ f : Buf (Elt F) ((c : Thread nD τ).loc b), ((c : Thread nD τ).loc b) ↦{fullShare} f) := by
  iintro ⟨%X, H⟩
  unfold at' owns
  simp only [Memref.view_whole, View.read_whole, View.set_whole]
  icases H with ⟨%f, -, H⟩
  iexists f; iexact H
theorem whole_in (c : Dev nD) (b : Ref sig .tc) :
    iprop(∃ f : Buf (Elt F) ((c : Thread nD τ).loc b), ((c : Thread nD τ).loc b) ↦{fullShare} f) ⊢ someAt (F := F) c (Memref.whole b) := by
  iintro ⟨%f, H⟩
  iexists f
  unfold at' owns
  simp only [Memref.view_whole, View.read_whole, View.set_whole]
  iexists f
  isplitr; · ipureintro; rfl
  iexact H
theorem someAt_whole (c : Dev nD) (b : Ref sig .tc) :
    (someAt (F := F) c (Memref.whole b) : sProp 𝕄) = iprop(∃ f : Buf (Elt F) ((c : Thread nD τ).loc b), ((c : Thread nD τ).loc b) ↦{fullShare} f) :=
  Entails.antisymm (whole_out c b) (whole_in c b)

theorem scratch_eq (c : Dev nD) : (scratch c : sProp 𝕄) = Pipeline.scopedRest cfg0.spec c := by
  unfold scratch
  rw [scopedRest0_eq, someAt_whole, someAt_whole, someAt_whole, someAt_whole, someAt_whole]

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ given (inp m) c)
      ⊢ |={Set.univ}=> iprop(start (inp m) c ∗ emp) := by
  iintro ⟨-, Hlev, Hcr, -, HG⟩
  imodintro
  isplitl
  · iapply (start_of (inp m) c)
    isplitl [Hlev]; · iexact Hlev
    isplitl [Hcr]; · iexact Hcr
    iexact HG
  · iempintro

theorem enter (c : Dev nD) :
    iprop(start (inp m) c ∗ Pipeline.prefHeld Pipeline.Prefetch.none c (fun _ => fullShare.right) (fun k => k.elim0) ∗ Pipeline.scopedRest cfg0.spec c)
      ⊢ (dats m ρ res 0 c).Φ 0 := by
  rw [show (dats m ρ res 0 c).Φ 0 = Φ₀ m c from rfl, ← scratch_eq]
  unfold Φ₀
  iintro ⟨Hs, -, Hr⟩
  isplitl [Hs]; · iexact Hs
  iexact Hr

theorem leave (c : Dev nD) :
    (dats m ρ res 0 c).Φ (Fin.last cfg0.N) ⊢ iprop(unscopedSems0 c ∗ Pipeline.ownSems0 osem c ∗ Pipeline.scopedRest cfg0.spec c) := by
  rw [show (dats m ρ res 0 c).Φ (Fin.last cfg0.N) = Φ₁ c from rfl, ← scratch_eq, unscopedSems0_eq]
  unfold Φ₁ Pipeline.ownSems0 finished
  rw [bigSep_exch, bigSep_sep']
  iintro ⟨Hr, Hf, HzB⟩
  isplitl [HzB]; · iexact HzB
  isplitl [Hf]; · iexact Hf
  iexact Hr

theorem waits (c : Dev nD) : (levAts L lv : sProp 𝕄) ⊢ Pipeline.cellsWaits cfgs (dats m ρ res) () 0 c :=
  Pipeline.cellsWaits_intro cfgs (dats m ρ res) () 0 c fun w s t =>
    mayWait_stage c _ (by fin_cases w <;> fin_cases s <;> decide) _ (by
      rcases t with ⟨_ | _, ht⟩
      · exact Or.inl rfl
      · exact Or.inr rfl)

/-! ## The run -/

/-- What a window's array holds in the end. -/
def final (c : Dev nD) (w : Fin cfg0.W) : Buf (Elt F) ((cfg0.win w).arr.view.loc (c : Thread nD τ)) := (dats m ρ res 0 c).arrAt w cfg0.N

/-- Every array at its final contents. -/
def Ends : PUnit × MemSt nD τ sig (Elt F) → Prop := fun r =>
  ∀ c : Dev nD, ∀ w : Fin cfg0.W, r.2.mem ((cfg0.win w).arr.view.loc (c : Thread nD τ)) = final m ρ res c w

theorem run_arrays (hres : ∀ c, res c = outAt (inp m) c) : θ_run defs (onTc (τ := τ) (main (F := F))) (s₀ m ρ) (fun r => Ends m ρ res r ∧ r.2.sem = fun _ => 0) :=
  Pipeline.θ_run_region_owing_glob_pf (fun p => (cfgs p).toPCfg) (fun p => (cfgs p).toPCfg_adm) (dats m ρ res) () cellOf_inj (0 : Fin 1)
    winFacts0.to₀ ownSemFacts (Pipeline.PreFacts.none _) EP defs₀ 𝒱₀ m ρ main
    (hmain := fun _ => rfl)
    (hbody := body_obligation m ρ res hres) (hne := fun w => by fin_cases w <;> exact Nat.succ_pos _) (harr := arr_whole0) (hstage := stage_whole0) (hshare := share_eq m ρ res)
    (hdistinct := winFacts0.arr_inj)
    (O₀ := owed₀) (howed₀ := fun _ => rfl) (howedN := fun _ => rfl)
    (L := L) (lv := lv) (hL := L_of_ne) (hwaits := waits m ρ res)
    (G := dealt (inp m)) (G' := given (inp m)) (u₀ := u₀)
    (hu₀ := by
      unfold u₀
      iintro Hu
      ihave H := (ownU_pair _ _) $$ Hu
      icases H with ⟨HP, HX⟩
      imod (deal (inp m)) $$ HX with HG
      imodintro
      isplitl [HP] <;> iassumption)
    (hglob := set_up (inp m))
    (hA := fun _ _ => rfl) (hpf := fun _ k => k.elim0)
    (X := start (inp m)) (Y := fun c => unscopedSems0 c) (Z := fun _ => iprop(emp))
    (hX := start_intro m ρ) (hin := enter m ρ res) (hout := leave m ρ res)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array ends at what the body computes. -/
theorem final_out (c : Dev nD) : final m ρ res c (5 : Fin 6) = res c := by
  unfold final
  refine (dats m ρ res 0 c).arrAt_eq_of_after_last 5 t0_0 (by decide +kernel) _ fun j => ?_
  blk_simp
  rfl

theorem final_in (c : Dev nD) (w : Fin 6) (h : (cfg0.win w).isOut = false) :
    final m ρ res c w = m ((cfg0.win w).arr.view.loc (c : Thread nD τ)) := (dats (F := F) m ρ res 0 c).arrAt_in w h _

/-- The program ends with every device's result at `outAt`, its arguments as they were, all semaphores at zero. -/
theorem run_main : θ_run defs (onTc (τ := τ) (main (F := F))) ⟨m, fun _ => 0, ρ⟩ (fun r =>
    (∀ c : Dev nD, r.2.mem ((c : Thread nD τ).loc main_v1) = outAt (inp m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun r h => ⟨fun c => ⟨(h.1 c 5).trans (final_out m ρ _ c), (h.1 c 0).trans (final_in m ρ _ c 0 rfl),
    (h.1 c 1).trans (final_in m ρ _ c 1 rfl), (h.1 c 2).trans (final_in m ρ _ c 2 rfl), (h.1 c 3).trans (final_in m ρ _ c 3 rfl),
    (h.1 c 4).trans (final_in m ρ _ c 4 rfl)⟩, h.2⟩) (run_arrays m ρ (fun c => outAt (inp m) c) fun _ => rfl)

end Cert.KernelIdealProof

end

end
-- ==== Proof.Frames.lean ====
/-
# The programs run and leave their arguments alone

Each program ends, whatever the order its devices take their steps in; its arguments are as they were and every
semaphore is at zero again.
-/
module

public import proofs.«01_k».proof.Defs
public import proofs.«01_k».proof.Proof.KernelLaunch
public import proofs.«01_k».proof.Proof.KernelIdealLaunch
public import proofs.«01_k».proof.Proof.Gen.ReferenceIdeal.Run
public import Idealize.ShloMosaic.Lib.Quiescent

@[expose] public section

noncomputable section

namespace Cert.Proof

open Idealize.ShloMosaic Idealize.SL.Sem

/-- The kernel, at the bit patterns. -/
theorem frame_kernel : Cert.quiescent_Kernel (hKernel := Cert.Kernel.Gen.facts) := fun m ρ _ =>
  (θ_run Cert.Kernel.defs _ _).mono (fun _ h => ⟨fun c => (h.1 c).2, h.2⟩) (Cert.KernelProof.run_main (F := Bits) m ρ)

/-- The kernel, at the extended reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdealProof.run_main (F := Ideal) m ρ)

/-- The reference, at the extended reals: it has no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.MaskRead.lean ====
/-
# The mask

Query block `r / 64` attends to key block `J / 64` when the two are equal, when the key block is the first, or when
their sum is divisible by three. Device `c` holds the keys `512 * c` to `512 * c + 511` and computes the mask from words.
-/
module

public import proofs.«01_k».proof.Proof.KernelIdealContents
public import Idealize.ShloMosaic.Lib.Pointwise

@[expose] public section

set_option maxRecDepth 16384

noncomputable section

namespace Cert.KernelIdealProof

open Cert.KernelIdeal Cert.KernelIdeal.Gen
open Idealize.ShloMosaic Idealize.ShloMosaic.Pointwise

/-- Row `r` of the queries attends to position `J` of the whole key sequence. -/
def Keep (r J : ℕ) : Prop := r / 64 = J / 64 ∨ J / 64 = 0 ∨ (r / 64 + J / 64) % 3 = 0

instance (r J : ℕ) : Decidable (Keep r J) := inferInstanceAs (Decidable (_ ∨ _ ∨ _))

/-- The word computation of the block number rounds down. -/
theorem block_word : ∀ i : Fin 512, (Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32)) = BitVec.ofNat 32 (i.val / 64) := by
  decide +kernel

/-- The number of the first key block device `c` holds. -/
theorem first_word : ∀ c : Dev nD, Scalar.muli (Scalar.remsi (Scalar.divsi c.word 1#32) 16#32) 8#32 = BitVec.ofNat 32 (8 * c.val) := by
  decide +kernel

/-- The three conditions on words, for the eight query blocks and the eight key blocks of a device. -/
theorem keep_word : ∀ (c : Dev nD) (a b : Fin 8),
    IntOp.ori (IntOp.ori (IntOp.cmpi CmpIPredicate.eq (BitVec.ofNat 32 a.val) (IntOp.addi (BitVec.ofNat 32 (8 * c.val)) (BitVec.ofNat 32 b.val)))
        (IntOp.cmpi CmpIPredicate.eq (IntOp.addi (BitVec.ofNat 32 (8 * c.val)) (BitVec.ofNat 32 b.val)) 0#32))
      (IntOp.cmpi CmpIPredicate.eq (IntOp.remsi ArithUnit.vector (IntOp.addi (BitVec.ofNat 32 a.val) (IntOp.addi (BitVec.ofNat 32 (8 * c.val)) (BitVec.ofNat 32 b.val))) 3#32) 0#32) = 1#1
    ↔ (a.val = 8 * c.val + b.val ∨ 8 * c.val + b.val = 0 ∨ (a.val + (8 * c.val + b.val)) % 3 = 0) := by
  decide +kernel

/-- The mask device `c` computes, entry by entry. -/
theorem mask_read (I : Inputs Ideal) (c : Dev nD) (i j : Fin 512) :
    val78 I c (ix2 i j) = 1#1 ↔ Keep i.val (512 * c.val + j.val) := by
  pointwise [val78, val72, val75, val16, val17, val19, val26, k0_pay8, k0_pay7, k0_pay6, k0_pay5, k0_pay4, k0_pay3, k0_pay2]
  rw [block_word i, block_word j, first_word c]
  have ha : i.val / 64 < 8 := by omega
  have hb : j.val / 64 < 8 := by omega
  refine (keep_word c ⟨i.val / 64, ha⟩ ⟨j.val / 64, hb⟩).trans ?_
  have e : (512 * c.val + j.val) / 64 = 8 * c.val + j.val / 64 := by omega
  unfold Keep
  rw [e]

end Cert.KernelIdealProof

end

end
-- ==== Proof.RefMask.lean ====
/-
# The reference's mask

The reference computes the block numbers and the three conditions with the host's word operations.
-/
module

public import proofs.«01_k».proof.Proof.MaskRead
public import proofs.«01_k».proof.Proof.Gen.ReferenceIdeal.Read

@[expose] public section

set_option maxRecDepth 16384

noncomputable section

namespace Cert.ReferenceRead

open Cert.ReferenceIdeal Cert.ReferenceIdeal.Gen Cert.ReferenceIdeal.Read
open Idealize.ShloMosaic Idealize.ShloMosaic.Pointwise
open Cert.KernelIdealProof (Keep)

/-- The block number of a query. -/
theorem v3_read (r : Fin 512) : val_main_v3 (F := Ideal) (ix1 r) = BitVec.ofNat 32 (r.val / 64) := by
  pointwise [val_main_v3, val_main_call0_v11, val_main_call0_v13, val_main_call0_v2, val_main_call0_v6, val_main_call0_v10,
    val_main_call0_v3, val_main_call0_v5, val_main_call0_v4, val_main_call0_v8, val_main_call0_v9, val_main_call0_v7, val_main_call0_v1,
    val_main_call0_v12, val_main_call0_c, val_main_call0_c_0, val_main_call0_v0, val_main_c, val_main_v2]
  revert r; decide +kernel

/-- The block number of a position, the position given as its block and its place in it. -/
theorem v6_read (a : Fin 128) (b : Fin 64) : val_main_v6 (F := Ideal) (ix1 (⟨64 * a.val + b.val, by omega⟩ : Fin 8192)) = BitVec.ofNat 32 a.val := by
  pointwise [val_main_v6, val_main_call1_v11, val_main_call1_v13, val_main_call1_v2, val_main_call1_v6, val_main_call1_v10,
    val_main_call1_v3, val_main_call1_v5, val_main_call1_v4, val_main_call1_v8, val_main_call1_v9, val_main_call1_v7, val_main_call1_v1,
    val_main_call1_v12, val_main_call1_c, val_main_call1_c_0, val_main_call1_v0, val_main_c_0, val_main_v5]
  revert a b; decide +kernel

/-- The block number of a position. -/
theorem v6_read' (J : Fin 8192) : val_main_v6 (F := Ideal) (ix1 J) = BitVec.ofNat 32 (J.val / 64) := by
  have h := v6_read ⟨J.val / 64, by omega⟩ ⟨J.val % 64, by omega⟩
  have e : (⟨64 * (J.val / 64) + J.val % 64, by omega⟩ : Fin 8192) = J := Fin.ext (by simp only []; omega)
  rw [e] at h
  exact h

/-- The mask is set exactly where a position is kept for a query. -/
theorem v21_read (r : Fin 512) (J : Fin 8192) : val_main_v21 (F := Ideal) (ix2 r J) = 1#1 ↔ Keep r.val J.val := by
  pointwise [val_main_v21, val_main_v20, val_main_v19, val_main_v18, val_main_v17, val_main_v16, val_main_v15, val_main_v14, val_main_v13,
    val_main_v12, val_main_v11, val_main_v10, val_main_v9, val_main_v8, val_main_v7, val_main_v4, val_main_c_1, val_main_c_2, val_main_c_3,
    val_main_call2_v12, val_main_call2_v14, val_main_call2_v4, val_main_call2_v11, val_main_call2_v6, val_main_call2_v13, val_main_call2_v2,
    val_main_call2_v1, val_main_call2_c_0, val_main_call2_v0, val_main_call2_c, val_main_call2_v3, val_main_call2_v8, val_main_call2_v10, val_main_call2_v9,
    val_main_call2_c_1, val_main_call2_c_2, val_main_call2_c_3, val_main_call2_v5, val_main_call2_v7]
  rw [v3_read, v6_read']
  unfold Keep
  obtain ⟨a, ha⟩ : ∃ a : Fin 8, r.val / 64 = a.val := ⟨⟨_, by omega⟩, rfl⟩
  obtain ⟨b, hb⟩ : ∃ b : Fin 128, J.val / 64 = b.val := ⟨⟨_, by omega⟩, rfl⟩
  rw [ha, hb]
  clear ha hb
  revert a b
  decide +kernel

end Cert.ReferenceRead

end

end
-- ==== Proof.Agree.lean ====
/-
# Rows and columns of the accumulator

The accumulator has 1024 rows and 640 columns. `Agree T P acc` says that `acc` holds `T` on the entries `P` allows; a
store of a rectangle that holds `T` there keeps what the entries outside held.
-/
module

public import proofs.«01_k».proof.Proof.KernelIdealContents
public import Idealize.ShloMosaic.Lib.Pointwise

@[expose] public section

set_option maxRecDepth 16384

noncomputable section

namespace Cert.KernelIdealProof

open Cert.KernelIdeal Cert.KernelIdeal.Gen
open Idealize.ShloMosaic Idealize.ShloMosaic.Pointwise

/-- The accumulator holds `T` at every row and column that `P` allows. -/
def Agree (T : ℕ → ℕ → EReal) (P : ℕ → ℕ → Prop) (acc : S1024x640.Idx → EReal) : Prop :=
  ∀ j : S1024x640.Idx, P (j 0).val (j 1).val → acc j = T (j 0).val (j 1).val

/-- A store of a rectangle. -/
theorem Agree.put {T T' : ℕ → ℕ → EReal} {P P' : ℕ → ℕ → Prop} {acc : S1024x640.Idx → EReal} (m n ro co : ℕ)
    {off : Fin 2 → ℕ} {inb : ∀ a, off a + (⟨2, ![m, n]⟩ : Shape).size a ≤ S1024x640.size a}
    {pay : (⟨2, ![m, n]⟩ : Shape).Idx → EReal} (hoff : off = ![ro, co]) (h : Agree T P acc)
    (hp : ∀ (a : Fin m) (b : Fin n), pay (ix2 a b) = T' (ro + a.val) (co + b.val))
    (hk : ∀ r q, r < 1024 → q < 640 → P' r q → ¬ (ro ≤ r ∧ r < ro + m ∧ co ≤ q ∧ q < co + n) → P r q ∧ T r q = T' r q) :
    Agree T' P' ((Rect.unit (s := S1024x640) off (⟨2, ![m, n]⟩ : Shape).size inb).overlay acc pay) := by
  subst hoff
  intro j hj
  have e0 : (j 0).val < 1024 := (j 0).isLt
  have e1 : (j 1).val < 640 := (j 1).isLt
  by_cases hm : j ∈ (Rect.unit (s := S1024x640) ![ro, co] (⟨2, ![m, n]⟩ : Shape).size inb).set
  · obtain ⟨i, rfl⟩ := LoadRect.exists_idx_of_mem _ hm
    refine (Rect.overlay_emb _ acc pay i).trans ?_
    have hi : i = ix2 (i 0) (i 1) := by
      funext a; match a with
      | 0 => rfl
      | 1 => rfl
    rw [hi]
    refine (hp _ _).trans ?_
    congr 1
    · show ro + _ = ro + 1 * _; rw [Nat.one_mul]; rfl
    · show co + _ = co + 1 * _; rw [Nat.one_mul]; rfl
  · rw [Rect.overlay_of_not_mem _ _ _ hm]
    have hn : ¬ (ro ≤ (j 0).val ∧ (j 0).val < ro + m ∧ co ≤ (j 1).val ∧ (j 1).val < co + n) := fun ⟨a, b, c, d⟩ =>
      hm (Rect.mem_set_unit.mpr fun x => match x with
        | 0 => ⟨a, b⟩
        | 1 => ⟨c, d⟩)
    obtain ⟨hP, hT⟩ := hk _ _ e0 e1 hj hn
    rw [h j hP, hT]

/-- A load of a rectangle. -/
theorem Agree.take {T : ℕ → ℕ → EReal} {P : ℕ → ℕ → Prop} {acc : S1024x640.Idx → EReal} (m n ro co : ℕ)
    {off : Fin 2 → ℕ} {inb : ∀ a, off a + (⟨2, ![m, n]⟩ : Shape).size a ≤ S1024x640.size a}
    (hoff : off = ![ro, co]) (h : Agree T P acc) (a : Fin m) (b : Fin n) (hP : P (ro + a.val) (co + b.val)) :
    cut (Rect.unit (s := S1024x640) off (⟨2, ![m, n]⟩ : Shape).size inb) acc (ix2 a b) = T (ro + a.val) (co + b.val) := by
  subst hoff
  have e0 : ((Rect.unit (s := S1024x640) ![ro, co] (⟨2, ![m, n]⟩ : Shape).size inb).emb (ix2 a b) 0).val = ro + a.val := by
    show ro + 1 * a.val = _; rw [Nat.one_mul]
  have e1 : ((Rect.unit (s := S1024x640) ![ro, co] (⟨2, ![m, n]⟩ : Shape).size inb).emb (ix2 a b) 1).val = co + b.val := by
    show co + 1 * b.val = _; rw [Nat.one_mul]
  have := h ((Rect.unit (s := S1024x640) ![ro, co] (⟨2, ![m, n]⟩ : Shape).size inb).emb (ix2 a b)) (by rw [e0, e1]; exact hP)
  rw [e0, e1] at this
  exact this

end Cert.KernelIdealProof

end

end
-- ==== Proof.Softmax.lean ====
/-
# The softmax quotient over the extended reals

A row of attention divides a weighted sum by the sum of its weights. The reference subtracts the largest score of
the row before the exponential and divides each weight; the kernel does neither and divides the finished sum. With
real scores and one position that is not masked out the two quotients are the same extended real, whatever the
values are.
-/
module

public import Idealize.ShloMosaic.Lib.Pointwise

@[expose] public section

noncomputable section

namespace Cert.Softmax

open Idealize.ShloMosaic

/-- The exponential of a real number, as the idealised operation computes it. -/
theorem exp_coe (r : ℝ) : Ideal.exp (r : EReal) = ((Real.exp r : ℝ) : EReal) := rfl

theorem exp_bot : Ideal.exp (⊥ : EReal) = 0 := rfl

/-- Division by a number other than zero multiplies by its inverse. -/
theorem div_ne {x y : EReal} (h : y ≠ 0) : Ideal.div x y = x * y⁻¹ := if_neg h

/-- A sum of real numbers, read among the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A nonnegative real factor comes out of a sum of extended reals. -/
theorem sum_mul_real {ι : Type} (S : Finset ι) (f : ι → EReal) (r : ℝ) (hr : 0 ≤ r) :
    ∑ k ∈ S, f k * (r : EReal) = (∑ k ∈ S, f k) * (r : EReal) := by
  classical
  induction S using Finset.induction_on with
  | empty => simp
  | insert a S ha ih =>
    rw [Finset.sum_insert ha, Finset.sum_insert ha, ih,
      EReal.right_distrib_of_nonneg_of_ne_top (by exact_mod_cast hr) (EReal.coe_ne_top r)]

/-- The weight the kernel gives a position: the exponential of its score, and zero where it is masked out. -/
def weight (keep : Prop) [Decidable keep] (s : EReal) : EReal := if keep then Ideal.exp s else 0

variable {ι : Type} [Fintype ι] (keep : ι → Prop) [DecidablePred keep]

/-- The score a position has once the mask is applied. -/
def masked (s : ι → EReal) (k : ι) : EReal := if keep k then s k else ⊥

theorem weight_coe (s : ι → ℝ) (k : ι) :
    weight (keep k) (s k : EReal) = ((if keep k then Real.exp (s k) else 0 : ℝ) : EReal) := by
  unfold weight; split <;> simp [exp_coe]

/-- Subtracting a real number from the masked score multiplies the weight by a constant. -/
theorem exp_masked_sub (s : ι → ℝ) (M : ℝ) (k : ι) :
    Ideal.exp (masked keep (fun k => (s k : EReal)) k - (M : EReal))
      = ((if keep k then Real.exp (s k) else 0 : ℝ) * Real.exp (-M) : ℝ) := by
  unfold masked
  split
  · rw [← EReal.coe_sub, exp_coe, sub_eq_add_neg, Real.exp_add]
  · rw [EReal.bot_sub, exp_bot]; simp

/-- The largest masked score of a row with one position kept is a real number. -/
theorem max_real (s : ι → ℝ) (k0 : ι) (h0 : keep k0) :
    ∃ M : ℝ, Finset.univ.fold max ⊥ (masked keep (fun k => (s k : EReal))) = (M : EReal) := by
  have hlt : Finset.univ.fold max ⊥ (masked keep (fun k => (s k : EReal))) < ⊤ := by
    rw [Finset.fold_max_lt]
    refine ⟨bot_lt_top, fun k _ => ?_⟩
    unfold masked; split
    · exact EReal.coe_lt_top _
    · exact bot_lt_top
  have hgt : ⊥ < Finset.univ.fold max ⊥ (masked keep (fun k => (s k : EReal))) := by
    rw [Finset.lt_fold_max]
    refine Or.inr ⟨k0, Finset.mem_univ _, ?_⟩
    unfold masked; rw [if_pos h0]; exact EReal.bot_lt_coe _
  exact ⟨_, (EReal.coe_toReal hlt.ne hgt.ne').symm⟩

/-- **The two quotients.** The sum of the values, each times its normalised shifted weight, is the weighted sum of
    the values divided by the sum of the weights. -/
theorem quotient (s : ι → ℝ) (k0 : ι) (h0 : keep k0) (V : ι → EReal) (M : ℝ) :
    ∑ k, V k * Ideal.div (Ideal.exp (masked keep (fun k => (s k : EReal)) k - (M : EReal)))
        (0 + ∑ k, Ideal.exp (masked keep (fun k => (s k : EReal)) k - (M : EReal)))
      = Ideal.div (∑ k, weight (keep k) (s k : EReal) * V k) (∑ k, weight (keep k) (s k : EReal)) := by
  simp only [exp_masked_sub, weight_coe, zero_add]
  set w : ι → ℝ := fun k => if keep k then Real.exp (s k) else 0 with hw
  have hwk : ∀ k, (if keep k then Real.exp (s k) else 0) = w k := fun _ => rfl
  simp only [hwk]
  have hw0 : ∀ k, 0 ≤ w k := fun k => by
    simp only [hw]; split
    · exact (Real.exp_pos _).le
    · exact le_rfl
  have hpos : 0 < ∑ k, w k :=
    lt_of_lt_of_le (by simp only [hw, if_pos h0]; exact Real.exp_pos _)
      (Finset.single_le_sum (fun k _ => hw0 k) (Finset.mem_univ k0))
  have e : Real.exp (-M) ≠ 0 := (Real.exp_pos _).ne'
  rw [← coe_sum, ← coe_sum, ← Finset.sum_mul]
  have hne : ((∑ k, w k : ℝ) : EReal) ≠ 0 := by exact_mod_cast hpos.ne'
  have hne' : (((∑ k, w k) * Real.exp (-M) : ℝ) : EReal) ≠ 0 := by exact_mod_cast mul_ne_zero hpos.ne' e
  rw [div_ne hne, ← EReal.coe_inv, ← sum_mul_real _ _ _ (inv_nonneg.mpr hpos.le)]
  refine Finset.sum_congr rfl fun k _ => ?_
  rw [div_ne hne', ← EReal.coe_inv, ← EReal.coe_mul, mul_comm ((w k : ℝ) : EReal) (V k), mul_assoc (V k),
    ← EReal.coe_mul]
  congr 1
  rw [EReal.coe_eq_coe_iff]
  field_simp

end Cert.Softmax

end

end
-- ==== Proof.HeadReads.lean ====
/-
# What one head's stores hold, entry by entry

Each of the sixteen head steps of the body multiplies a 64-column slice of the queries with the head's keys, takes the
exponential where the mask is set, sums the rows, and multiplies with the head's values. This module reads those
payloads at an entry, over the extended reals.
-/
module

public import proofs.«01_k».proof.Proof.KernelIdealContents
public import proofs.«01_k».proof.Proof.Softmax
public import Idealize.ShloMosaic.Lib.Pointwise

@[expose] public section

set_option maxRecDepth 16384

noncomputable section

namespace Cert.KernelIdealProof

open Cert.KernelIdeal Cert.KernelIdeal.Gen
open Idealize.ShloMosaic Idealize.ShloMosaic.Pointwise Cert.Softmax

/-- One eighth, the factor the scores are multiplied with. -/
abbrev eighth : EReal := Ideal.ofBits .f32 0x3E000000#32

theorem pay21_read (mask : IVec S512x512 1) (q : FVec Ideal S512x64 .f32) (k v : Vec Ideal S1x512x1x64 .f32)
    (i : Fin 512) (d : Fin 64) :
    k0_pay21 mask q k v (ix2 i d)
      = ∑ j : Fin 512, weight (mask (ix2 i j) = 1#1) ((∑ e : Fin 64, q (ix2 i e) * k (ix4 0 j 0 e)) * eighth)
          * v (ix4 0 j 0 d) := by
  pointwise [k0_pay21, k0_pay20]
  refine Finset.sum_congr rfl fun j _ => ?_
  unfold weight Scalar.select
  by_cases h : mask (ix2 i j) = 1#1
  · rw [if_pos h, if_pos (show mask (ix2 i j) = 1 from h)]
  · rw [if_neg h, if_neg (show ¬ mask (ix2 i j) = 1 from h)]; exact (zero_mul _).symm

theorem pay22_read (mask : IVec S512x512 1) (q : FVec Ideal S512x64 .f32) (k : Vec Ideal S1x512x1x64 .f32)
    (i : Fin 512) (d : Fin 1) :
    k0_pay22 mask q k (ix2 i d)
      = ∑ j : Fin 512, weight (mask (ix2 i j) = 1#1) ((∑ e : Fin 64, q (ix2 i e) * k (ix4 0 j 0 e)) * eighth) := by
  pointwise [k0_pay22, k0_pay20]
  refine Finset.sum_congr rfl fun j _ => ?_
  unfold weight Scalar.select
  by_cases h : mask (ix2 i j) = 1#1
  · rw [if_pos h, if_pos (show mask (ix2 i j) = 1 from h)]
  · rw [if_neg h, if_neg (show ¬ mask (ix2 i j) = 1 from h)]

theorem pay10_read (x : Vec Ideal S1x512x768 .f32) (w : Vec Ideal S768x512 .f32) (i j : Fin 512) :
    k0_pay10 x w (ix2 i j) = ∑ m : Fin 768, x (ix3 0 i m) * w (ix2 m j) := by
  pointwise [k0_pay10]

theorem pay103_read (x : Vec Ideal S512x512 .f32) (w : Vec Ideal S512x768 .f32) (b : Fin 1) (i : Fin 512) (j : Fin 768) :
    k0_pay103 x w (ix3 b i j) = ∑ m : Fin 512, x (ix2 i m) * w (ix2 m j) := by
  pointwise [k0_pay103]

end Cert.KernelIdealProof

end

end
-- ==== Proof.HeadValues.lean ====
/-
# What the accumulator holds once every head is stored

Row `512 * b + i` of the accumulator belongs to query `i` of batch `b`. Columns `64 * h` to `64 * h + 63` hold the
weighted sum of the values of head `h` over the positions of the device, column `512 + h` holds the sum of the weights,
and the columns from 520 on hold zero.
-/
module

public import proofs.«01_k».proof.Proof.Agree
public import proofs.«01_k».proof.Proof.HeadReads
public import proofs.«01_k».proof.Proof.MaskRead

@[expose] public section

set_option maxRecDepth 16384

noncomputable section

namespace Cert.KernelIdealProof

open Cert.KernelIdeal Cert.KernelIdeal.Gen
open Idealize.ShloMosaic Idealize.ShloMosaic.Pointwise Cert.Softmax

/-- Entry `n` of query `i` of batch `b`. -/
def query (I : Inputs Ideal) (c : Dev nD) (b : Fin 2) (i n : Fin 512) : EReal :=
  ∑ m : Fin 768, I.x c (ix3 b i m) * I.wq c (ix2 m n)

set_option backward.proofsInPublic true in
/-- Column `d` of head `h`. -/
def headCol (h : Fin 8) (d : Fin 64) : Fin 512 := ⟨64 * h.val + d.val, by omega⟩

/-- The score of query `i` at position `j` of device `c`. -/
def score (I : Inputs Ideal) (c : Dev nD) (b : Fin 2) (h : Fin 8) (i j : Fin 512) : EReal :=
  (∑ e : Fin 64, query I c b i (headCol h e) * I.k c (ix4 b j h e)) * eighth

/-- The weight of position `j` of device `c` for query `i`. -/
def wt (I : Inputs Ideal) (c : Dev nD) (b : Fin 2) (h : Fin 8) (i j : Fin 512) : EReal :=
  weight (Keep i.val (512 * c.val + j.val)) (score I c b h i j)

/-- The weighted sum of the values over the positions of device `c`. -/
def ctx (I : Inputs Ideal) (c : Dev nD) (b : Fin 2) (h : Fin 8) (i : Fin 512) (d : Fin 64) : EReal :=
  ∑ j : Fin 512, wt I c b h i j * I.v c (ix4 b j h d)

/-- The sum of the weights over the positions of device `c`. -/
def den (I : Inputs Ideal) (c : Dev nD) (b : Fin 2) (h : Fin 8) (i : Fin 512) : EReal :=
  ∑ j : Fin 512, wt I c b h i j

set_option backward.proofsInPublic true in
def batchOf (r : ℕ) : Fin 2 := ⟨r / 512 % 2, Nat.mod_lt _ (by decide)⟩
set_option backward.proofsInPublic true in
def rowOf (r : ℕ) : Fin 512 := ⟨r % 512, Nat.mod_lt _ (by decide)⟩
set_option backward.proofsInPublic true in
def headOf (q : ℕ) : Fin 8 := ⟨q / 64 % 8, Nat.mod_lt _ (by decide)⟩
set_option backward.proofsInPublic true in
def colOf (q : ℕ) : Fin 64 := ⟨q % 64, Nat.mod_lt _ (by decide)⟩
set_option backward.proofsInPublic true in
def denHead (q : ℕ) : Fin 8 := ⟨(q - 512) % 8, Nat.mod_lt _ (by decide)⟩

/-- The accumulator of device `c` before any exchange. -/
def part (I : Inputs Ideal) (c : Dev nD) (r q : ℕ) : EReal :=
  if q < 512 then ctx I c (batchOf r) (headOf q) (rowOf r) (colOf q)
  else if q < 520 then den I c (batchOf r) (denHead q) (rowOf r) else 0

theorem part_ctx (I : Inputs Ideal) (c : Dev nD) (b : Fin 2) (h : Fin 8) (i : Fin 512) (d : Fin 64) :
    part I c (512 * b.val + i.val) (64 * h.val + d.val) = ctx I c b h i d := by
  unfold part
  rw [if_pos (by omega)]
  congr 1
  · exact Fin.ext (by simp only [batchOf]; omega)
  · exact Fin.ext (by simp only [headOf]; omega)
  · exact Fin.ext (by simp only [rowOf]; omega)
  · exact Fin.ext (by simp only [colOf]; omega)

theorem part_den (I : Inputs Ideal) (c : Dev nD) (b : Fin 2) (h : Fin 8) (i : Fin 512) :
    part I c (512 * b.val + i.val) (512 + h.val) = den I c b h i := by
  unfold part
  rw [if_neg (by omega), if_pos (by omega)]
  congr 1
  · exact Fin.ext (by simp only [batchOf]; omega)
  · exact Fin.ext (by simp only [denHead]; omega)
  · exact Fin.ext (by simp only [rowOf]; omega)

/-- A load of one head of one batch of the keys or the values. -/
theorem take_kv (X : S2x512x8x64.Idx → EReal) (b : Fin 2) (h : Fin 8) {off : Fin 4 → ℕ} (inb)
    (hoff : off = ![b.val, 0, h.val, 0]) (j : Fin 512) (e : Fin 64) :
    cut (Rect.unit (s := S2x512x8x64) off S1x512x1x64.size inb) X (ix4 0 j 0 e) = X (ix4 b j h e) := by
  subst hoff
  refine congrArg X (funext fun a => Fin.ext ?_)
  match a with
  | 0 => show b.val + 1 * 0 = b.val; omega
  | 1 => show 0 + 1 * j.val = j.val; omega
  | 2 => show h.val + 1 * 0 = h.val; omega
  | 3 => show 0 + 1 * e.val = e.val; omega

/-- A load of one batch of the activations. -/
theorem take_x (X : S2x512x768.Idx → EReal) (b : Fin 2) {off : Fin 3 → ℕ} (inb)
    (hoff : off = ![b.val, 0, 0]) (i : Fin 512) (m : Fin 768) :
    cut (Rect.unit (s := S2x512x768) off S1x512x768.size inb) X (ix3 0 i m) = X (ix3 b i m) := by
  subst hoff
  refine congrArg X (funext fun a => Fin.ext ?_)
  match a with
  | 0 => show b.val + 1 * 0 = b.val; omega
  | 1 => show 0 + 1 * i.val = i.val; omega
  | 2 => show 0 + 1 * m.val = m.val; omega

/-- A load of a whole matrix. -/
theorem take_all {m n : ℕ} (X : (⟨2, ![m, n]⟩ : Shape).Idx → EReal) (inb) (i : Fin m) (j : Fin n) :
    cut (Rect.unit (s := ⟨2, ![m, n]⟩) ![0, 0] (⟨2, ![m, n]⟩ : Shape).size inb) X (ix2 i j) = X (ix2 i j) := by
  refine congrArg X (funext fun a => Fin.ext ?_)
  match a with
  | 0 => show 0 + 1 * i.val = i.val; omega
  | 1 => show 0 + 1 * j.val = j.val; omega

/-- The queries of one batch. -/
theorem query_read (I : Inputs Ideal) (c : Dev nD) (b : Fin 2) {off : Fin 3 → ℕ} (inb) (inb') (hoff : off = ![b.val, 0, 0])
    (i n : Fin 512) :
    k0_pay10 (cut (Rect.unit (s := S2x512x768) off S1x512x768.size inb) (I.x c))
      (cut (Rect.unit (s := S768x512) ![0, 0] S768x512.size inb') (I.wq c)) (ix2 i n) = query I c b i n := by
  rw [pay10_read]
  refine Finset.sum_congr rfl fun m _ => ?_
  rw [take_x (I.x c) b inb hoff]
  exact congrArg _ (take_all (m := 768) (n := 512) (I.wq c) inb' m n)

section Step

variable (I : Inputs Ideal) (c : Dev nD) (b : Fin 2) (h : Fin 8)
variable {offk : Fin 4 → ℕ} {inbk : ∀ a, offk a + S1x512x1x64.size a ≤ S2x512x8x64.size a}
variable {q : FVec Ideal S512x512 .f32} {so : Fin 2 → ℕ} {hs : S512x512.Slices so S512x64}

/-- The weight the head step computes. -/
theorem wt_read (hk : offk = ![b.val, 0, h.val, 0]) (hso : so = ![0, 64 * h.val])
    (hq : ∀ i n, q (ix2 i n) = query I c b i n) (i j : Fin 512) :
    weight (val78 I c (ix2 i j) = 1#1)
        ((∑ e : Fin 64, extractStridedSlice S512x64 so q hs (ix2 i e)
            * cut (Rect.unit (s := S2x512x8x64) offk S1x512x1x64.size inbk) (I.k c) (ix4 0 j 0 e)) * eighth)
      = wt I c b h i j := by
  have hs' : ∀ e : Fin 64, extractStridedSlice S512x64 so q hs (ix2 i e) = query I c b i (headCol h e) := by
    intro e
    refine Eq.trans ?_ (hq i (headCol h e))
    subst hso
    refine congrArg q (funext fun a => Fin.ext ?_)
    match a with
    | 0 => show 0 + i.val = i.val; omega
    | 1 => rfl
  have hsum : (∑ e : Fin 64, extractStridedSlice S512x64 so q hs (ix2 i e)
            * cut (Rect.unit (s := S2x512x8x64) offk S1x512x1x64.size inbk) (I.k c) (ix4 0 j 0 e)) * eighth = score I c b h i j := by
    unfold score
    congr 1
    refine Finset.sum_congr rfl fun e _ => ?_
    rw [hs' e]
    exact congrArg _ (take_kv (I.k c) b h inbk hk j e)
  rw [hsum]
  unfold wt weight
  by_cases hm : Keep i.val (512 * c.val + j.val)
  · rw [if_pos hm, if_pos ((mask_read I c i j).mpr hm)]
  · rw [if_neg hm, if_neg (fun e => hm ((mask_read I c i j).mp e))]

/-- One head's two stores. -/
theorem head_step {P P' : ℕ → ℕ → Prop} {acc : S1024x640.Idx → EReal} {offc offl : Fin 2 → ℕ}
    {inbc : ∀ a, offc a + S512x64.size a ≤ S1024x640.size a} {inbl : ∀ a, offl a + S512x1.size a ≤ S1024x640.size a}
    (hk : offk = ![b.val, 0, h.val, 0]) (hc : offc = ![512 * b.val, 64 * h.val]) (hl : offl = ![512 * b.val, 512 + h.val])
    (hso : so = ![0, 64 * h.val]) (hq : ∀ i n, q (ix2 i n) = query I c b i n) (hg : Agree (part I c) P acc)
    (hP : ∀ r s, r < 1024 → s < 640 → P' r s → P r s ∨ (512 * b.val ≤ r ∧ r < 512 * b.val + 512
      ∧ ((64 * h.val ≤ s ∧ s < 64 * h.val + 64) ∨ s = 512 + h.val))) :
    Agree (part I c) P' ((Rect.unit (s := S1024x640) offl S512x1.size inbl).overlay
      ((Rect.unit (s := S1024x640) offc S512x64.size inbc).overlay acc
        (k0_pay21 (val78 I c) (extractStridedSlice S512x64 so q hs)
          (cut (Rect.unit (s := S2x512x8x64) offk S1x512x1x64.size inbk) (I.k c))
          (cut (Rect.unit (s := S2x512x8x64) offk S1x512x1x64.size inbk) (I.v c))))
      (k0_pay22 (val78 I c) (extractStridedSlice S512x64 so q hs)
          (cut (Rect.unit (s := S2x512x8x64) offk S1x512x1x64.size inbk) (I.k c)))) := by
  have h1 : Agree (part I c) (fun r s => P' r s ∧ ¬ (512 * b.val ≤ r ∧ r < 512 * b.val + 512 ∧ s = 512 + h.val))
      ((Rect.unit (s := S1024x640) offc S512x64.size inbc).overlay acc
        (k0_pay21 (val78 I c) (extractStridedSlice S512x64 so q hs)
          (cut (Rect.unit (s := S2x512x8x64) offk S1x512x1x64.size inbk) (I.k c))
          (cut (Rect.unit (s := S2x512x8x64) offk S1x512x1x64.size inbk) (I.v c)))) := by
    refine Agree.put 512 64 (512 * b.val) (64 * h.val) hc hg (fun i d => ?_) (fun r s hr hs' hp hn => ⟨?_, rfl⟩)
    · rw [part_ctx]
      refine (pay21_read _ _ _ _ i d).trans (Finset.sum_congr rfl fun j _ => ?_)
      rw [wt_read I c b h hk hso hq]
      exact congrArg _ (take_kv (I.v c) b h inbk hk j d)
    · rcases hP r s hr hs' hp.1 with h2 | ⟨h2, h3, h4 | h4⟩
      · exact h2
      · exact absurd ⟨h2, h3, h4.1, h4.2⟩ hn
      · exact absurd ⟨h2, h3, h4⟩ hp.2
  refine Agree.put 512 1 (512 * b.val) (512 + h.val) hl h1 (fun i d => ?_) (fun r s hr hs' hp hn => ⟨⟨hp, fun e => hn ⟨e.1, e.2.1, by omega, by omega⟩⟩, rfl⟩)
  have hd : d.val = 0 := by omega
  rw [hd, Nat.add_zero, part_den]
  refine (pay22_read _ _ _ i d).trans (Finset.sum_congr rfl fun j _ => ?_)
  rw [wt_read I c b h hk hso hq]

end Step

end Cert.KernelIdealProof

end

end
-- ==== Proof.RefRead.lean ====
/-
# The reference's values

The reference's result at an index: a sum over the 512 columns of the heads, where a column is the softmax quotient
of a row of scores. With real scores the quotient is the weighted sum of the values divided by the sum of the weights.
-/
module

public import proofs.«01_k».proof.Proof.RefMask
public import proofs.«01_k».proof.Proof.HeadValues
public import Idealize.ShloMosaic.Lib.Routing.OpsOrder

@[expose] public section

set_option maxRecDepth 16384

noncomputable section

namespace Cert.ReferenceRead

open Cert.ReferenceIdeal Cert.ReferenceIdeal.Gen Cert.ReferenceIdeal.Read
open Idealize.ShloMosaic Idealize.ShloMosaic.Pointwise
open Cert.KernelIdealProof (Keep eighth headCol)
open Cert.Softmax (masked weight)

/-! ## Real numbers among the extended reals -/

/-- An extended real that is a real number. -/
def IsReal (y : EReal) : Prop := ∃ r : ℝ, y = (r : EReal)

theorem IsReal.mul {y z : EReal} (hy : IsReal y) (hz : IsReal z) : IsReal (y * z) := by
  obtain ⟨a, rfl⟩ := hy
  obtain ⟨b, rfl⟩ := hz
  exact ⟨a * b, (EReal.coe_mul a b).symm⟩

theorem IsReal.sum {ι : Type} (S : Finset ι) {f : ι → EReal} (hf : ∀ k, IsReal (f k)) : IsReal (∑ k ∈ S, f k) := by
  choose g hg using hf
  exact ⟨∑ k ∈ S, g k, by rw [Cert.Softmax.coe_sum]; exact Finset.sum_congr rfl fun k _ => hg k⟩

/-- The scale of the scores is a real number. -/
theorem eighth_real : IsReal eighth := by
  refine ⟨1 / 8, ?_⟩
  simp [eighth, Ideal.ofBits, Ideal.ieee, -EReal.coe_mul]; norm_num

/-- The fill of the masked scores is the extended real −∞. -/
theorem fill_bot : Ideal.ofBits .f32 0xFF800000#32 = ⊥ := by
  simp [Ideal.ofBits, Ideal.ieee]

/-- The bound the precondition compares with is +∞. -/
theorem top_bits : Ideal.ofBits .f32 0x7F800000#32 = ⊤ := by
  simp [Ideal.ofBits, Ideal.ieee]

/-! ## The stages -/

variable (x0 : FVec Ideal S2x512x768 .f32) (x1 : FVec Ideal S768x512 .f32) (x2 x3 : FVec Ideal S2x8192x8x64 .f32) (x4 : FVec Ideal S512x768 .f32)

/-- Entry `n` of query `i` of batch `b`. -/
def query (b : Fin 2) (i n : Fin 512) : EReal := ∑ m : Fin 768, x0 (ix3 b i m) * x1 (ix2 m n)

/-- The score of query `i` at position `J`. -/
def score (b : Fin 2) (h : Fin 8) (i : Fin 512) (J : Fin 8192) : EReal :=
  (∑ e : Fin 64, query x0 x1 b i (headCol h e) * x2 (ix4 b J h e)) * eighth

/-- The queries, split into heads. -/
theorem v1_read (b : Fin 2) (r : Fin 512) (h : Fin 8) (e : Fin 64) :
    val_main_v1 (F := Ideal) x0 x1 (ix4 b r h e) = query x0 x1 b r (headCol h e) := by
  pointwise [val_main_v1, val_main_v0]
  refine Finset.sum_congr rfl fun m _ => ?_
  refine congrArg (fun n : Fin 512 => x0 (ix3 b r m) * x1 (ix2 m n)) (Fin.ext ?_)
  show h.val * 64 + e.val = 64 * h.val + e.val
  omega

/-- The scaled scores. -/
theorem v24_read (b : Fin 2) (h : Fin 8) (r : Fin 512) (J : Fin 8192) :
    val_main_v24 (F := Ideal) x0 x1 x2 (ix4 b h r J) = score x0 x1 x2 b h r J := by
  pointwise [val_main_v24, val_main_v23, val_main_cst, val_main_v22]
  exact congrArg (· * eighth) (Finset.sum_congr rfl fun e _ => by rw [v1_read])

/-- The scores with the mask applied. -/
theorem v26_read (b : Fin 2) (h : Fin 8) (r : Fin 512) (J : Fin 8192) :
    val_main_v26 (F := Ideal) x0 x1 x2 (ix4 b h r J) = masked (fun J : Fin 8192 => Keep r.val J.val) (score x0 x1 x2 b h r) J := by
  pointwise [val_main_v26, val_main_call3_v0, val_main_cst_4, val_main_call3_v1, val_main_call3_v2, val_main_v25]
  rw [v24_read]
  unfold masked Scalar.select
  by_cases hk : Keep r.val J.val
  · have e : val_main_v21 (F := Ideal) (ix2 r J) = 1#1 := (v21_read r J).mpr hk
    rw [if_pos hk, if_pos (show val_main_v21 (F := Ideal) (ix2 r J) = 1 from e)]
  · have e : ¬ val_main_v21 (F := Ideal) (ix2 r J) = 1#1 := fun e => hk ((v21_read r J).mp e)
    rw [if_neg hk, if_neg (show ¬ val_main_v21 (F := Ideal) (ix2 r J) = 1 from e)]
    exact fill_bot

/-- The largest masked score of a row. -/
def top (b : Fin 2) (h : Fin 8) (r : Fin 512) : EReal :=
  Finset.univ.fold max ⊥ (masked (fun J : Fin 8192 => Keep r.val J.val) (score x0 x1 x2 b h r))

/-- The largest score of each row. -/
theorem v27_read (b : Fin 2) (h : Fin 8) (r : Fin 512) :
    val_main_v27 (F := Ideal) x0 x1 x2 (ix3 b h r) = top x0 x1 x2 b h r := by
  pointwise [val_main_v27, val_main_cst_5]
  rw [fill_bot]
  exact congrArg (fun f : Fin 8192 → EReal => Finset.univ.fold max ⊥ f) (funext fun J => v26_read x0 x1 x2 b h r J)

/-- The exponentials. -/
theorem v31_read (b : Fin 2) (h : Fin 8) (r : Fin 512) (J : Fin 8192) :
    val_main_v31 (F := Ideal) x0 x1 x2 (ix4 b h r J)
      = Ideal.exp (masked (fun J : Fin 8192 => Keep r.val J.val) (score x0 x1 x2 b h r) J - top x0 x1 x2 b h r) := by
  pointwise [val_main_v31, val_main_v30, val_main_v29, val_main_v28]
  rw [v26_read, v27_read]

/-- The first position is kept for every query. -/
theorem keep_first (r : ℕ) : Keep r (0 : Fin 8192).val := Or.inr (Or.inl rfl)

/-- Every query keeps some position. -/
theorem v32_read (r : Fin 512) : val_main_v32 (F := Ideal) (ix1 r) = 1#1 := by
  pointwise [val_main_v32, val_main_c_6]
  rw [Routing.fold_ori]
  exact ⟨0, Finset.mem_univ _, (v21_read r 0).mpr (keep_first r.val)⟩

/-- The sums of the exponentials. -/
theorem v34_read (b : Fin 2) (h : Fin 8) (r : Fin 512) :
    val_main_v34 (F := Ideal) x0 x1 x2 (ix3 b h r) = ∑ J : Fin 8192, val_main_v31 (F := Ideal) x0 x1 x2 (ix4 b h r J) := by
  pointwise [val_main_v34, val_main_cst_7]

/-- The divisor of a row. -/
theorem v36_read (b : Fin 2) (h : Fin 8) (r : Fin 512) (z : Fin 1) :
    val_main_v36 (F := Ideal) x0 x1 x2 (ix4 b h r z) = val_main_v34 (F := Ideal) x0 x1 x2 (ix3 b h r) := by
  have e := v32_read r
  unfold val_main_v36 val_main_call4_v1 val_main_v35 val_main_v33
  generalize val_main_v32 (F := Ideal) = B at e ⊢
  generalize val_main_v34 (F := Ideal) x0 x1 x2 = C
  generalize val_main_call4_v2 (F := Ideal) = D
  pointwise []
  rw [e]
  rfl

/-- The divisor of a row, at each position. -/
theorem v37_read (b : Fin 2) (h : Fin 8) (r : Fin 512) (J : Fin 8192) :
    val_main_v37 (F := Ideal) x0 x1 x2 (ix4 b h r J) = val_main_v34 (F := Ideal) x0 x1 x2 (ix3 b h r) := by
  have e := v36_read x0 x1 x2 b h r 0
  rw [val_main_v37_apply]
  generalize val_main_v36 (F := Ideal) x0 x1 x2 = C at e ⊢
  refine Eq.trans (congrArg C (funext fun a => ?_)) e
  match a with
  | 0 => rfl
  | 1 => rfl
  | 2 => rfl
  | 3 => rfl

/-- The normalised weights. -/
theorem v38_read (b : Fin 2) (h : Fin 8) (r : Fin 512) (J : Fin 8192) :
    val_main_v38 (F := Ideal) x0 x1 x2 (ix4 b h r J)
      = Ideal.div (val_main_v31 (F := Ideal) x0 x1 x2 (ix4 b h r J)) (val_main_v34 (F := Ideal) x0 x1 x2 (ix3 b h r)) := by
  rw [← v37_read x0 x1 x2 b h r J, val_main_v38_apply]
  generalize val_main_v31 (F := Ideal) x0 x1 x2 (ix4 b h r J) = A
  generalize val_main_v37 (F := Ideal) x0 x1 x2 (ix4 b h r J) = C
  rfl

/-- The last mask keeps every row. -/
theorem v40_mask (b : Fin 2) (h : Fin 8) (r : Fin 512) (J : Fin 8192) :
    val_main_call5_v1 (F := Ideal) (ix4 b h r J) = 1#1 := by
  have e := v32_read r
  unfold val_main_call5_v1 val_main_v39
  generalize val_main_v32 (F := Ideal) = B at e ⊢
  pointwise []
  exact e

/-- The weights the values are summed with. -/
theorem v40_read (b : Fin 2) (h : Fin 8) (r : Fin 512) (J : Fin 8192) :
    val_main_v40 (F := Ideal) x0 x1 x2 (ix4 b h r J)
      = Ideal.div (val_main_v31 (F := Ideal) x0 x1 x2 (ix4 b h r J)) (val_main_v34 (F := Ideal) x0 x1 x2 (ix3 b h r)) := by
  rw [val_main_v40_apply, v40_mask, v38_read]
  exact if_pos rfl

/-! ## The quotient of a row -/

variable (h0 : ∀ b i m, IsReal (x0 (ix3 b i m))) (h1 : ∀ m n, IsReal (x1 (ix2 m n))) (h2 : ∀ b J h e, IsReal (x2 (ix4 b J h e)))

include h0 h1 h2 in
/-- Scores of real inputs are real. -/
theorem score_real (b : Fin 2) (h : Fin 8) (i : Fin 512) (J : Fin 8192) : IsReal (score x0 x1 x2 b h i J) :=
  (IsReal.sum _ fun e => (IsReal.sum _ fun m => (h0 b i m).mul (h1 m _)).mul (h2 b J h e)).mul eighth_real

include h0 h1 h2 in
/-- A sum of values, each times the reference's normalised weight, is the weighted sum divided by the sum of the
    weights. -/
theorem row_quotient (b : Fin 2) (h : Fin 8) (r : Fin 512) (V : Fin 8192 → EReal) :
    ∑ J : Fin 8192, V J * val_main_v40 (F := Ideal) x0 x1 x2 (ix4 b h r J)
      = Ideal.div (∑ J : Fin 8192, weight (Keep r.val J.val) (score x0 x1 x2 b h r J) * V J)
          (∑ J : Fin 8192, weight (Keep r.val J.val) (score x0 x1 x2 b h r J)) := by
  obtain ⟨s, hs⟩ : ∃ s : Fin 8192 → ℝ, score x0 x1 x2 b h r = fun J => (s J : EReal) := by
    choose s hs using score_real x0 x1 x2 h0 h1 h2 b h r
    exact ⟨s, funext hs⟩
  obtain ⟨M, hM⟩ : ∃ M : ℝ, top x0 x1 x2 b h r = (M : EReal) := by
    unfold top
    rw [hs]
    exact Cert.Softmax.max_real _ s 0 (keep_first r.val)
  have e : ∀ J, val_main_v40 (F := Ideal) x0 x1 x2 (ix4 b h r J)
      = Ideal.div (Ideal.exp (masked (fun J : Fin 8192 => Keep r.val J.val) (fun J => (s J : EReal)) J - (M : EReal)))
          (0 + ∑ J : Fin 8192, Ideal.exp (masked (fun J : Fin 8192 => Keep r.val J.val) (fun J => (s J : EReal)) J - (M : EReal))) := fun J => by
    rw [v40_read, v34_read, zero_add]
    simp only [v31_read, hs, hM]
  simp only [e, hs]
  exact Cert.Softmax.quotient (fun J : Fin 8192 => Keep r.val J.val) s 0 (keep_first r.val) V M

set_option backward.proofsInPublic true in
/-- The head of a column. -/
def headPart (m : Fin 512) : Fin 8 := ⟨m.val / 64, by omega⟩
set_option backward.proofsInPublic true in
/-- The place of a column in its head. -/
def colPart (m : Fin 512) : Fin 64 := ⟨m.val % 64, by omega⟩

include h0 h1 h2 in
/-- **The reference's result.** -/
theorem result_read (b : Fin 2) (i : Fin 512) (j : Fin 768) :
    val_main_v44 (F := Ideal) x0 x1 x2 x3 x4 (ix3 b i j)
      = ∑ m : Fin 512,
          Ideal.div
            (∑ J : Fin 8192, weight (Keep i.val J.val) (score x0 x1 x2 b (headPart m) i J) * x3 (ix4 b J (headPart m) (colPart m)))
            (∑ J : Fin 8192, weight (Keep i.val J.val) (score x0 x1 x2 b (headPart m) i J))
          * x4 (ix2 m j) := by
  pointwise [val_main_v44, val_main_v43, val_main_v42, val_main_v41]
  refine Finset.sum_congr rfl fun m _ => congrArg (· * x4 (ix2 m j)) ?_
  exact row_quotient x0 x1 x2 h0 h1 h2 b (headPart m) i (fun J => x3 (ix4 b J (headPart m) (colPart m)))

end Cert.ReferenceRead

end
-- ==== Proof.HeadFill.lean ====
/-
# The sixteen head steps

Each device first stores the eight heads of the other batch (the one whose rows it sends away), then the eight heads of
its own. After both halves the accumulator holds `part` everywhere, and after the first half it already does so on the
rows of the other batch.
-/
module

public import proofs.«01_k».proof.Proof.HeadValues

@[expose] public section

set_option maxRecDepth 16384

noncomputable section

namespace Cert.KernelIdealProof

open Cert.KernelIdeal Cert.KernelIdeal.Gen
open Idealize.ShloMosaic Idealize.ShloMosaic.Pointwise Cert.Softmax

set_option backward.proofsInPublic true in
/-- The batch whose rows device `c` keeps. -/
def ownB (c : Dev nD) : Fin 2 := ⟨c.val % 2, Nat.mod_lt _ (by decide)⟩
set_option backward.proofsInPublic true in
/-- The other batch. -/
def othB (c : Dev nD) : Fin 2 := ⟨1 - c.val % 2, by omega⟩

/-- What is stored after `n` heads of the first half. -/
def First (c : Dev nD) (n r s : ℕ) : Prop := 520 ≤ s ∨ (r / 512 = 1 - c.val % 2 ∧ (s < 64 * n ∨ (512 ≤ s ∧ s < 512 + n)))

/-- What is stored after `n` heads of the second half. -/
def Second (c : Dev nD) (n r s : ℕ) : Prop := First c 8 r s ∨ (r / 512 = c.val % 2 ∧ (s < 64 * n ∨ (512 ≤ s ∧ s < 512 + n)))

variable (I : Inputs Ideal) (c : Dev nD)

theorem fill0 : Agree (part I c) (First c 0) (acc0 I c) := by
  intro j hj
  have e0 : (j 0).val < 1024 := (j 0).isLt
  have hz : acc0 I c j = 0 := by
    delta acc0
    pointwise [k0_pay9]
  rw [hz]
  unfold part
  have h520 : 520 ≤ (j 1).val := by
    rcases hj with h | ⟨h, h' | h'⟩ <;> omega
  rw [if_neg (by omega), if_neg (by omega)]

theorem query1 (i n : Fin 512) : val91 I c (ix2 i n) = query I c (othB c) i n :=
  query_read I c (othB c) _ _ (by revert c; decide +kernel) i n

theorem query2 (i n : Fin 512) : val339 I c (ix2 i n) = query I c (ownB c) i n :=
  query_read I c (ownB c) _ _ (by revert c; decide +kernel) i n

theorem fill1 : Agree (part I c) (First c 1) (acc2 I c) :=
  head_step I c (othB c) 0 (q := val91 I c) (acc := acc0 I c) (so := ![0, 0]) (hs := slices_S512x512_o0_0_S512x64)
    (offk := k0_off2 c) (inbk := k0_off2_inb c) (inbc := k0_off3_inb c) (inbl := k0_off4_inb c)
    (by revert c; decide +kernel) (by revert c; decide +kernel) (by revert c; decide +kernel) (by decide)
    (query1 I c) (fill0 I c) (fun r s hr hs h => by
      simp only [First, Second, othB] at h ⊢
      omega)

theorem fill2 : Agree (part I c) (First c 2) (acc4 I c) :=
  head_step I c (othB c) 1 (q := val91 I c) (acc := acc2 I c) (so := ![0, 64]) (hs := slices_S512x512_o0_64_S512x64)
    (offk := k0_off5 c) (inbk := k0_off5_inb c) (inbc := k0_off6_inb c) (inbl := k0_off7_inb c)
    (by revert c; decide +kernel) (by revert c; decide +kernel) (by revert c; decide +kernel) (by decide)
    (query1 I c) (fill1 I c) (fun r s hr hs h => by
      simp only [First, Second, othB] at h ⊢
      omega)

theorem fill3 : Agree (part I c) (First c 3) (acc6 I c) :=
  head_step I c (othB c) 2 (q := val91 I c) (acc := acc4 I c) (so := ![0, 128]) (hs := slices_S512x512_o0_128_S512x64)
    (offk := k0_off8 c) (inbk := k0_off8_inb c) (inbc := k0_off9_inb c) (inbl := k0_off10_inb c)
    (by revert c; decide +kernel) (by revert c; decide +kernel) (by revert c; decide +kernel) (by decide)
    (query1 I c) (fill2 I c) (fun r s hr hs h => by
      simp only [First, Second, othB] at h ⊢
      omega)

theorem fill4 : Agree (part I c) (First c 4) (acc8 I c) :=
  head_step I c (othB c) 3 (q := val91 I c) (acc := acc6 I c) (so := ![0, 192]) (hs := slices_S512x512_o0_192_S512x64)
    (offk := k0_off11 c) (inbk := k0_off11_inb c) (inbc := k0_off12_inb c) (inbl := k0_off13_inb c)
    (by revert c; decide +kernel) (by revert c; decide +kernel) (by revert c; decide +kernel) (by decide)
    (query1 I c) (fill3 I c) (fun r s hr hs h => by
      simp only [First, Second, othB] at h ⊢
      omega)

theorem fill5 : Agree (part I c) (First c 5) (acc10 I c) :=
  head_step I c (othB c) 4 (q := val91 I c) (acc := acc8 I c) (so := ![0, 256]) (hs := slices_S512x512_o0_256_S512x64)
    (offk := k0_off14 c) (inbk := k0_off14_inb c) (inbc := k0_off15_inb c) (inbl := k0_off16_inb c)
    (by revert c; decide +kernel) (by revert c; decide +kernel) (by revert c; decide +kernel) (by decide)
    (query1 I c) (fill4 I c) (fun r s hr hs h => by
      simp only [First, Second, othB] at h ⊢
      omega)

theorem fill6 : Agree (part I c) (First c 6) (acc12 I c) :=
  head_step I c (othB c) 5 (q := val91 I c) (acc := acc10 I c) (so := ![0, 320]) (hs := slices_S512x512_o0_320_S512x64)
    (offk := k0_off17 c) (inbk := k0_off17_inb c) (inbc := k0_off18_inb c) (inbl := k0_off19_inb c)
    (by revert c; decide +kernel) (by revert c; decide +kernel) (by revert c; decide +kernel) (by decide)
    (query1 I c) (fill5 I c) (fun r s hr hs h => by
      simp only [First, Second, othB] at h ⊢
      omega)

theorem fill7 : Agree (part I c) (First c 7) (acc14 I c) :=
  head_step I c (othB c) 6 (q := val91 I c) (acc := acc12 I c) (so := ![0, 384]) (hs := slices_S512x512_o0_384_S512x64)
    (offk := k0_off20 c) (inbk := k0_off20_inb c) (inbc := k0_off21_inb c) (inbl := k0_off22_inb c)
    (by revert c; decide +kernel) (by revert c; decide +kernel) (by revert c; decide +kernel) (by decide)
    (query1 I c) (fill6 I c) (fun r s hr hs h => by
      simp only [First, Second, othB] at h ⊢
      omega)

theorem fill8 : Agree (part I c) (First c 8) (acc16 I c) :=
  head_step I c (othB c) 7 (q := val91 I c) (acc := acc14 I c) (so := ![0, 448]) (hs := slices_S512x512_o0_448_S512x64)
    (offk := k0_off23 c) (inbk := k0_off23_inb c) (inbc := k0_off24_inb c) (inbl := k0_off25_inb c)
    (by revert c; decide +kernel) (by revert c; decide +kernel) (by revert c; decide +kernel) (by decide)
    (query1 I c) (fill7 I c) (fun r s hr hs h => by
      simp only [First, Second, othB] at h ⊢
      omega)

theorem fill9 : Agree (part I c) (Second c 1) (acc18 I c) :=
  head_step I c (ownB c) 0 (q := val339 I c) (acc := acc16 I c) (so := ![0, 0]) (hs := slices_S512x512_o0_0_S512x64)
    (offk := k0_off28 c) (inbk := k0_off28_inb c) (inbc := k0_off29_inb c) (inbl := k0_off30_inb c)
    (by revert c; decide +kernel) (by revert c; decide +kernel) (by revert c; decide +kernel) (by decide)
    (query2 I c) (fill8 I c) (fun r s hr hs h => by
      simp only [First, Second, ownB] at h ⊢
      omega)

theorem fill10 : Agree (part I c) (Second c 2) (acc20 I c) :=
  head_step I c (ownB c) 1 (q := val339 I c) (acc := acc18 I c) (so := ![0, 64]) (hs := slices_S512x512_o0_64_S512x64)
    (offk := k0_off31 c) (inbk := k0_off31_inb c) (inbc := k0_off32_inb c) (inbl := k0_off33_inb c)
    (by revert c; decide +kernel) (by revert c; decide +kernel) (by revert c; decide +kernel) (by decide)
    (query2 I c) (fill9 I c) (fun r s hr hs h => by
      simp only [First, Second, ownB] at h ⊢
      omega)

theorem fill11 : Agree (part I c) (Second c 3) (acc22 I c) :=
  head_step I c (ownB c) 2 (q := val339 I c) (acc := acc20 I c) (so := ![0, 128]) (hs := slices_S512x512_o0_128_S512x64)
    (offk := k0_off34 c) (inbk := k0_off34_inb c) (inbc := k0_off35_inb c) (inbl := k0_off36_inb c)
    (by revert c; decide +kernel) (by revert c; decide +kernel) (by revert c; decide +kernel) (by decide)
    (query2 I c) (fill10 I c) (fun r s hr hs h => by
      simp only [First, Second, ownB] at h ⊢
      omega)

theorem fill12 : Agree (part I c) (Second c 4) (acc24 I c) :=
  head_step I c (ownB c) 3 (q := val339 I c) (acc := acc22 I c) (so := ![0, 192]) (hs := slices_S512x512_o0_192_S512x64)
    (offk := k0_off37 c) (inbk := k0_off37_inb c) (inbc := k0_off38_inb c) (inbl := k0_off39_inb c)
    (by revert c; decide +kernel) (by revert c; decide +kernel) (by revert c; decide +kernel) (by decide)
    (query2 I c) (fill11 I c) (fun r s hr hs h => by
      simp only [First, Second, ownB] at h ⊢
      omega)

theorem fill13 : Agree (part I c) (Second c 5) (acc26 I c) :=
  head_step I c (ownB c) 4 (q := val339 I c) (acc := acc24 I c) (so := ![0, 256]) (hs := slices_S512x512_o0_256_S512x64)
    (offk := k0_off40 c) (inbk := k0_off40_inb c) (inbc := k0_off41_inb c) (inbl := k0_off42_inb c)
    (by revert c; decide +kernel) (by revert c; decide +kernel) (by revert c; decide +kernel) (by decide)
    (query2 I c) (fill12 I c) (fun r s hr hs h => by
      simp only [First, Second, ownB] at h ⊢
      omega)

theorem fill14 : Agree (part I c) (Second c 6) (acc28 I c) :=
  head_step I c (ownB c) 5 (q := val339 I c) (acc := acc26 I c) (so := ![0, 320]) (hs := slices_S512x512_o0_320_S512x64)
    (offk := k0_off43 c) (inbk := k0_off43_inb c) (inbc := k0_off44_inb c) (inbl := k0_off45_inb c)
    (by revert c; decide +kernel) (by revert c; decide +kernel) (by revert c; decide +kernel) (by decide)
    (query2 I c) (fill13 I c) (fun r s hr hs h => by
      simp only [First, Second, ownB] at h ⊢
      omega)

theorem fill15 : Agree (part I c) (Second c 7) (acc30 I c) :=
  head_step I c (ownB c) 6 (q := val339 I c) (acc := acc28 I c) (so := ![0, 384]) (hs := slices_S512x512_o0_384_S512x64)
    (offk := k0_off46 c) (inbk := k0_off46_inb c) (inbc := k0_off47_inb c) (inbl := k0_off48_inb c)
    (by revert c; decide +kernel) (by revert c; decide +kernel) (by revert c; decide +kernel) (by decide)
    (query2 I c) (fill14 I c) (fun r s hr hs h => by
      simp only [First, Second, ownB] at h ⊢
      omega)

theorem fill16 : Agree (part I c) (Second c 8) (acc32 I c) :=
  head_step I c (ownB c) 7 (q := val339 I c) (acc := acc30 I c) (so := ![0, 448]) (hs := slices_S512x512_o0_448_S512x64)
    (offk := k0_off49 c) (inbk := k0_off49_inb c) (inbc := k0_off50_inb c) (inbl := k0_off51_inb c)
    (by revert c; decide +kernel) (by revert c; decide +kernel) (by revert c; decide +kernel) (by decide)
    (query2 I c) (fill15 I c) (fun r s hr hs h => by
      simp only [First, Second, ownB] at h ⊢
      omega)

/-- The accumulator after the first half, on the rows of the other batch. -/
theorem first_half : Agree (part I c) (fun r s => r / 512 = 1 - c.val % 2) (acc16 I c) := fun j hj => by
  have e1 : (j 1).val < 640 := (j 1).isLt
  refine fill8 I c j ?_
  show First c 8 _ _
  unfold First
  omega

/-- The accumulator after both halves. -/
theorem second_half : Agree (part I c) (fun r s => True) (acc32 I c) := fun j _ => by
  have e0 : (j 0).val < 1024 := (j 0).isLt
  have e1 : (j 1).val < 640 := (j 1).isLt
  refine fill16 I c j ?_
  show Second c 8 _ _
  unfold Second First
  omega

end Cert.KernelIdealProof

end

end
-- ==== Proof.ReduceScatter.lean ====
/-
# The reduce-scatter exchanges

In exchange `k` each device adds the rows its peer sent to the half of its rows it keeps. After four exchanges the 64
rows a device keeps hold the sum of the accumulators of all sixteen devices.
-/
module

public import proofs.«01_k».proof.Proof.HeadFill

@[expose] public section

set_option maxRecDepth 16384

noncomputable section

namespace Cert.KernelIdealProof

open Cert.KernelIdeal Cert.KernelIdeal.Gen
open Idealize.ShloMosaic Idealize.ShloMosaic.Pointwise Cert.Softmax

variable (I : Inputs Ideal) (c : Dev nD)

/-- The sum of a device's entry and its first peer's. -/
def sum1 (f : Dev nD → EReal) (c : Dev nD) : EReal := f c + f (peer 0 c)
/-- The sum over four devices. -/
def sum2 (f : Dev nD → EReal) (c : Dev nD) : EReal := sum1 f c + sum1 f (peer 1 c)
/-- The sum over eight devices. -/
def sum3 (f : Dev nD → EReal) (c : Dev nD) : EReal := sum2 f c + sum2 f (peer 2 c)
/-- The sum over sixteen devices. -/
def sum4 (f : Dev nD → EReal) (c : Dev nD) : EReal := sum3 f c + sum3 f (peer 3 c)

/-- The sixteen devices the last sum reaches are all of them, from wherever it starts. -/
theorem sum4_eq (f : Dev nD → EReal) (c : Dev nD) : sum4 f c = ∑ d : Dev nD, f d := by
  have hu : (Finset.univ : Finset (Dev nD)) = ({c, peer 0 c, peer 1 c, peer 0 (peer 1 c), peer 2 c, peer 0 (peer 2 c),
      peer 1 (peer 2 c), peer 0 (peer 1 (peer 2 c)), peer 3 c, peer 0 (peer 3 c), peer 1 (peer 3 c), peer 0 (peer 1 (peer 3 c)),
      peer 2 (peer 3 c), peer 0 (peer 2 (peer 3 c)), peer 1 (peer 2 (peer 3 c)), peer 0 (peer 1 (peer 2 (peer 3 c)))} : Finset (Dev nD)) := by
    revert c; decide +kernel
  rw [hu]
  unfold sum4 sum3 sum2 sum1
  repeat rw [Finset.sum_insert (by revert c; decide +kernel)]
  rw [Finset.sum_singleton]
  ac_rfl

/-- The first of the rows device `c` keeps after each exchange. -/
def ro1 (c : Dev nD) : ℕ := 512 * (c.val % 2)
def ro2 (c : Dev nD) : ℕ := ro1 c + 256 * (c.val / 2 % 2)
def ro3 (c : Dev nD) : ℕ := ro2 c + 128 * (c.val / 4 % 2)
def ro4 (c : Dev nD) : ℕ := ro3 c + 64 * (c.val / 8 % 2)

theorem ro_bounds (c : Dev nD) : ro1 c ≤ ro2 c ∧ ro2 c + 256 ≤ ro1 c + 512 ∧ ro2 c ≤ ro3 c ∧ ro3 c + 128 ≤ ro2 c + 256
    ∧ ro3 c ≤ ro4 c ∧ ro4 c + 64 ≤ ro3 c + 128 := by
  unfold ro4 ro3 ro2
  omega

/-- The entry at row `r` and column `s` of each device's accumulator. -/
def entry (r s : ℕ) : Dev nD → EReal := fun d => part I d r s

theorem pay81_read (x : Vec Ideal S512x640 .f32) (y : Vec Ideal S512x640 .bf16) (a : Fin 512) (b : Fin 640) :
    k0_pay81 x y (ix2 a b) = x (ix2 a b) + y (ix2 a b) := by pointwise [k0_pay81]
theorem pay83_read (x : Vec Ideal S256x640 .f32) (y : Vec Ideal S256x640 .bf16) (a : Fin 256) (b : Fin 640) :
    k0_pay83 x y (ix2 a b) = x (ix2 a b) + y (ix2 a b) := by pointwise [k0_pay83]
theorem pay85_read (x : Vec Ideal S128x640 .f32) (y : Vec Ideal S128x640 .bf16) (a : Fin 128) (b : Fin 640) :
    k0_pay85 x y (ix2 a b) = x (ix2 a b) + y (ix2 a b) := by pointwise [k0_pay85]
theorem pay87_read (x : Vec Ideal S64x640 .f32) (y : Vec Ideal S64x640 .bf16) (a : Fin 64) (b : Fin 640) :
    k0_pay87 x y (ix2 a b) = x (ix2 a b) + y (ix2 a b) := by pointwise [k0_pay87]
theorem pay45_read (x : Vec Ideal S512x640 .f32) (a : Fin 512) (b : Fin 640) : k0_pay45 x (ix2 a b) = x (ix2 a b) := by
  pointwise [k0_pay45]
theorem pay82_read (x : Vec Ideal S256x640 .f32) (a : Fin 256) (b : Fin 640) : k0_pay82 x (ix2 a b) = x (ix2 a b) := by
  pointwise [k0_pay82]
theorem pay84_read (x : Vec Ideal S128x640 .f32) (a : Fin 128) (b : Fin 640) : k0_pay84 x (ix2 a b) = x (ix2 a b) := by
  pointwise [k0_pay84]
theorem pay86_read (x : Vec Ideal S64x640 .f32) (a : Fin 64) (b : Fin 640) : k0_pay86 x (ix2 a b) = x (ix2 a b) := by
  pointwise [k0_pay86]

/-- After exchange 0 the rows device `c` keeps hold sums over 2 devices. -/
theorem added1 : Agree (fun r s => sum1 (entry I r s) c) (fun r s => ro1 c ≤ r ∧ r < ro1 c + 512) (acc33 I c) := by
  refine Agree.put 512 640 (ro1 c) 0 (off := k0_off52 c) (inb := k0_off52_inb c) (by revert c; decide +kernel) (second_half I c) (fun a b => ?_)
    (fun r s hr hs h hn => absurd ⟨h.1, h.2, Nat.zero_le _, by omega⟩ hn)
  refine (pay81_read _ _ a b).trans ?_
  refine congrArg₂ (· + ·) ?_ ?_
  · exact Agree.take 512 640 (ro1 c) 0 (off := k0_off52 c) (inb := k0_off52_inb c) (by revert c; decide +kernel) (second_half I c) a b trivial
  · refine (pay45_read _ a b).trans ?_
    refine Agree.take (T := (part I (peer 0 c))) 512 640 (ro1 c) 0 (off := k0_off26 (peer 0 c)) (inb := k0_off26_inb (peer 0 c)) (by revert c; decide +kernel) (first_half I (peer 0 c)) a b ?_
    have e : 1 - (peer 0 c).val % 2 = c.val % 2 := by revert c; decide +kernel
    show (512 * (c.val % 2) + a.val) / 512 = 1 - (peer 0 c).val % 2
    rw [e]
    omega

/-- After exchange 1 the rows device `c` keeps hold sums over 4 devices. -/
theorem added2 : Agree (fun r s => sum2 (entry I r s) c) (fun r s => ro2 c ≤ r ∧ r < ro2 c + 256) (acc34 I c) := by
  refine Agree.put 256 640 (ro2 c) 0 (off := k0_off54 c) (inb := k0_off54_inb c) (by revert c; decide +kernel) (added1 I c) (fun a b => ?_)
    (fun r s hr hs h hn => absurd ⟨h.1, h.2, Nat.zero_le _, by omega⟩ hn)
  refine (pay83_read _ _ a b).trans ?_
  refine congrArg₂ (· + ·) ?_ ?_
  · exact Agree.take 256 640 (ro2 c) 0 (off := k0_off54 c) (inb := k0_off54_inb c) (by revert c; decide +kernel) (added1 I c) a b (by have hb := ro_bounds c; constructor <;> omega)
  · refine (pay82_read _ a b).trans ?_
    refine Agree.take (T := (fun r s => sum1 (entry I r s) (peer 1 c))) 256 640 (ro2 c) 0 (off := k0_off53 (peer 1 c)) (inb := k0_off53_inb (peer 1 c)) (by revert c; decide +kernel) (added1 I (peer 1 c)) a b ?_
    have e : ro1 (peer 1 c) = ro1 c := by revert c; decide +kernel
    show ro1 (peer 1 c) ≤ ro2 c + a.val ∧ ro2 c + a.val < ro1 (peer 1 c) + 512
    rw [e]
    have hb := ro_bounds c
    constructor <;> omega

/-- After exchange 2 the rows device `c` keeps hold sums over 8 devices. -/
theorem added3 : Agree (fun r s => sum3 (entry I r s) c) (fun r s => ro3 c ≤ r ∧ r < ro3 c + 128) (acc35 I c) := by
  refine Agree.put 128 640 (ro3 c) 0 (off := k0_off56 c) (inb := k0_off56_inb c) (by revert c; decide +kernel) (added2 I c) (fun a b => ?_)
    (fun r s hr hs h hn => absurd ⟨h.1, h.2, Nat.zero_le _, by omega⟩ hn)
  refine (pay85_read _ _ a b).trans ?_
  refine congrArg₂ (· + ·) ?_ ?_
  · exact Agree.take 128 640 (ro3 c) 0 (off := k0_off56 c) (inb := k0_off56_inb c) (by revert c; decide +kernel) (added2 I c) a b (by have hb := ro_bounds c; constructor <;> omega)
  · refine (pay84_read _ a b).trans ?_
    refine Agree.take (T := (fun r s => sum2 (entry I r s) (peer 2 c))) 128 640 (ro3 c) 0 (off := k0_off55 (peer 2 c)) (inb := k0_off55_inb (peer 2 c)) (by revert c; decide +kernel) (added2 I (peer 2 c)) a b ?_
    have e : ro2 (peer 2 c) = ro2 c := by revert c; decide +kernel
    show ro2 (peer 2 c) ≤ ro3 c + a.val ∧ ro3 c + a.val < ro2 (peer 2 c) + 256
    rw [e]
    have hb := ro_bounds c
    constructor <;> omega

/-- After exchange 3 the rows device `c` keeps hold sums over 16 devices. -/
theorem added4 : Agree (fun r s => sum4 (entry I r s) c) (fun r s => ro4 c ≤ r ∧ r < ro4 c + 64) (acc36 I c) := by
  refine Agree.put 64 640 (ro4 c) 0 (off := k0_off58 c) (inb := k0_off58_inb c) (by revert c; decide +kernel) (added3 I c) (fun a b => ?_)
    (fun r s hr hs h hn => absurd ⟨h.1, h.2, Nat.zero_le _, by omega⟩ hn)
  refine (pay87_read _ _ a b).trans ?_
  refine congrArg₂ (· + ·) ?_ ?_
  · exact Agree.take 64 640 (ro4 c) 0 (off := k0_off58 c) (inb := k0_off58_inb c) (by revert c; decide +kernel) (added3 I c) a b (by have hb := ro_bounds c; constructor <;> omega)
  · refine (pay86_read _ a b).trans ?_
    refine Agree.take (T := (fun r s => sum3 (entry I r s) (peer 3 c))) 64 640 (ro4 c) 0 (off := k0_off57 (peer 3 c)) (inb := k0_off57_inb (peer 3 c)) (by revert c; decide +kernel) (added3 I (peer 3 c)) a b ?_
    have e : ro3 (peer 3 c) = ro3 c := by revert c; decide +kernel
    show ro3 (peer 3 c) ≤ ro4 c + a.val ∧ ro4 c + a.val < ro3 (peer 3 c) + 128
    rw [e]
    have hb := ro_bounds c
    constructor <;> omega

/-- The sum over all devices of the entry at row `r` and column `s`. -/
def total (r s : ℕ) : EReal := ∑ d : Dev nD, part I d r s

/-- After the four exchanges the 64 rows device `c` keeps hold the sums over all devices. -/
theorem reduced : Agree (total I) (fun r s => ro4 c ≤ r ∧ r < ro4 c + 64) (acc36 I c) := fun j hj =>
  (added4 I c j hj).trans (sum4_eq _ c)

end Cert.KernelIdealProof

end

end
-- ==== Proof.Gather.lean ====
/-
# The division and the all-gather exchanges

Each device divides the 64 rows it holds by their sums of weights, head by head, and the four exchanges that follow
spread the quotients to every device. The two products with the output weights then make the result.
-/
module

public import proofs.«01_k».proof.Proof.ReduceScatter
public import proofs.«01_k».proof.Proof.KernelIdealStages

@[expose] public section

set_option maxRecDepth 16384

noncomputable section

namespace Cert.KernelIdealProof

open Cert.KernelIdeal Cert.KernelIdeal.Gen
open Idealize.ShloMosaic Idealize.ShloMosaic.Pointwise Cert.Softmax

variable (I : Inputs Ideal) (c : Dev nD)

/-- The attention output at row `r` and column `s`: the weighted sum of the values over the sum of the weights. -/
def quot (r s : ℕ) : EReal := Ideal.div (total I r s) (total I r (512 + s / 64))

/-- The rows after `n` heads are divided. -/
def mixed (n r s : ℕ) : EReal := if s < 64 * n then quot I r s else total I r s

theorem pay88_read (x : Vec Ideal S64x64 .f32) (y : Vec Ideal S64x1 .f32) (a b : Fin 64) :
    k0_pay88 x y (ix2 a b) = Ideal.div (x (ix2 a b)) (y (ix2 a 0)) := by pointwise [k0_pay88]

/-- One head's division. -/
theorem div_step (n : ℕ) (hn : n < 8) {acc : S1024x640.Idx → EReal} {off off' : Fin 2 → ℕ}
    {inb : ∀ a, off a + S64x64.size a ≤ S1024x640.size a} {inb' : ∀ a, off' a + S64x1.size a ≤ S1024x640.size a}
    (ho : off = ![ro4 c, 64 * n]) (ho' : off' = ![ro4 c, 512 + n])
    (h : Agree (mixed I n) (fun r s => ro4 c ≤ r ∧ r < ro4 c + 64) acc) :
    Agree (mixed I (n + 1)) (fun r s => ro4 c ≤ r ∧ r < ro4 c + 64)
      ((Rect.unit (s := S1024x640) off S64x64.size inb).overlay acc
        (k0_pay88 (F := Ideal) (cut (Rect.unit (s := S1024x640) off S64x64.size inb) acc) (cut (Rect.unit (s := S1024x640) off' S64x1.size inb') acc))) := by
  refine Agree.put 64 64 (ro4 c) (64 * n) ho h (fun a b => ?_) (fun r s hr hs h hm => ⟨h, ?_⟩)
  · refine (pay88_read _ _ a b).trans ?_
    have e1 := Agree.take 64 64 (ro4 c) (64 * n) (inb := inb) ho h a b (by constructor <;> omega)
    have e2 := Agree.take 64 1 (ro4 c) (512 + n) (inb := inb') ho' h a 0 (by constructor <;> omega)
    refine (congrArg₂ Ideal.div e1 e2).trans ?_
    unfold mixed quot
    rw [if_neg (by omega), if_neg (by simp; omega), if_pos (by omega)]
    congr 2
    simp only [Fin.val_zero]; omega
  · unfold mixed
    by_cases h1 : s < 64 * n
    · rw [if_pos h1, if_pos (by omega)]
    · rw [if_neg h1, if_neg (fun h2 => hm ⟨h.1, h.2, by omega, by omega⟩)]

theorem divided0 : Agree (mixed I 0) (fun r s => ro4 c ≤ r ∧ r < ro4 c + 64) (acc36 I c) := fun j hj => by
  rw [reduced I c j hj]
  unfold mixed
  rw [if_neg (by omega)]

theorem divided1 : Agree (mixed I 1) (fun r s => ro4 c ≤ r ∧ r < ro4 c + 64) (acc37 I c) :=
  div_step I c 0 (by decide) (acc := acc36 I c) (off := k0_off59 c) (off' := k0_off60 c) (inb := k0_off59_inb c) (inb' := k0_off60_inb c)
    (by revert c; decide +kernel) (by revert c; decide +kernel) (divided0 I c)

theorem divided2 : Agree (mixed I 2) (fun r s => ro4 c ≤ r ∧ r < ro4 c + 64) (acc38 I c) :=
  div_step I c 1 (by decide) (acc := acc37 I c) (off := k0_off61 c) (off' := k0_off62 c) (inb := k0_off61_inb c) (inb' := k0_off62_inb c)
    (by revert c; decide +kernel) (by revert c; decide +kernel) (divided1 I c)

theorem divided3 : Agree (mixed I 3) (fun r s => ro4 c ≤ r ∧ r < ro4 c + 64) (acc39 I c) :=
  div_step I c 2 (by decide) (acc := acc38 I c) (off := k0_off63 c) (off' := k0_off64 c) (inb := k0_off63_inb c) (inb' := k0_off64_inb c)
    (by revert c; decide +kernel) (by revert c; decide +kernel) (divided2 I c)

theorem divided4 : Agree (mixed I 4) (fun r s => ro4 c ≤ r ∧ r < ro4 c + 64) (acc40 I c) :=
  div_step I c 3 (by decide) (acc := acc39 I c) (off := k0_off65 c) (off' := k0_off66 c) (inb := k0_off65_inb c) (inb' := k0_off66_inb c)
    (by revert c; decide +kernel) (by revert c; decide +kernel) (divided3 I c)

theorem divided5 : Agree (mixed I 5) (fun r s => ro4 c ≤ r ∧ r < ro4 c + 64) (acc41 I c) :=
  div_step I c 4 (by decide) (acc := acc40 I c) (off := k0_off67 c) (off' := k0_off68 c) (inb := k0_off67_inb c) (inb' := k0_off68_inb c)
    (by revert c; decide +kernel) (by revert c; decide +kernel) (divided4 I c)

theorem divided6 : Agree (mixed I 6) (fun r s => ro4 c ≤ r ∧ r < ro4 c + 64) (acc42 I c) :=
  div_step I c 5 (by decide) (acc := acc41 I c) (off := k0_off69 c) (off' := k0_off70 c) (inb := k0_off69_inb c) (inb' := k0_off70_inb c)
    (by revert c; decide +kernel) (by revert c; decide +kernel) (divided5 I c)

theorem divided7 : Agree (mixed I 7) (fun r s => ro4 c ≤ r ∧ r < ro4 c + 64) (acc43 I c) :=
  div_step I c 6 (by decide) (acc := acc42 I c) (off := k0_off71 c) (off' := k0_off72 c) (inb := k0_off71_inb c) (inb' := k0_off72_inb c)
    (by revert c; decide +kernel) (by revert c; decide +kernel) (divided6 I c)

theorem divided8 : Agree (mixed I 8) (fun r s => ro4 c ≤ r ∧ r < ro4 c + 64) (acc44 I c) :=
  div_step I c 7 (by decide) (acc := acc43 I c) (off := k0_off73 c) (off' := k0_off74 c) (inb := k0_off73_inb c) (inb' := k0_off74_inb c)
    (by revert c; decide +kernel) (by revert c; decide +kernel) (divided7 I c)

/-- After the division the rows device `c` keeps hold the attention output. -/
theorem gathered0 : Agree (quot I) (fun r s => ro4 c ≤ r ∧ r < ro4 c + 64 ∧ s < 512) (acc44 I c) := fun j hj => by
  rw [divided8 I c j ⟨hj.1, hj.2.1⟩]
  unfold mixed
  rw [if_pos (by omega)]

theorem pay97_read (x : Vec Ideal S64x512 .bf16) (a : Fin 64) (b : Fin 512) : k0_pay97 x (ix2 a b) = x (ix2 a b) := by
  pointwise [k0_pay97]
theorem pay99_read (x : Vec Ideal S128x512 .bf16) (a : Fin 128) (b : Fin 512) : k0_pay99 x (ix2 a b) = x (ix2 a b) := by
  pointwise [k0_pay99]
theorem pay101_read (x : Vec Ideal S256x512 .bf16) (a : Fin 256) (b : Fin 512) : k0_pay101 x (ix2 a b) = x (ix2 a b) := by
  pointwise [k0_pay101]
theorem pay104_read (x : Vec Ideal S512x512 .bf16) (a : Fin 512) (b : Fin 512) : k0_pay104 x (ix2 a b) = x (ix2 a b) := by
  pointwise [k0_pay104]
theorem pay96_read (x : Vec Ideal S64x512 .f32) (a : Fin 64) (b : Fin 512) : k0_pay96 x (ix2 a b) = x (ix2 a b) := by
  pointwise [k0_pay96]
theorem pay98_read (x : Vec Ideal S128x512 .f32) (a : Fin 128) (b : Fin 512) : k0_pay98 x (ix2 a b) = x (ix2 a b) := by
  pointwise [k0_pay98]
theorem pay100_read (x : Vec Ideal S256x512 .f32) (a : Fin 256) (b : Fin 512) : k0_pay100 x (ix2 a b) = x (ix2 a b) := by
  pointwise [k0_pay100]
theorem pay102_read (x : Vec Ideal S512x512 .f32) (a : Fin 512) (b : Fin 512) : k0_pay102 x (ix2 a b) = x (ix2 a b) := by
  pointwise [k0_pay102]

/-- After exchange 4. -/
theorem gathered1 : Agree (quot I) (fun r s => ro3 c ≤ r ∧ r < ro3 c + 128 ∧ s < 512) (acc45 I c) := by
  have e : ro4 (peer 4 c) + ro4 c = 2 * ro3 c + 64 := by revert c; decide +kernel
  have e2 : ro4 c = ro3 c ∨ ro4 c = ro3 c + 64 := by revert c; decide +kernel
  refine Agree.put 64 512 (ro4 (peer 4 c)) 0 (off := k0_off76 c) (inb := k0_off76_inb c) (by revert c; decide +kernel) (gathered0 I c) (fun a b => ?_)
    (fun r s hr hs h hn => ⟨?_, rfl⟩)
  · refine (pay97_read _ a b).trans ((pay96_read _ a b).trans ?_)
    exact Agree.take 64 512 (ro4 (peer 4 c)) 0 (off := k0_off75 (peer 4 c)) (inb := k0_off75_inb (peer 4 c)) (by revert c; decide +kernel) (gathered0 I (peer 4 c)) a b
      ⟨by omega, by omega, by omega⟩
  · omega

/-- After exchange 5. -/
theorem gathered2 : Agree (quot I) (fun r s => ro2 c ≤ r ∧ r < ro2 c + 256 ∧ s < 512) (acc46 I c) := by
  have e : ro3 (peer 5 c) + ro3 c = 2 * ro2 c + 128 := by revert c; decide +kernel
  have e2 : ro3 c = ro2 c ∨ ro3 c = ro2 c + 128 := by revert c; decide +kernel
  refine Agree.put 128 512 (ro3 (peer 5 c)) 0 (off := k0_off78 c) (inb := k0_off78_inb c) (by revert c; decide +kernel) (gathered1 I c) (fun a b => ?_)
    (fun r s hr hs h hn => ⟨?_, rfl⟩)
  · refine (pay99_read _ a b).trans ((pay98_read _ a b).trans ?_)
    exact Agree.take 128 512 (ro3 (peer 5 c)) 0 (off := k0_off77 (peer 5 c)) (inb := k0_off77_inb (peer 5 c)) (by revert c; decide +kernel) (gathered1 I (peer 5 c)) a b
      ⟨by omega, by omega, by omega⟩
  · omega

/-- After exchange 6. -/
theorem gathered3 : Agree (quot I) (fun r s => ro1 c ≤ r ∧ r < ro1 c + 512 ∧ s < 512) (acc47 I c) := by
  have e : ro2 (peer 6 c) + ro2 c = 2 * ro1 c + 256 := by revert c; decide +kernel
  have e2 : ro2 c = ro1 c ∨ ro2 c = ro1 c + 256 := by revert c; decide +kernel
  refine Agree.put 256 512 (ro2 (peer 6 c)) 0 (off := k0_off80 c) (inb := k0_off80_inb c) (by revert c; decide +kernel) (gathered2 I c) (fun a b => ?_)
    (fun r s hr hs h hn => ⟨?_, rfl⟩)
  · refine (pay101_read _ a b).trans ((pay100_read _ a b).trans ?_)
    exact Agree.take 256 512 (ro2 (peer 6 c)) 0 (off := k0_off79 (peer 6 c)) (inb := k0_off79_inb (peer 6 c)) (by revert c; decide +kernel) (gathered2 I (peer 6 c)) a b
      ⟨by omega, by omega, by omega⟩
  · omega

/-- After exchange 7. -/
theorem gathered4 : Agree (quot I) (fun r s => s < 512) (acc48 I c) := by
  have e : ro1 (peer 7 c) + ro1 c = 512 := by revert c; decide +kernel
  have e2 : ro1 c = 0 ∨ ro1 c = 512 := by revert c; decide +kernel
  refine Agree.put 512 512 (ro1 (peer 7 c)) 0 (off := k0_off83 c) (inb := k0_off83_inb c) (by revert c; decide +kernel) (gathered3 I c) (fun a b => ?_)
    (fun r s hr hs h hn => ⟨?_, rfl⟩)
  · refine (pay104_read _ a b).trans ((pay102_read _ a b).trans ?_)
    exact Agree.take 512 512 (ro1 (peer 7 c)) 0 (off := k0_off81 (peer 7 c)) (inb := k0_off81_inb (peer 7 c)) (by revert c; decide +kernel) (gathered3 I (peer 7 c)) a b
      ⟨by omega, by omega, by omega⟩
  · omega

/-- The output of one batch. -/
def outVal (d : Dev nD) (b : Fin 2) (i : Fin 512) (j : Fin 768) : EReal :=
  ∑ m : Fin 512, quot I (512 * b.val + i.val) m.val * I.wo d (ix2 m j)

theorem first_out (b : Fin 1) (i : Fin 512) (j : Fin 768) :
    k0_pay103 (val923 I c) (val924 I c) (ix3 b i j) = outVal I c (ownB c) i j := by
  refine (pay103_read _ _ b i j).trans (Finset.sum_congr rfl fun m _ => ?_)
  refine congrArg₂ (· * ·) ?_ (take_all (m := 512) (n := 768) (I.wo c) _ m j)
  refine (Agree.take 512 512 (512 * (ownB c).val) 0 (off := k0_off82 c) (inb := k0_off82_inb c) (by revert c; decide +kernel) (gathered3 I c) i m
    ⟨Nat.le_add_right _ _, by show 512 * (c.val % 2) + i.val < 512 * (c.val % 2) + 512; omega, by omega⟩).trans ?_
  rw [Nat.zero_add]

theorem second_out (b : Fin 1) (i : Fin 512) (j : Fin 768) :
    k0_pay1 (val953 I c) (val954 I c) (ix3 b i j) = outVal I c (othB c) i j := by
  refine (pay103_read _ _ b i j).trans (Finset.sum_congr rfl fun m _ => ?_)
  refine congrArg₂ (· * ·) ?_ (take_all (m := 512) (n := 768) (I.wo c) _ m j)
  refine (Agree.take 512 512 (512 * (othB c).val) 0 (off := k0_off84 c) (inb := k0_off84_inb c) (by revert c; decide +kernel) (gathered4 I c) i m
    (by omega)).trans ?_
  rw [Nat.zero_add]

/-- A store of one batch, read in that batch. -/
theorem put_batch (X : S2x512x768.Idx → EReal) (b : Fin 2) {off : Fin 3 → ℕ} (inb) (pay : S1x512x768.Idx → EReal)
    (hoff : off = ![b.val, 0, 0]) (i : Fin 512) (j : Fin 768) :
    (Rect.unit (s := S2x512x768) off S1x512x768.size inb).overlay X pay (ix3 b i j) = pay (ix3 0 i j) := by
  subst hoff
  have he : (Rect.unit (s := S2x512x768) ![b.val, 0, 0] S1x512x768.size inb).emb (ix3 0 i j) = ix3 b i j := by
    refine funext fun a => Fin.ext ?_
    match a with
    | 0 => show b.val + 1 * 0 = b.val; omega
    | 1 => show 0 + 1 * i.val = i.val; omega
    | 2 => show 0 + 1 * j.val = j.val; omega
  have h := Rect.overlay_emb (Rect.unit (s := S2x512x768) ![b.val, 0, 0] S1x512x768.size inb) X pay (ix3 0 i j)
  rw [he] at h
  exact h

/-- A store of one batch, read in another. -/
theorem put_other (X : S2x512x768.Idx → EReal) (b b' : Fin 2) {off : Fin 3 → ℕ} (inb) (pay : S1x512x768.Idx → EReal)
    (hoff : off = ![b'.val, 0, 0]) (hb : b ≠ b') (i : Fin 512) (j : Fin 768) :
    (Rect.unit (s := S2x512x768) off S1x512x768.size inb).overlay X pay (ix3 b i j) = X (ix3 b i j) := by
  subst hoff
  refine Rect.overlay_of_not_mem _ _ _ fun hm => hb (Fin.ext ?_)
  have h : b'.val ≤ b.val ∧ b.val < b'.val + 1 := Rect.mem_set_unit.mp hm 0
  omega

/-- **The result of the kernel**, entry by entry. -/
theorem outAt_read (b : Fin 2) (i : Fin 512) (j : Fin 768) : outAt I c (ix3 b i j) = outVal I c b i j := by
  delta outAt outR1 outR2
  by_cases hb : b = othB c
  · subst hb
    exact (put_batch _ (othB c) _ _ (by revert c; decide +kernel) i j).trans (second_out I c 0 i j)
  · have hb' : b = ownB c := Fin.ext (by
      have h1 : b.val ≠ 1 - c.val % 2 := fun h => hb (Fin.ext h)
      show b.val = c.val % 2
      omega)
    subst hb'
    refine (put_other _ (ownB c) (othB c) _ _ (by revert c; decide +kernel) hb i j).trans ?_
    exact (put_batch _ (ownB c) _ _ (by revert c; decide +kernel) i j).trans (first_out I c 0 i j)

end Cert.KernelIdealProof

end

end
-- ==== Proof.Agreement.lean ====
/-
# The kernel and the reference compute the same numbers

Device `c` holds positions `512 c` to `512 c + 511` of the keys and the values. The sums the kernel's devices hold,
added over the devices, are the sums over all 8192 positions, so the kernel's quotient is the reference's.
-/
module

public import proofs.«01_k».proof.Proof.RefRead
public import proofs.«01_k».proof.Proof.Gather

@[expose] public section

set_option maxRecDepth 16384

noncomputable section

namespace Cert.Agreement

open Idealize.ShloMosaic Idealize.ShloMosaic.Pointwise
open Cert.KernelIdeal (nD)
open Cert.KernelIdealProof (Keep eighth headCol Inputs)
open Cert.ReferenceIdeal (S2x512x768 S768x512 S2x8192x8x64 S512x768)
open Cert.ReferenceRead (IsReal headPart colPart)
open Cert.Softmax (masked weight)

set_option backward.proofsInPublic true in
/-- Position `j` of device `c` among all positions. -/
def pos (c : Dev nD) (j : Fin 512) : Fin 8192 := ⟨512 * c.val + j.val, by have h : c.val < 16 := c.isLt; omega⟩

/-- A sum over all positions is a sum over the devices of the sums over their positions. -/
theorem sum_positions (f : Fin 8192 → EReal) : ∑ J : Fin 8192, f J = ∑ c : Dev nD, ∑ j : Fin 512, f (pos c j) := by
  rw [← Fintype.sum_prod_type']
  refine (Equiv.sum_comp (finProdFinEquiv : Fin 16 × Fin 512 ≃ Fin (16 * 512)) f).symm.trans ?_
  refine Finset.sum_congr rfl fun p _ => congrArg f (Fin.ext ?_)
  show p.2.val + 512 * p.1.val = 512 * p.1.val + p.2.val
  omega

/-- The inputs of the kernel's devices are the reference's: the keys and the values in blocks of 512 positions. -/
structure Same (I : Inputs Ideal) (x0 : FVec Ideal S2x512x768 .f32) (x1 : FVec Ideal S768x512 .f32)
    (x2 x3 : FVec Ideal S2x8192x8x64 .f32) (x4 : FVec Ideal S512x768 .f32) : Prop where
  x : ∀ c b i m, I.x c (ix3 b i m) = x0 (ix3 b i m)
  wq : ∀ c m n, I.wq c (ix2 m n) = x1 (ix2 m n)
  k : ∀ c b j h e, I.k c (ix4 b j h e) = x2 (ix4 b (pos c j) h e)
  v : ∀ c b j h e, I.v c (ix4 b j h e) = x3 (ix4 b (pos c j) h e)
  wo : ∀ c m n, I.wo c (ix2 m n) = x4 (ix2 m n)

variable {I : Inputs Ideal} {x0 : FVec Ideal S2x512x768 .f32} {x1 : FVec Ideal S768x512 .f32}
  {x2 x3 : FVec Ideal S2x8192x8x64 .f32} {x4 : FVec Ideal S512x768 .f32} (hs : Same I x0 x1 x2 x3 x4)

include hs

/-- A device's queries are the reference's. -/
theorem query_eq (c : Dev nD) (b : Fin 2) (i n : Fin 512) :
    Cert.KernelIdealProof.query I c b i n = Cert.ReferenceRead.query x0 x1 b i n :=
  Finset.sum_congr rfl fun m _ => by rw [hs.x, hs.wq]

/-- A device's scores are the reference's at its positions. -/
theorem score_eq (c : Dev nD) (b : Fin 2) (h : Fin 8) (i j : Fin 512) :
    Cert.KernelIdealProof.score I c b h i j = Cert.ReferenceRead.score x0 x1 x2 b h i (pos c j) :=
  congrArg (· * eighth) (Finset.sum_congr rfl fun e _ => by rw [query_eq hs, hs.k])

/-- A device's weights are the reference's at its positions. -/
theorem wt_eq (c : Dev nD) (b : Fin 2) (h : Fin 8) (i j : Fin 512) :
    Cert.KernelIdealProof.wt I c b h i j
      = weight (Keep i.val (pos c j).val) (Cert.ReferenceRead.score x0 x1 x2 b h i (pos c j)) := by
  unfold Cert.KernelIdealProof.wt
  rw [score_eq hs]
  rfl

/-- The sums of the weighted values over the devices. -/
theorem ctx_sum (b : Fin 2) (h : Fin 8) (i : Fin 512) (d : Fin 64) :
    ∑ c : Dev nD, Cert.KernelIdealProof.ctx I c b h i d
      = ∑ J : Fin 8192, weight (Keep i.val J.val) (Cert.ReferenceRead.score x0 x1 x2 b h i J) * x3 (ix4 b J h d) := by
  rw [sum_positions]
  exact Finset.sum_congr rfl fun c _ => Finset.sum_congr rfl fun j _ => by rw [wt_eq hs, hs.v]

/-- The sums of the weights over the devices. -/
theorem den_sum (b : Fin 2) (h : Fin 8) (i : Fin 512) :
    ∑ c : Dev nD, Cert.KernelIdealProof.den I c b h i
      = ∑ J : Fin 8192, weight (Keep i.val J.val) (Cert.ReferenceRead.score x0 x1 x2 b h i J) := by
  rw [sum_positions]
  exact Finset.sum_congr rfl fun c _ => Finset.sum_congr rfl fun j _ => wt_eq hs c b h i j

/-- The kernel's quotient is the reference's. -/
theorem quot_eq (b : Fin 2) (i m : Fin 512) :
    Cert.KernelIdealProof.quot I (512 * b.val + i.val) m.val
      = Ideal.div
          (∑ J : Fin 8192, weight (Keep i.val J.val) (Cert.ReferenceRead.score x0 x1 x2 b (headPart m) i J)
            * x3 (ix4 b J (headPart m) (colPart m)))
          (∑ J : Fin 8192, weight (Keep i.val J.val) (Cert.ReferenceRead.score x0 x1 x2 b (headPart m) i J)) := by
  have hm : m.val = 64 * (headPart m).val + (colPart m).val := by
    show m.val = 64 * (m.val / 64) + m.val % 64
    omega
  rw [← ctx_sum hs, ← den_sum hs]
  unfold Cert.KernelIdealProof.quot Cert.KernelIdealProof.total
  refine congrArg₂ Ideal.div (Finset.sum_congr rfl fun c _ => ?_) (Finset.sum_congr rfl fun c _ => ?_)
  · rw [← Cert.KernelIdealProof.part_ctx I c b (headPart m) i (colPart m), ← hm]
  · exact Cert.KernelIdealProof.part_den I c b (headPart m) i

/-- **The two results.** -/
theorem result_eq (h0 : ∀ b i m, IsReal (x0 (ix3 b i m))) (h1 : ∀ m n, IsReal (x1 (ix2 m n)))
    (h2 : ∀ b J h e, IsReal (x2 (ix4 b J h e))) (c : Dev nD) (b : Fin 2) (i : Fin 512) (j : Fin 768) :
    Cert.KernelIdealProof.outAt I c (ix3 b i j) = Cert.ReferenceIdeal.Read.val_main_v44 (F := Ideal) x0 x1 x2 x3 x4 (ix3 b i j) := by
  rw [Cert.ReferenceRead.result_read x0 x1 x2 x3 x4 h0 h1 h2, Cert.KernelIdealProof.outAt_read]
  exact Finset.sum_congr rfl fun m _ => by rw [quot_eq hs, hs.wo]

end Cert.Agreement

end
-- ==== Proof.Finite.lean ====
/-
# What the precondition says

The precondition holds of a device's inputs when every entry of the activations, the query weights and the keys is
greater than −∞ and less than +∞, hence a real number.
-/
module

public import proofs.«01_k».proof.Proof.RefRead
public import proofs.«01_k».proof.Proof.Gen.Pre_finite_scores_KernelIdeal
public import Idealize.ShloMosaic.Lib.ReduceAll

@[expose] public section

noncomputable section

namespace Cert.Finite

open Cert.Pre_finite_scores_KernelIdeal Cert.Pre_finite_scores_KernelIdeal.Facts
open Idealize.ShloMosaic
open Cert.ReferenceRead (IsReal fill_bot top_bits)

/-- A number between the two infinities is real. -/
theorem real_of_bits {y : EReal} (h : IntOp.andi (FloatOps.cmpf (F := Ideal) (φ := .f32) .ogt y (Ideal.ofBits .f32 0xFF800000#32))
    (FloatOps.cmpf (F := Ideal) (φ := .f32) .olt y (Ideal.ofBits .f32 0x7F800000#32)) = 1#1) : IsReal y := by
  rw [fill_bot, top_bits] at h
  obtain ⟨h1, h2⟩ := IntOp.andi_eq_one.mp h
  rw [Ideal.cmpf_def, Ideal.cmp_ogt] at h1
  rw [Ideal.cmpf_def, Ideal.cmp_olt] at h2
  have g1 : ⊥ < y := by
    by_contra hn
    rw [decide_eq_false hn] at h1
    exact absurd h1 (by decide)
  have g2 : y < ⊤ := by
    by_contra hn
    rw [decide_eq_false hn] at h2
    exact absurd h2 (by decide)
  exact ⟨_, (EReal.coe_toReal g2.ne g1.ne').symm⟩

/-- The precondition, entry by entry. -/
theorem all_real [Cert.Pre_finite_scores_KernelIdeal.Facts] {a0 : FVec Ideal S2x512x768 .f32} {a1 : FVec Ideal S768x512 .f32} {a2 a3 : FVec Ideal S2x512x8x64 .f32}
    {a4 : FVec Ideal S512x768 .f32} (h : fn (F := Ideal) a0 a1 a2 a3 a4 = fun _ => 1#1) :
    (∀ i, IsReal (a0 i)) ∧ (∀ i, IsReal (a1 i)) ∧ ∀ i, IsReal (a2 i) := by
  haveI : Subsingleton S_.Idx := ⟨fun a b => funext fun k => k.elim0⟩
  have h := congrFun h (fun k => k.elim0)
  dsimp only [fn, fn_part1] at h
  obtain ⟨h01, h2⟩ := IntOp.andi_eq_one.mp h
  obtain ⟨h0, h1⟩ := IntOp.andi_eq_one.mp h01
  exact ⟨fun i => real_of_bits (Host.reduce_andi_all _ _ _ _ _ h0 i), fun i => real_of_bits (Host.reduce_andi_all _ _ _ _ _ h1 i),
    fun i => real_of_bits (Host.reduce_andi_all _ _ _ _ _ h2 i)⟩

end Cert.Finite

end
-- ==== Proof.Algebraic.lean ====
/-
# The kernel and the reference agree

On inputs that are the reference's, cut into the devices' blocks, and whose scores are made of real numbers, every
device of the kernel ends with the reference's result.
-/
module

public import proofs.«01_k».proof.Defs
public import proofs.«01_k».proof.Proof.Agreement
public import proofs.«01_k».proof.Proof.Finite
public import proofs.«01_k».proof.Proof.KernelIdealLaunch
public import proofs.«01_k».proof.Proof.Gen.ReferenceIdeal.Run

@[expose] public section

set_option maxRecDepth 16384

noncomputable section

namespace Cert.Proof

open Idealize.ShloMosaic Idealize.ShloMosaic.Pointwise Idealize.SL.Sem
open Cert.KernelIdeal (nD)
open Cert.KernelIdealProof (Inputs)
open Cert.ReferenceIdeal (S2x512x768 S768x512 S2x8192x8x64 S512x768)
open Cert.ReferenceRead (IsReal)
open Cert.Agreement (pos Same)

/-- Block `c` of an array of positions, at an index. -/
theorem block_read (X : S2x8192x8x64.Idx → EReal) (c : Dev nD) (b : Fin 2) (j : Fin 512) (h : Fin 8) (e : Fin 64) (ht) :
    Layout.block (⟨4, ![2, 512, 8, 64]⟩ : Shape) (⟨4, ![2, 8192, 8, 64]⟩ : Shape) 1 16 c X ht (ix4 b j h e) = X (ix4 b (pos c j) h e) := by
  rw [Layout.block_apply]
  refine congrArg X (funext fun a => Fin.ext ?_)
  rw [Layout.Tiles.idx_val]
  match a with
  | 0 => rfl
  | 1 => show c.val * 512 + j.val = 512 * c.val + j.val; omega
  | 2 => rfl
  | 3 => rfl

/-- The results, from equal inputs. -/
theorem result_of_inputs (I : Inputs Ideal) (x0 : FVec Ideal S2x512x768 .f32) (x1 : FVec Ideal S768x512 .f32)
    (x2 x3 : FVec Ideal S2x8192x8x64 .f32) (x4 : FVec Ideal S512x768 .f32)
    (hx : ∀ c, I.x c = x0) (hwq : ∀ c, I.wq c = x1)
    (hk : ∀ c : Dev nD, I.k c = Layout.block ⟨4, ![2, 512, 8, 64]⟩ ⟨4, ![2, 8192, 8, 64]⟩ 1 16 c x2)
    (hv : ∀ c : Dev nD, I.v c = Layout.block ⟨4, ![2, 512, 8, 64]⟩ ⟨4, ![2, 8192, 8, 64]⟩ 1 16 c x3)
    (hwo : ∀ c, I.wo c = x4)
    (rx : ∀ c i, IsReal (I.x c i)) (rwq : ∀ c i, IsReal (I.wq c i)) (rk : ∀ c i, IsReal (I.k c i)) (c : Dev nD) :
    Cert.KernelIdealProof.outAt I c = Cert.ReferenceIdeal.Read.val_main_v44 (F := Ideal) x0 x1 x2 x3 x4 := by
  have hs : Same I x0 x1 x2 x3 x4 :=
    { x := fun c b i m => congrFun (hx c) _
      wq := fun c m n => congrFun (hwq c) _
      k := fun c b j h e => (congrFun (hk c) _).trans (block_read x2 c b j h e _)
      v := fun c b j h e => (congrFun (hv c) _).trans (block_read x3 c b j h e _)
      wo := fun c m n => congrFun (hwo c) _ }
  have h2 : ∀ b J h e, IsReal (x2 (ix4 b J h e)) := fun b J h e => by
    have r := rk (⟨J.val / 512, by show J.val / 512 < 16; omega⟩ : Dev nD) (ix4 b (⟨J.val % 512, by omega⟩ : Fin 512) h e)
    rw [hs.k] at r
    have ej : pos (⟨J.val / 512, by show J.val / 512 < 16; omega⟩ : Dev nD) (⟨J.val % 512, by omega⟩ : Fin 512) = J :=
      Fin.ext (by show 512 * (J.val / 512) + J.val % 512 = J.val; omega)
    rw [ej] at r
    exact r
  have key := Cert.Agreement.result_eq hs (fun b i m => hs.x c b i m ▸ rx c _) (fun m n => hs.wq c m n ▸ rwq c _) h2 c
  generalize Cert.KernelIdealProof.outAt I c = A at key ⊢
  generalize Cert.ReferenceIdeal.Read.val_main_v44 (F := Ideal) x0 x1 x2 x3 x4 = B at key ⊢
  refine funext fun i => ?_
  rw [eq_ix3 i]
  exact key (i 0) (i 1) (i 2)

/-- **The value claim.** -/
theorem algebraic : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := Cert.Pre_finite_scores_KernelIdeal.Gen.facts) := by
  intro m g m' g' hpre hin
  have hfin := fun c : Dev nD => Cert.Finite.all_real (hpre c)
  have hres : ∀ c : Dev nD, Cert.KernelIdealProof.outAt (Cert.KernelIdealProof.inp m) c = Cert.ReferenceIdeal.Value.res_main_v44 m' 0 := fun c =>
    (result_of_inputs (Cert.KernelIdealProof.inp m) _ _ _ _ _ (fun c => (hin c).1) (fun c => (hin c).2.1) (fun c => (hin c).2.2.1)
      (fun c => (hin c).2.2.2.1) (fun c => (hin c).2.2.2.2) (fun c => (hfin c).1) (fun c => (hfin c).2.1) (fun c => (hfin c).2.2) c).trans
      (Cert.ReferenceIdeal.Read.val_main_v44_eq m' 0).symm
  refine ⟨Cert.ReferenceIdeal.Value.res_main_v44 m' 0, ?_, ?_⟩
  · exact (θ_run Cert.KernelIdeal.defs _ _).mono (fun r h c => ⟨(h.1 c).1.trans (hres c), (h.1 c).2⟩)
      (Cert.KernelIdealProof.run_main (F := Ideal) m g)
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores_KernelIdeal
public import proofs.«01_k».proof.Proof.Gen.Pre_finite_scores_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_scores_KernelIdeal.Gen.facts, Cert.Pre_finite_scores_ReferenceIdeal.Gen.facts,
  frame_kernel, frame_kernelIdeal, fun m ρ _ => frame_kernelIdeal m ρ trivial, frame_referenceIdeal,
  fun m ρ _ => frame_referenceIdeal m ρ trivial, trivial, algebraic⟩

end Cert.Proof

end
